-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S524288x2 : Shape := ⟨2, ![524288, 2]⟩
abbrev S524288 : Shape := ⟨1, ![524288]⟩
abbrev S1024x64 : Shape := ⟨2, ![1024, 64]⟩
abbrev S66x256 : Shape := ⟨2, ![66, 256]⟩
abbrev S256 : Shape := ⟨1, ![256]⟩
abbrev S256x256 : Shape := ⟨2, ![256, 256]⟩
abbrev S256x3 : Shape := ⟨2, ![256, 3]⟩
abbrev S3 : Shape := ⟨1, ![3]⟩
abbrev S_ : Shape := ⟨0, ![]⟩

class Facts : Prop where
  bcast_S_S524288 : S_.BroadcastsInDim S524288 (![] : Fin 0 → Fin S524288.rank)
  reducesTo_S524288_S_d0 : S524288.ReducesTo [0] S_
  h_S_ : 0 < S_.numel

variable [Facts]

def fn {F : FTy → Type} [FloatOps F] (main_arg0 : FVec F S524288x2 .f32) (main_arg1 : IVec S524288 32) (main_arg2 : FVec F S1024x64 .f32) (main_arg3 : FVec F S66x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x3 .f32) (main_arg12 : FVec F S3 .f32) : IVec S_ 1 :=
  let main_c : IVec S_ 32 := constantI S_ 32 0#32
  let main_v0 : IVec S524288 32 := broadcastInDim S524288 ![] bcast_S_S524288 main_c
  let main_v1 : IVec S524288 1 := cmpi .sge main_arg1 main_v0
  let main_c_0 : IVec S_ 32 := constantI S_ 32 1024#32
  let main_v2 : IVec S524288 32 := broadcastInDim S524288 ![] bcast_S_S524288 main_c_0
  let main_v3 : IVec S524288 1 := cmpi .slt main_arg1 main_v2
  let main_v4 : IVec S524288 1 := andi main_v1 main_v3
  let main_c_1 : IVec S_ 1 := constantI S_ 1 1#1
  let main_v5 : IVec S_ 1 := (fun x v => Host.reduce IntOp.andi x v reducesTo_S524288_S_d0 h_S_) main_v4 main_c_1
  main_v5
-- ==== Kernel.lean ====
abbrev S524288x2 : Shape := ⟨2, ![524288, 2]⟩
abbrev S524288 : Shape := ⟨1, ![524288]⟩
abbrev S1024x64 : Shape := ⟨2, ![1024, 64]⟩
abbrev S66x256 : Shape := ⟨2, ![66, 256]⟩
abbrev S256 : Shape := ⟨1, ![256]⟩
abbrev S256x256 : Shape := ⟨2, ![256, 256]⟩
abbrev S256x3 : Shape := ⟨2, ![256, 3]⟩
abbrev S3 : Shape := ⟨1, ![3]⟩
abbrev S_ : Shape := ⟨0, ![]⟩
abbrev S1024x128 : Shape := ⟨2, ![1024, 128]⟩
abbrev S2x256 : Shape := ⟨2, ![2, 256]⟩
abbrev S64x256 : Shape := ⟨2, ![64, 256]⟩
abbrev S128x256 : Shape := ⟨2, ![128, 256]⟩
abbrev S1x256 : Shape := ⟨2, ![1, 256]⟩
abbrev S3x1 : Shape := ⟨2, ![3, 1]⟩
abbrev S2x524288 : Shape := ⟨2, ![2, 524288]⟩
abbrev S32768 : Shape := ⟨1, ![32768]⟩
abbrev S32x8x128 : Shape := ⟨3, ![32, 8, 128]⟩
abbrev S32768x128 : Shape := ⟨2, ![32768, 128]⟩
abbrev S8x128 : Shape := ⟨2, ![8, 128]⟩
abbrev S128x128 : Shape := ⟨2, ![128, 128]⟩
abbrev S1x8x128 : Shape := ⟨3, ![1, 8, 128]⟩
abbrev S1x128 : Shape := ⟨2, ![1, 128]⟩
abbrev S128 : Shape := ⟨1, ![128]⟩
abbrev S2x32768 : Shape := ⟨2, ![2, 32768]⟩
abbrev S3x32768 : Shape := ⟨2, ![3, 32768]⟩
abbrev S2x16384 : Shape := ⟨2, ![2, 16384]⟩
abbrev S16384x128 : Shape := ⟨2, ![16384, 128]⟩
abbrev S3x16384 : Shape := ⟨2, ![3, 16384]⟩
abbrev S16384x256 : Shape := ⟨2, ![16384, 256]⟩
abbrev S98304 : Shape := ⟨1, ![98304]⟩
abbrev S32x24x128 : Shape := ⟨3, ![32, 24, 128]⟩
abbrev S98304x128 : Shape := ⟨2, ![98304, 128]⟩
abbrev S24x128 : Shape := ⟨2, ![24, 128]⟩
abbrev S1x24x128 : Shape := ⟨3, ![1, 24, 128]⟩
abbrev S2x98304 : Shape := ⟨2, ![2, 98304]⟩
abbrev S3x98304 : Shape := ⟨2, ![3, 98304]⟩
abbrev S196608 : Shape := ⟨1, ![196608]⟩
abbrev S32x48x128 : Shape := ⟨3, ![32, 48, 128]⟩
abbrev S196608x128 : Shape := ⟨2, ![196608, 128]⟩
abbrev S48x128 : Shape := ⟨2, ![48, 128]⟩
abbrev S1x48x128 : Shape := ⟨3, ![1, 48, 128]⟩
abbrev S2x196608 : Shape := ⟨2, ![2, 196608]⟩
abbrev S3x196608 : Shape := ⟨2, ![3, 196608]⟩
abbrev S3x524288 : Shape := ⟨2, ![3, 524288]⟩
abbrev S524288x3 : Shape := ⟨2, ![524288, 3]⟩

abbrev nBuf : Table → Nat
  | .hbm => 72
  | .local .tc .vmem => 68
  | .local .scVector .vmem => 12
  | _ => 0

abbrev bufTy : (tb : Table) → Fin (nBuf tb) → BufTy
  | .hbm, ⟨0, _⟩ => ⟨S524288x2, .f32⟩
  | .hbm, ⟨1, _⟩ => ⟨S524288, .i32⟩
  | .hbm, ⟨2, _⟩ => ⟨S1024x64, .f32⟩
  | .hbm, ⟨3, _⟩ => ⟨S66x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x3, .f32⟩
  | .hbm, ⟨12, _⟩ => ⟨S3, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S2x256, .f32⟩
  | .hbm, ⟨17, _⟩ => ⟨S2x256, .bf16⟩
  | .hbm, ⟨18, _⟩ => ⟨S64x256, .f32⟩
  | .hbm, ⟨19, _⟩ => ⟨S_, .i32⟩
  | .hbm, ⟨20, _⟩ => ⟨S_, .f32⟩
  | .hbm, ⟨21, _⟩ => ⟨S128x256, .f32⟩
  | .hbm, ⟨22, _⟩ => ⟨S128x256, .bf16⟩
  | .hbm, ⟨23, _⟩ => ⟨S1x256, .f32⟩
  | .hbm, ⟨24, _⟩ => ⟨S1x256, .bf16⟩
  | .hbm, ⟨25, _⟩ => ⟨S256x256, .bf16⟩
  | .hbm, ⟨26, _⟩ => ⟨S1x256, .f32⟩
  | .hbm, ⟨27, _⟩ => ⟨S1x256, .bf16⟩
  | .hbm, ⟨28, _⟩ => ⟨S256x256, .bf16⟩
  | .hbm, ⟨29, _⟩ => ⟨S1x256, .f32⟩
  | .hbm, ⟨30, _⟩ => ⟨S1x256, .bf16⟩
  | .hbm, ⟨31, _⟩ => ⟨S256x256, .bf16⟩
  | .hbm, ⟨32, _⟩ => ⟨S1x256, .f32⟩
  | .hbm, ⟨33, _⟩ => ⟨S1x256, .bf16⟩
  | .hbm, ⟨34, _⟩ => ⟨S256x3, .bf16⟩
  | .hbm, ⟨35, _⟩ => ⟨S3x1, .f32⟩
  | .hbm, ⟨36, _⟩ => ⟨S2x524288, .f32⟩
  | .hbm, ⟨37, _⟩ => ⟨S32768, .i32⟩
  | .hbm, ⟨38, _⟩ => ⟨S32x8x128, .i32⟩
  | .hbm, ⟨39, _⟩ => ⟨S32768x128, .f32⟩
  | .hbm, ⟨40, _⟩ => ⟨S2x32768, .f32⟩
  | .hbm, ⟨41, _⟩ => ⟨S3x32768, .f32⟩
  | .hbm, ⟨42, _⟩ => ⟨S98304, .i32⟩
  | .hbm, ⟨43, _⟩ => ⟨S32x24x128, .i32⟩
  | .hbm, ⟨44, _⟩ => ⟨S98304x128, .f32⟩
  | .hbm, ⟨45, _⟩ => ⟨S2x98304, .f32⟩
  | .hbm, ⟨46, _⟩ => ⟨S3x98304, .f32⟩
  | .hbm, ⟨47, _⟩ => ⟨S196608, .i32⟩
  | .hbm, ⟨48, _⟩ => ⟨S32x48x128, .i32⟩
  | .hbm, ⟨49, _⟩ => ⟨S196608x128, .f32⟩
  | .hbm, ⟨50, _⟩ => ⟨S2x196608, .f32⟩
  | .hbm, ⟨51, _⟩ => ⟨S3x196608, .f32⟩
  | .hbm, ⟨52, _⟩ => ⟨S196608, .i32⟩
  | .hbm, ⟨53, _⟩ => ⟨S32x48x128, .i32⟩
  | .hbm, ⟨54, _⟩ => ⟨S196608x128, .f32⟩
  | .hbm, ⟨55, _⟩ => ⟨S2x196608, .f32⟩
  | .hbm, ⟨56, _⟩ => ⟨S3x196608, .f32⟩
  | .hbm, ⟨57, _⟩ => ⟨S_, .f32⟩
  | .hbm, ⟨58, _⟩ => ⟨S3x524288, .f32⟩
  | .hbm, ⟨59, _⟩ => ⟨S_, .i32⟩
  | .hbm, ⟨60, _⟩ => ⟨S_, .i32⟩
  | .hbm, ⟨61, _⟩ => ⟨S3x524288, .f32⟩
  | .hbm, ⟨62, _⟩ => ⟨S_, .i32⟩
  | .hbm, ⟨63, _⟩ => ⟨S_, .i32⟩
  | .hbm, ⟨64, _⟩ => ⟨S3x524288, .f32⟩
  | .hbm, ⟨65, _⟩ => ⟨S_, .i32⟩
  | .hbm, ⟨66, _⟩ => ⟨S_, .i32⟩
  | .hbm, ⟨67, _⟩ => ⟨S3x524288, .f32⟩
  | .hbm, ⟨68, _⟩ => ⟨S_, .i32⟩
  | .hbm, ⟨69, _⟩ => ⟨S_, .i32⟩
  | .hbm, ⟨70, _⟩ => ⟨S3x524288, .f32⟩
  | .hbm, ⟨71, _⟩ => ⟨S524288x3, .f32⟩
  | .local .tc .vmem, ⟨0, _⟩ => ⟨S2x16384, .f32⟩
  | .local .tc .vmem, ⟨1, _⟩ => ⟨S2x16384, .f32⟩
  | .local .tc .vmem, ⟨2, _⟩ => ⟨S16384x128, .f32⟩
  | .local .tc .vmem, ⟨3, _⟩ => ⟨S16384x128, .f32⟩
  | .local .tc .vmem, ⟨4, _⟩ => ⟨S2x256, .bf16⟩
  | .local .tc .vmem, ⟨5, _⟩ => ⟨S128x256, .bf16⟩
  | .local .tc .vmem, ⟨6, _⟩ => ⟨S1x256, .bf16⟩
  | .local .tc .vmem, ⟨7, _⟩ => ⟨S256x256, .bf16⟩
  | .local .tc .vmem, ⟨8, _⟩ => ⟨S1x256, .bf16⟩
  | .local .tc .vmem, ⟨9, _⟩ => ⟨S256x256, .bf16⟩
  | .local .tc .vmem, ⟨10, _⟩ => ⟨S1x256, .bf16⟩
  | .local .tc .vmem, ⟨11, _⟩ => ⟨S256x256, .bf16⟩
  | .local .tc .vmem, ⟨12, _⟩ => ⟨S1x256, .bf16⟩
  | .local .tc .vmem, ⟨13, _⟩ => ⟨S256x3, .bf16⟩
  | .local .tc .vmem, ⟨14, _⟩ => ⟨S3x1, .f32⟩
  | .local .tc .vmem, ⟨15, _⟩ => ⟨S3x16384, .f32⟩
  | .local .tc .vmem, ⟨16, _⟩ => ⟨S3x16384, .f32⟩
  | .local .tc .vmem, ⟨17, _⟩ => ⟨S2x16384, .f32⟩
  | .local .tc .vmem, ⟨18, _⟩ => ⟨S2x16384, .f32⟩
  | .local .tc .vmem, ⟨19, _⟩ => ⟨S16384x128, .f32⟩
  | .local .tc .vmem, ⟨20, _⟩ => ⟨S16384x128, .f32⟩
  | .local .tc .vmem, ⟨21, _⟩ => ⟨S2x256, .bf16⟩
  | .local .tc .vmem, ⟨22, _⟩ => ⟨S128x256, .bf16⟩
  | .local .tc .vmem, ⟨23, _⟩ => ⟨S1x256, .bf16⟩
  | .local .tc .vmem, ⟨24, _⟩ => ⟨S256x256, .bf16⟩
  | .local .tc .vmem, ⟨25, _⟩ => ⟨S1x256, .bf16⟩
  | .local .tc .vmem, ⟨26, _⟩ => ⟨S256x256, .bf16⟩
  | .local .tc .vmem, ⟨27, _⟩ => ⟨S1x256, .bf16⟩
  | .local .tc .vmem, ⟨28, _⟩ => ⟨S256x256, .bf16⟩
  | .local .tc .vmem, ⟨29, _⟩ => ⟨S1x256, .bf16⟩
  | .local .tc .vmem, ⟨30, _⟩ => ⟨S256x3, .bf16⟩
  | .local .tc .vmem, ⟨31, _⟩ => ⟨S3x1, .f32⟩
  | .local .tc .vmem, ⟨32, _⟩ => ⟨S3x16384, .f32⟩
  | .local .tc .vmem, ⟨33, _⟩ => ⟨S3x16384, .f32⟩
  | .local .tc .vmem, ⟨34, _⟩ => ⟨S2x16384, .f32⟩
  | .local .tc .vmem, ⟨35, _⟩ => ⟨S2x16384, .f32⟩
  | .local .tc .vmem, ⟨36, _⟩ => ⟨S16384x128, .f32⟩
  | .local .tc .vmem, ⟨37, _⟩ => ⟨S16384x128, .f32⟩
  | .local .tc .vmem, ⟨38, _⟩ => ⟨S2x256, .bf16⟩
  | .local .tc .vmem, ⟨39, _⟩ => ⟨S128x256, .bf16⟩
  | .local .tc .vmem, ⟨40, _⟩ => ⟨S1x256, .bf16⟩
  | .local .tc .vmem, ⟨41, _⟩ => ⟨S256x256, .bf16⟩
  | .local .tc .vmem, ⟨42, _⟩ => ⟨S1x256, .bf16⟩
  | .local .tc .vmem, ⟨43, _⟩ => ⟨S256x256, .bf16⟩
  | .local .tc .vmem, ⟨44, _⟩ => ⟨S1x256, .bf16⟩
  | .local .tc .vmem, ⟨45, _⟩ => ⟨S256x256, .bf16⟩
  | .local .tc .vmem, ⟨46, _⟩ => ⟨S1x256, .bf16⟩
  | .local .tc .vmem, ⟨47, _⟩ => ⟨S256x3, .bf16⟩
  | .local .tc .vmem, ⟨48, _⟩ => ⟨S3x1, .f32⟩
  | .local .tc .vmem, ⟨49, _⟩ => ⟨S3x16384, .f32⟩
  | .local .tc .vmem, ⟨50, _⟩ => ⟨S3x16384, .f32⟩
  | .local .tc .vmem, ⟨51, _⟩ => ⟨S2x16384, .f32⟩
  | .local .tc .vmem, ⟨52, _⟩ => ⟨S2x16384, .f32⟩
  | .local .tc .vmem, ⟨53, _⟩ => ⟨S16384x128, .f32⟩
  | .local .tc .vmem, ⟨54, _⟩ => ⟨S16384x128, .f32⟩
  | .local .tc .vmem, ⟨55, _⟩ => ⟨S2x256, .bf16⟩
  | .local .tc .vmem, ⟨56, _⟩ => ⟨S128x256, .bf16⟩
  | .local .tc .vmem, ⟨57, _⟩ => ⟨S1x256, .bf16⟩
  | .local .tc .vmem, ⟨58, _⟩ => ⟨S256x256, .bf16⟩
  | .local .tc .vmem, ⟨59, _⟩ => ⟨S1x256, .bf16⟩
  | .local .tc .vmem, ⟨60, _⟩ => ⟨S256x256, .bf16⟩
  | .local .tc .vmem, ⟨61, _⟩ => ⟨S1x256, .bf16⟩
  | .local .tc .vmem, ⟨62, _⟩ => ⟨S256x256, .bf16⟩
  | .local .tc .vmem, ⟨63, _⟩ => ⟨S1x256, .bf16⟩
  | .local .tc .vmem, ⟨64, _⟩ => ⟨S256x3, .bf16⟩
  | .local .tc .vmem, ⟨65, _⟩ => ⟨S3x1, .f32⟩
  | .local .tc .vmem, ⟨66, _⟩ => ⟨S3x16384, .f32⟩
  | .local .tc .vmem, ⟨67, _⟩ => ⟨S3x16384, .f32⟩
  | .local .scVector .vmem, ⟨0, _⟩ => ⟨S8x128, .i32⟩
  | .local .scVector .vmem, ⟨1, _⟩ => ⟨S128x128, .f32⟩
  | .local .scVector .vmem, ⟨2, _⟩ => ⟨S128x128, .f32⟩
  | .local .scVector .vmem, ⟨3, _⟩ => ⟨S24x128, .i32⟩
  | .local .scVector .vmem, ⟨4, _⟩ => ⟨S128x128, .f32⟩
  | .local .scVector .vmem, ⟨5, _⟩ => ⟨S128x128, .f32⟩
  | .local .scVector .vmem, ⟨6, _⟩ => ⟨S48x128, .i32⟩
  | .local .scVector .vmem, ⟨7, _⟩ => ⟨S128x128, .f32⟩
  | .local .scVector .vmem, ⟨8, _⟩ => ⟨S128x128, .f32⟩
  | .local .scVector .vmem, ⟨9, _⟩ => ⟨S48x128, .i32⟩
  | .local .scVector .vmem, ⟨10, _⟩ => ⟨S128x128, .f32⟩
  | .local .scVector .vmem, ⟨11, _⟩ => ⟨S128x128, .f32⟩
  | _, _ => ⟨S524288x2, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 88 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => false
  | ⟨23, _⟩ => false
  | ⟨24, _⟩ => false
  | ⟨25, _⟩ => false
  | ⟨26, _⟩ => false
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => false
  | ⟨45, _⟩ => false
  | ⟨46, _⟩ => false
  | ⟨47, _⟩ => false
  | ⟨48, _⟩ => false
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => false
  | ⟨67, _⟩ => false
  | ⟨68, _⟩ => false
  | ⟨69, _⟩ => false
  | ⟨70, _⟩ => false
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTables nBuf rfl bufTy 4 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_call1_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst : Ref sig .tc := ⟨.hbm, 57, rfl⟩
abbrev main_v40 : Ref sig .tc := ⟨.hbm, 58, rfl⟩
abbrev main_c_1 : Ref sig .tc := ⟨.hbm, 59, rfl⟩
abbrev main_c_2 : Ref sig .tc := ⟨.hbm, 60, rfl⟩
abbrev main_v41 : Ref sig .tc := ⟨.hbm, 61, rfl⟩
abbrev main_c_3 : Ref sig .tc := ⟨.hbm, 62, rfl⟩
abbrev main_c_4 : Ref sig .tc := ⟨.hbm, 63, rfl⟩
abbrev main_v42 : Ref sig .tc := ⟨.hbm, 64, rfl⟩
abbrev main_c_5 : Ref sig .tc := ⟨.hbm, 65, rfl⟩
abbrev main_c_6 : Ref sig .tc := ⟨.hbm, 66, rfl⟩
abbrev main_v43 : Ref sig .tc := ⟨.hbm, 67, rfl⟩
abbrev main_c_7 : Ref sig .tc := ⟨.hbm, 68, rfl⟩
abbrev main_c_8 : Ref sig .tc := ⟨.hbm, 69, rfl⟩
abbrev main_v44 : Ref sig .tc := ⟨.hbm, 70, rfl⟩
abbrev main_v45 : Ref sig .tc := ⟨.hbm, 71, rfl⟩
abbrev main_v0_scv : Ref sig .scVector := ⟨.hbm, 15, rfl⟩
abbrev main_v21_scv : Ref sig .scVector := ⟨.hbm, 38, rfl⟩
abbrev main_v22_scv : Ref sig .scVector := ⟨.hbm, 39, rfl⟩
abbrev main_v26_scv : Ref sig .scVector := ⟨.hbm, 43, rfl⟩
abbrev main_v27_scv : Ref sig .scVector := ⟨.hbm, 44, rfl⟩
abbrev main_v31_scv : Ref sig .scVector := ⟨.hbm, 48, rfl⟩
abbrev main_v32_scv : Ref sig .scVector := ⟨.hbm, 49, rfl⟩
abbrev main_v36_scv : Ref sig .scVector := ⟨.hbm, 53, rfl⟩
abbrev main_v37_scv : Ref sig .scVector := ⟨.hbm, 54, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg11_0 : Ref sig .tc := ⟨.vmem, 13, rfl⟩
abbrev cc1_stg12_0 : Ref sig .tc := ⟨.vmem, 14, rfl⟩
abbrev cc1_stg13_0 : Ref sig .tc := ⟨.vmem, 15, rfl⟩
abbrev cc1_stg13_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg6_0 : Ref sig .tc := ⟨.vmem, 25, rfl⟩
abbrev cc3_stg7_0 : Ref sig .tc := ⟨.vmem, 26, rfl⟩
abbrev cc3_stg8_0 : Ref sig .tc := ⟨.vmem, 27, rfl⟩
abbrev cc3_stg9_0 : Ref sig .tc := ⟨.vmem, 28, rfl⟩
abbrev cc3_stg10_0 : Ref sig .tc := ⟨.vmem, 29, rfl⟩
abbrev cc3_stg11_0 : Ref sig .tc := ⟨.vmem, 30, rfl⟩
abbrev cc3_stg12_0 : Ref sig .tc := ⟨.vmem, 31, rfl⟩
abbrev cc3_stg13_0 : Ref sig .tc := ⟨.vmem, 32, rfl⟩
abbrev cc3_stg13_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg7_0 : Ref sig .tc := ⟨.vmem, 43, rfl⟩
abbrev cc5_stg8_0 : Ref sig .tc := ⟨.vmem, 44, rfl⟩
abbrev cc5_stg9_0 : Ref sig .tc := ⟨.vmem, 45, rfl⟩
abbrev cc5_stg10_0 : Ref sig .tc := ⟨.vmem, 46, rfl⟩
abbrev cc5_stg11_0 : Ref sig .tc := ⟨.vmem, 47, rfl⟩
abbrev cc5_stg12_0 : Ref sig .tc := ⟨.vmem, 48, rfl⟩
abbrev cc5_stg13_0 : Ref sig .tc := ⟨.vmem, 49, rfl⟩
abbrev cc5_stg13_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg1_1 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg4_0 : Ref sig .tc := ⟨.vmem, 57, rfl⟩
abbrev cc7_stg5_0 : Ref sig .tc := ⟨.vmem, 58, rfl⟩
abbrev cc7_stg6_0 : Ref sig .tc := ⟨.vmem, 59, rfl⟩
abbrev cc7_stg7_0 : Ref sig .tc := ⟨.vmem, 60, rfl⟩
abbrev cc7_stg8_0 : Ref sig .tc := ⟨.vmem, 61, rfl⟩
abbrev cc7_stg9_0 : Ref sig .tc := ⟨.vmem, 62, rfl⟩
abbrev cc7_stg10_0 : Ref sig .tc := ⟨.vmem, 63, rfl⟩
abbrev cc7_stg11_0 : Ref sig .tc := ⟨.vmem, 64, rfl⟩
abbrev cc7_stg12_0 : Ref sig .tc := ⟨.vmem, 65, rfl⟩
abbrev cc7_stg13_0 : Ref sig .tc := ⟨.vmem, 66, rfl⟩
abbrev cc7_stg13_1 : Ref sig .tc := ⟨.vmem, 67, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc4_scratch0 : Ref sig .scVector := ⟨.vmem, 6, rfl⟩
abbrev cc4_scratch1 : Ref sig .scVector := ⟨.vmem, 7, rfl⟩
abbrev cc4_scratch2 : Ref sig .scVector := ⟨.vmem, 8, rfl⟩
abbrev cc6_scratch0 : Ref sig .scVector := ⟨.vmem, 9, rfl⟩
abbrev cc6_scratch1 : Ref sig .scVector := ⟨.vmem, 10, rfl⟩
abbrev cc6_scratch2 : Ref sig .scVector := ⟨.vmem, 11, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem13_1 : DmaSem sig := 21
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem9_0 : DmaSem sig := 38
abbrev cc3_sem10_0 : DmaSem sig := 39
abbrev cc3_sem11_0 : DmaSem sig := 40
abbrev cc3_sem12_0 : DmaSem sig := 41
abbrev cc3_sem13_0 : DmaSem sig := 42
abbrev cc3_sem13_1 : DmaSem sig := 43
abbrev cc5_sem0_0 : DmaSem sig := 49
abbrev cc5_sem0_1 : DmaSem sig := 50
abbrev cc5_sem1_0 : DmaSem sig := 51
abbrev cc5_sem1_1 : DmaSem sig := 52
abbrev cc5_sem2_0 : DmaSem sig := 53
abbrev cc5_sem3_0 : DmaSem sig := 54
abbrev cc5_sem4_0 : DmaSem sig := 55
abbrev cc5_sem5_0 : DmaSem sig := 56
abbrev cc5_sem6_0 : DmaSem sig := 57
abbrev cc5_sem7_0 : DmaSem sig := 58
abbrev cc5_sem8_0 : DmaSem sig := 59
abbrev cc5_sem9_0 : DmaSem sig := 60
abbrev cc5_sem10_0 : DmaSem sig := 61
abbrev cc5_sem11_0 : DmaSem sig := 62
abbrev cc5_sem12_0 : DmaSem sig := 63
abbrev cc5_sem13_0 : DmaSem sig := 64
abbrev cc5_sem13_1 : DmaSem sig := 65
abbrev cc7_sem0_0 : DmaSem sig := 71
abbrev cc7_sem0_1 : DmaSem sig := 72
abbrev cc7_sem1_0 : DmaSem sig := 73
abbrev cc7_sem1_1 : DmaSem sig := 74
abbrev cc7_sem2_0 : DmaSem sig := 75
abbrev cc7_sem3_0 : DmaSem sig := 76
abbrev cc7_sem4_0 : DmaSem sig := 77
abbrev cc7_sem5_0 : DmaSem sig := 78
abbrev cc7_sem6_0 : DmaSem sig := 79
abbrev cc7_sem7_0 : DmaSem sig := 80
abbrev cc7_sem8_0 : DmaSem sig := 81
abbrev cc7_sem9_0 : DmaSem sig := 82
abbrev cc7_sem10_0 : DmaSem sig := 83
abbrev cc7_sem11_0 : DmaSem sig := 84
abbrev cc7_sem12_0 : DmaSem sig := 85
abbrev cc7_sem13_0 : DmaSem sig := 86
abbrev cc7_sem13_1 : DmaSem sig := 87
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10_r0 : BitVec 32 := 0#32
  let c0_i32_11_r0 : BitVec 32 := 0#32
  ![v1.toNat, 0, 0]
@[reducible] def k0_t1_loop : Scf.Loop 32 :=
  let c0_i32_7 : BitVec 32 := 0#32
  let c4_i32 : BitVec 32 := 4#32
  let v9 : BitVec 32 := Scalar.addi c0_i32_7 c4_i32
  let c1_i32_8 : BitVec 32 := 1#32
  ⟨c0_i32_7, v9, c1_i32_8⟩
def k0_off2 (k0_t1 : Fin k0_t1_loop.trips) (c0_i32_11 : BitVec 32) : Fin 2 → Nat :=
  let c0_i32_7 : BitVec 32 := 0#32
  let c1_i32_8 : BitVec 32 := 1#32
  let arg10 : BitVec 32 := Scf.iv c0_i32_7 c1_i32_8 k0_t1
  let c2_i32_10 : BitVec 32 := 2#32
  let v10 : BitVec 32 := Scalar.muli arg10 c2_i32_10
  let v11 : BitVec 32 := Scalar.addi v10 c0_i32_11
  let c0_i32_12 : BitVec 32 := 0#32
  ![v11.toNat, 0]
def k0_off3 (i : grid0.Coords) (k0_t1 : Fin k0_t1_loop.trips) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_7 : BitVec 32 := 0#32
  let c1_i32_8 : BitVec 32 := 1#32
  let arg10 : BitVec 32 := Scf.iv c0_i32_7 c1_i32_8 k0_t1
  let c2_i32_10 : BitVec 32 := 2#32
  let v10 : BitVec 32 := Scalar.muli arg10 c2_i32_10
  let v11 : BitVec 32 := Scalar.addi v10 c0_i32_11
  let c128_i32 : BitVec 32 := 128#32
  let v15 : BitVec 32 := Scalar.muli v11 c128_i32
  let v16 : BitVec 32 := Scalar.addi v2 v15
  let c0_i32_25_r1 : BitVec 32 := 0#32
  ![v16.toNat, 0]
def k0_cond1 (k0_t1 : Fin k0_t1_loop.trips) : BitVec 1 :=
  let c0_i32_7 : BitVec 32 := 0#32
  let c1_i32_8 : BitVec 32 := 1#32
  let arg10 : BitVec 32 := Scf.iv c0_i32_7 c1_i32_8 k0_t1
  let c2_i32_10 : BitVec 32 := 2#32
  let v10 : BitVec 32 := Scalar.muli arg10 c2_i32_10
  let c0_i32_11 : BitVec 32 := 0#32
  let v11 : BitVec 32 := Scalar.addi v10 c0_i32_11
  let c2_i32_15 : BitVec 32 := 2#32
  let v17 : BitVec 32 := Scalar.addi v11 c2_i32_15
  let c8_i32 : BitVec 32 := 8#32
  let v18 : BitVec 1 := Scalar.cmpi .slt v17 c8_i32
  let v19 : BitVec 32 := Scalar.extui v18
  let c0_i32_16 : BitVec 32 := 0#32
  let v20 : BitVec 1 := Scalar.cmpi .ne v19 c0_i32_16
  v20

def k0_off4 (k0_t1 : Fin k0_t1_loop.trips) : Fin 2 → Nat :=
  let c0_i32_7 : BitVec 32 := 0#32
  let c1_i32_8 : BitVec 32 := 1#32
  let arg10 : BitVec 32 := Scf.iv c0_i32_7 c1_i32_8 k0_t1
  let c2_i32_10 : BitVec 32 := 2#32
  let v10 : BitVec 32 := Scalar.muli arg10 c2_i32_10
  let c0_i32_11 : BitVec 32 := 0#32
  let v11 : BitVec 32 := Scalar.addi v10 c0_i32_11
  let c2_i32_25 : BitVec 32 := 2#32
  let v31 : BitVec 32 := Scalar.addi v11 c2_i32_25
  let c0_i32_26 : BitVec 32 := 0#32
  ![v31.toNat, 0]
def k0_cond2 (k0_t1 : Fin k0_t1_loop.trips) : BitVec 1 :=
  let c0_i32_7 : BitVec 32 := 0#32
  let c1_i32_8 : BitVec 32 := 1#32
  let arg10 : BitVec 32 := Scf.iv c0_i32_7 c1_i32_8 k0_t1
  let c2_i32_10 : BitVec 32 := 2#32
  let v10 : BitVec 32 := Scalar.muli arg10 c2_i32_10
  let c1_i32_17 : BitVec 32 := 1#32
  let v21 : BitVec 32 := Scalar.addi v10 c1_i32_17
  let c2_i32_22 : BitVec 32 := 2#32
  let v27 : BitVec 32 := Scalar.addi v21 c2_i32_22
  let c8_i32_23 : BitVec 32 := 8#32
  let v28 : BitVec 1 := Scalar.cmpi .slt v27 c8_i32_23
  let v29 : BitVec 32 := Scalar.extui v28
  let c0_i32_24 : BitVec 32 := 0#32
  let v30 : BitVec 1 := Scalar.cmpi .ne v29 c0_i32_24
  v30

def k0_off5 (k0_t1 : Fin k0_t1_loop.trips) : Fin 2 → Nat :=
  let c0_i32_7 : BitVec 32 := 0#32
  let c1_i32_8 : BitVec 32 := 1#32
  let arg10 : BitVec 32 := Scf.iv c0_i32_7 c1_i32_8 k0_t1
  let c2_i32_10 : BitVec 32 := 2#32
  let v10 : BitVec 32 := Scalar.muli arg10 c2_i32_10
  let c1_i32_17 : BitVec 32 := 1#32
  let v21 : BitVec 32 := Scalar.addi v10 c1_i32_17
  let c2_i32_25 : BitVec 32 := 2#32
  let v31 : BitVec 32 := Scalar.addi v21 c2_i32_25
  let c0_i32_26 : BitVec 32 := 0#32
  ![v31.toNat, 0]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16384x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x256 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x3 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S3x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S3x16384 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10_r0 : BitVec 32 := 0#32
  let c0_i32_11_r0 : BitVec 32 := 0#32
  ![v1.toNat, 0, 0]
@[reducible] def k2_t1_loop : Scf.Loop 32 :=
  let c0_i32_7 : BitVec 32 := 0#32
  let c12_i32 : BitVec 32 := 12#32
  let v9 : BitVec 32 := Scalar.addi c0_i32_7 c12_i32
  let c1_i32_8 : BitVec 32 := 1#32
  ⟨c0_i32_7, v9, c1_i32_8⟩
def k2_off2 (k2_t1 : Fin k2_t1_loop.trips) (c0_i32_11 : BitVec 32) : Fin 2 → Nat :=
  let c0_i32_7 : BitVec 32 := 0#32
  let c1_i32_8 : BitVec 32 := 1#32
  let arg10 : BitVec 32 := Scf.iv c0_i32_7 c1_i32_8 k2_t1
  let c2_i32_10 : BitVec 32 := 2#32
  let v10 : BitVec 32 := Scalar.muli arg10 c2_i32_10
  let v11 : BitVec 32 := Scalar.addi v10 c0_i32_11
  let c0_i32_12 : BitVec 32 := 0#32
  ![v11.toNat, 0]
def k2_off3 (i : grid2.Coords) (k2_t1 : Fin k2_t1_loop.trips) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v2 : BitVec 32 := Scalar.muli v1 c3072_i32
  let c0_i32_7 : BitVec 32 := 0#32
  let c1_i32_8 : BitVec 32 := 1#32
  let arg10 : BitVec 32 := Scf.iv c0_i32_7 c1_i32_8 k2_t1
  let c2_i32_10 : BitVec 32 := 2#32
  let v10 : BitVec 32 := Scalar.muli arg10 c2_i32_10
  let v11 : BitVec 32 := Scalar.addi v10 c0_i32_11
  let c128_i32 : BitVec 32 := 128#32
  let v15 : BitVec 32 := Scalar.muli v11 c128_i32
  let v16 : BitVec 32 := Scalar.addi v2 v15
  let c0_i32_25_r1 : BitVec 32 := 0#32
  ![v16.toNat, 0]
def k2_cond1 (k2_t1 : Fin k2_t1_loop.trips) : BitVec 1 :=
  let c0_i32_7 : BitVec 32 := 0#32
  let c1_i32_8 : BitVec 32 := 1#32
  let arg10 : BitVec 32 := Scf.iv c0_i32_7 c1_i32_8 k2_t1
  let c2_i32_10 : BitVec 32 := 2#32
  let v10 : BitVec 32 := Scalar.muli arg10 c2_i32_10
  let c0_i32_11 : BitVec 32 := 0#32
  let v11 : BitVec 32 := Scalar.addi v10 c0_i32_11
  let c2_i32_15 : BitVec 32 := 2#32
  let v17 : BitVec 32 := Scalar.addi v11 c2_i32_15
  let c24_i32 : BitVec 32 := 24#32
  let v18 : BitVec 1 := Scalar.cmpi .slt v17 c24_i32
  let v19 : BitVec 32 := Scalar.extui v18
  let c0_i32_16 : BitVec 32 := 0#32
  let v20 : BitVec 1 := Scalar.cmpi .ne v19 c0_i32_16
  v20

def k2_off4 (k2_t1 : Fin k2_t1_loop.trips) : Fin 2 → Nat :=
  let c0_i32_7 : BitVec 32 := 0#32
  let c1_i32_8 : BitVec 32 := 1#32
  let arg10 : BitVec 32 := Scf.iv c0_i32_7 c1_i32_8 k2_t1
  let c2_i32_10 : BitVec 32 := 2#32
  let v10 : BitVec 32 := Scalar.muli arg10 c2_i32_10
  let c0_i32_11 : BitVec 32 := 0#32
  let v11 : BitVec 32 := Scalar.addi v10 c0_i32_11
  let c2_i32_25 : BitVec 32 := 2#32
  let v31 : BitVec 32 := Scalar.addi v11 c2_i32_25
  let c0_i32_26 : BitVec 32 := 0#32
  ![v31.toNat, 0]
def k2_cond2 (k2_t1 : Fin k2_t1_loop.trips) : BitVec 1 :=
  let c0_i32_7 : BitVec 32 := 0#32
  let c1_i32_8 : BitVec 32 := 1#32
  let arg10 : BitVec 32 := Scf.iv c0_i32_7 c1_i32_8 k2_t1
  let c2_i32_10 : BitVec 32 := 2#32
  let v10 : BitVec 32 := Scalar.muli arg10 c2_i32_10
  let c1_i32_17 : BitVec 32 := 1#32
  let v21 : BitVec 32 := Scalar.addi v10 c1_i32_17
  let c2_i32_22 : BitVec 32 := 2#32
  let v27 : BitVec 32 := Scalar.addi v21 c2_i32_22
  let c24_i32_23 : BitVec 32 := 24#32
  let v28 : BitVec 1 := Scalar.cmpi .slt v27 c24_i32_23
  let v29 : BitVec 32 := Scalar.extui v28
  let c0_i32_24 : BitVec 32 := 0#32
  let v30 : BitVec 1 := Scalar.cmpi .ne v29 c0_i32_24
  v30

def k2_off5 (k2_t1 : Fin k2_t1_loop.trips) : Fin 2 → Nat :=
  let c0_i32_7 : BitVec 32 := 0#32
  let c1_i32_8 : BitVec 32 := 1#32
  let arg10 : BitVec 32 := Scf.iv c0_i32_7 c1_i32_8 k2_t1
  let c2_i32_10 : BitVec 32 := 2#32
  let v10 : BitVec 32 := Scalar.muli arg10 c2_i32_10
  let c1_i32_17 : BitVec 32 := 1#32
  let v21 : BitVec 32 := Scalar.addi v10 c1_i32_17
  let c2_i32_25 : BitVec 32 := 2#32
  let v31 : BitVec 32 := Scalar.addi v21 c2_i32_25
  let c0_i32_26 : BitVec 32 := 0#32
  ![v31.toNat, 0]
abbrev grid3 : Pipeline.Grid := ⟨1, ![6], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S2x16384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S16384x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S2x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x256 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x256 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S256x256 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x256 .bf16 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S256x3 .bf16 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S3x1 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S3x16384 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev grid4 : Pipeline.Grid := ⟨2, ![2, 16], ![false, false]⟩

def k4_off1 (i : grid4.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10_r0 : BitVec 32 := 0#32
  let c0_i32_11_r0 : BitVec 32 := 0#32
  ![v1.toNat, 0, 0]
@[reducible] def k4_t1_loop : Scf.Loop 32 :=
  let c0_i32_7 : BitVec 32 := 0#32
  let c24_i32 : BitVec 32 := 24#32
  let v9 : BitVec 32 := Scalar.addi c0_i32_7 c24_i32
  let c1_i32_8 : BitVec 32 := 1#32
  ⟨c0_i32_7, v9, c1_i32_8⟩
def k4_off2 (k4_t1 : Fin k4_t1_loop.trips) (c0_i32_11 : BitVec 32) : Fin 2 → Nat :=
  let c0_i32_7 : BitVec 32 := 0#32
  let c1_i32_8 : BitVec 32 := 1#32
  let arg10 : BitVec 32 := Scf.iv c0_i32_7 c1_i32_8 k4_t1
  let c2_i32_10 : BitVec 32 := 2#32
  let v10 : BitVec 32 := Scalar.muli arg10 c2_i32_10
  let v11 : BitVec 32 := Scalar.addi v10 c0_i32_11
  let c0_i32_12 : BitVec 32 := 0#32
  ![v11.toNat, 0]
def k4_off3 (i : grid4.Coords) (k4_t1 : Fin k4_t1_loop.trips) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v2 : BitVec 32 := Scalar.muli v1 c6144_i32
  let c0_i32_7 : BitVec 32 := 0#32
  let c1_i32_8 : BitVec 32 := 1#32
  let arg10 : BitVec 32 := Scf.iv c0_i32_7 c1_i32_8 k4_t1
  let c2_i32_10 : BitVec 32 := 2#32
  let v10 : BitVec 32 := Scalar.muli arg10 c2_i32_10
  let v11 : BitVec 32 := Scalar.addi v10 c0_i32_11
  let c128_i32 : BitVec 32 := 128#32
  let v15 : BitVec 32 := Scalar.muli v11 c128_i32
  let v16 : BitVec 32 := Scalar.addi v2 v15
  let c0_i32_25_r1 : BitVec 32 := 0#32
  ![v16.toNat, 0]
def k4_cond1 (k4_t1 : Fin k4_t1_loop.trips) : BitVec 1 :=
  let c0_i32_7 : BitVec 32 := 0#32
  let c1_i32_8 : BitVec 32 := 1#32
  let arg10 : BitVec 32 := Scf.iv c0_i32_7 c1_i32_8 k4_t1
  let c2_i32_10 : BitVec 32 := 2#32
  let v10 : BitVec 32 := Scalar.muli arg10 c2_i32_10
  let c0_i32_11 : BitVec 32 := 0#32
  let v11 : BitVec 32 := Scalar.addi v10 c0_i32_11
  let c2_i32_15 : BitVec 32 := 2#32
  let v17 : BitVec 32 := Scalar.addi v11 c2_i32_15
  let c48_i32 : BitVec 32 := 48#32
  let v18 : BitVec 1 := Scalar.cmpi .slt v17 c48_i32
  let v19 : BitVec 32 := Scalar.extui v18
  let c0_i32_16 : BitVec 32 := 0#32
  let v20 : BitVec 1 := Scalar.cmpi .ne v19 c0_i32_16
  v20

def k4_off4 (k4_t1 : Fin k4_t1_loop.trips) : Fin 2 → Nat :=
  let c0_i32_7 : BitVec 32 := 0#32
  let c1_i32_8 : BitVec 32 := 1#32
  let arg10 : BitVec 32 := Scf.iv c0_i32_7 c1_i32_8 k4_t1
  let c2_i32_10 : BitVec 32 := 2#32
  let v10 : BitVec 32 := Scalar.muli arg10 c2_i32_10
  let c0_i32_11 : BitVec 32 := 0#32
  let v11 : BitVec 32 := Scalar.addi v10 c0_i32_11
  let c2_i32_25 : BitVec 32 := 2#32
  let v31 : BitVec 32 := Scalar.addi v11 c2_i32_25
  let c0_i32_26 : BitVec 32 := 0#32
  ![v31.toNat, 0]
def k4_cond2 (k4_t1 : Fin k4_t1_loop.trips) : BitVec 1 :=
  let c0_i32_7 : BitVec 32 := 0#32
  let c1_i32_8 : BitVec 32 := 1#32
  let arg10 : BitVec 32 := Scf.iv c0_i32_7 c1_i32_8 k4_t1
  let c2_i32_10 : BitVec 32 := 2#32
  let v10 : BitVec 32 := Scalar.muli arg10 c2_i32_10
  let c1_i32_17 : BitVec 32 := 1#32
  let v21 : BitVec 32 := Scalar.addi v10 c1_i32_17
  let c2_i32_22 : BitVec 32 := 2#32
  let v27 : BitVec 32 := Scalar.addi v21 c2_i32_22
  let c48_i32_23 : BitVec 32 := 48#32
  let v28 : BitVec 1 := Scalar.cmpi .slt v27 c48_i32_23
  let v29 : BitVec 32 := Scalar.extui v28
  let c0_i32_24 : BitVec 32 := 0#32
  let v30 : BitVec 1 := Scalar.cmpi .ne v29 c0_i32_24
  v30

def k4_off5 (k4_t1 : Fin k4_t1_loop.trips) : Fin 2 → Nat :=
  let c0_i32_7 : BitVec 32 := 0#32
  let c1_i32_8 : BitVec 32 := 1#32
  let arg10 : BitVec 32 := Scf.iv c0_i32_7 c1_i32_8 k4_t1
  let c2_i32_10 : BitVec 32 := 2#32
  let v10 : BitVec 32 := Scalar.muli arg10 c2_i32_10
  let c1_i32_17 : BitVec 32 := 1#32
  let v21 : BitVec 32 := Scalar.addi v10 c1_i32_17
  let c2_i32_25 : BitVec 32 := 2#32
  let v31 : BitVec 32 := Scalar.addi v21 c2_i32_25
  let c0_i32_26 : BitVec 32 := 0#32
  ![v31.toNat, 0]
abbrev grid5 : Pipeline.Grid := ⟨1, ![12], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S2x16384 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S16384x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S2x256 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x256 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x256 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S256x256 .bf16 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x256 .bf16 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S256x256 .bf16 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x256 .bf16 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S256x3 .bf16 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S3x1 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 2 → Memref sig .tc .vmem S3x16384 .f32 := fun | 0 => Memref.whole cc5_stg13_0 | 1 => Memref.whole cc5_stg13_1 | ⟨_ + 2, h⟩ => absurd h (Nat.not_lt.2 (Nat.le_add_left _ _))
abbrev sem5_13 : Fin 2 → DmaSem sig := fun | 0 => cc5_sem13_0 | 1 => cc5_sem13_1 | ⟨_ + 2, h⟩ => absurd h (Nat.not_lt.2 (Nat.le_add_left _ _))
abbrev reads5_13 : Fin grid5.rank → Bool := ![true]

abbrev grid6 : Pipeline.Grid := ⟨2, ![2, 16], ![false, false]⟩

def k6_off1 (i : grid6.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10_r0 : BitVec 32 := 0#32
  let c0_i32_11_r0 : BitVec 32 := 0#32
  ![v1.toNat, 0, 0]
@[reducible] def k6_t1_loop : Scf.Loop 32 :=
  let c0_i32_7 : BitVec 32 := 0#32
  let c24_i32 : BitVec 32 := 24#32
  let v9 : BitVec 32 := Scalar.addi c0_i32_7 c24_i32
  let c1_i32_8 : BitVec 32 := 1#32
  ⟨c0_i32_7, v9, c1_i32_8⟩
def k6_off2 (k6_t1 : Fin k6_t1_loop.trips) (c0_i32_11 : BitVec 32) : Fin 2 → Nat :=
  let c0_i32_7 : BitVec 32 := 0#32
  let c1_i32_8 : BitVec 32 := 1#32
  let arg10 : BitVec 32 := Scf.iv c0_i32_7 c1_i32_8 k6_t1
  let c2_i32_10 : BitVec 32 := 2#32
  let v10 : BitVec 32 := Scalar.muli arg10 c2_i32_10
  let v11 : BitVec 32 := Scalar.addi v10 c0_i32_11
  let c0_i32_12 : BitVec 32 := 0#32
  ![v11.toNat, 0]
def k6_off3 (i : grid6.Coords) (k6_t1 : Fin k6_t1_loop.trips) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v2 : BitVec 32 := Scalar.muli v1 c6144_i32
  let c0_i32_7 : BitVec 32 := 0#32
  let c1_i32_8 : BitVec 32 := 1#32
  let arg10 : BitVec 32 := Scf.iv c0_i32_7 c1_i32_8 k6_t1
  let c2_i32_10 : BitVec 32 := 2#32
  let v10 : BitVec 32 := Scalar.muli arg10 c2_i32_10
  let v11 : BitVec 32 := Scalar.addi v10 c0_i32_11
  let c128_i32 : BitVec 32 := 128#32
  let v15 : BitVec 32 := Scalar.muli v11 c128_i32
  let v16 : BitVec 32 := Scalar.addi v2 v15
  let c0_i32_25_r1 : BitVec 32 := 0#32
  ![v16.toNat, 0]
def k6_cond1 (k6_t1 : Fin k6_t1_loop.trips) : BitVec 1 :=
  let c0_i32_7 : BitVec 32 := 0#32
  let c1_i32_8 : BitVec 32 := 1#32
  let arg10 : BitVec 32 := Scf.iv c0_i32_7 c1_i32_8 k6_t1
  let c2_i32_10 : BitVec 32 := 2#32
  let v10 : BitVec 32 := Scalar.muli arg10 c2_i32_10
  let c0_i32_11 : BitVec 32 := 0#32
  let v11 : BitVec 32 := Scalar.addi v10 c0_i32_11
  let c2_i32_15 : BitVec 32 := 2#32
  let v17 : BitVec 32 := Scalar.addi v11 c2_i32_15
  let c48_i32 : BitVec 32 := 48#32
  let v18 : BitVec 1 := Scalar.cmpi .slt v17 c48_i32
  let v19 : BitVec 32 := Scalar.extui v18
  let c0_i32_16 : BitVec 32 := 0#32
  let v20 : BitVec 1 := Scalar.cmpi .ne v19 c0_i32_16
  v20

def k6_off4 (k6_t1 : Fin k6_t1_loop.trips) : Fin 2 → Nat :=
  let c0_i32_7 : BitVec 32 := 0#32
  let c1_i32_8 : BitVec 32 := 1#32
  let arg10 : BitVec 32 := Scf.iv c0_i32_7 c1_i32_8 k6_t1
  let c2_i32_10 : BitVec 32 := 2#32
  let v10 : BitVec 32 := Scalar.muli arg10 c2_i32_10
  let c0_i32_11 : BitVec 32 := 0#32
  let v11 : BitVec 32 := Scalar.addi v10 c0_i32_11
  let c2_i32_25 : BitVec 32 := 2#32
  let v31 : BitVec 32 := Scalar.addi v11 c2_i32_25
  let c0_i32_26 : BitVec 32 := 0#32
  ![v31.toNat, 0]
def k6_cond2 (k6_t1 : Fin k6_t1_loop.trips) : BitVec 1 :=
  let c0_i32_7 : BitVec 32 := 0#32
  let c1_i32_8 : BitVec 32 := 1#32
  let arg10 : BitVec 32 := Scf.iv c0_i32_7 c1_i32_8 k6_t1
  let c2_i32_10 : BitVec 32 := 2#32
  let v10 : BitVec 32 := Scalar.muli arg10 c2_i32_10
  let c1_i32_17 : BitVec 32 := 1#32
  let v21 : BitVec 32 := Scalar.addi v10 c1_i32_17
  let c2_i32_22 : BitVec 32 := 2#32
  let v27 : BitVec 32 := Scalar.addi v21 c2_i32_22
  let c48_i32_23 : BitVec 32 := 48#32
  let v28 : BitVec 1 := Scalar.cmpi .slt v27 c48_i32_23
  let v29 : BitVec 32 := Scalar.extui v28
  let c0_i32_24 : BitVec 32 := 0#32
  let v30 : BitVec 1 := Scalar.cmpi .ne v29 c0_i32_24
  v30

def k6_off5 (k6_t1 : Fin k6_t1_loop.trips) : Fin 2 → Nat :=
  let c0_i32_7 : BitVec 32 := 0#32
  let c1_i32_8 : BitVec 32 := 1#32
  let arg10 : BitVec 32 := Scf.iv c0_i32_7 c1_i32_8 k6_t1
  let c2_i32_10 : BitVec 32 := 2#32
  let v10 : BitVec 32 := Scalar.muli arg10 c2_i32_10
  let c1_i32_17 : BitVec 32 := 1#32
  let v21 : BitVec 32 := Scalar.addi v10 c1_i32_17
  let c2_i32_25 : BitVec 32 := 2#32
  let v31 : BitVec 32 := Scalar.addi v21 c2_i32_25
  let c0_i32_26 : BitVec 32 := 0#32
  ![v31.toNat, 0]
abbrev grid7 : Pipeline.Grid := ⟨1, ![12], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_12 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_13 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 2 → Memref sig .tc .vmem S2x16384 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S16384x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S2x256 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x256 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S256x256 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x256 .bf16 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S256x256 .bf16 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x256 .bf16 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S256x256 .bf16 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S1x256 .bf16 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 1 → Memref sig .tc .vmem S256x3 .bf16 := fun | 0 => Memref.whole cc7_stg11_0 | ⟨_ + 1, h⟩ => absurd h (Nat.not_lt.2 (Nat.le_add_left _ _))
abbrev sem7_11 : Fin 1 → DmaSem sig := fun | 0 => cc7_sem11_0 | ⟨_ + 1, h⟩ => absurd h (Nat.not_lt.2 (Nat.le_add_left _ _))
abbrev reads7_11 : Fin grid7.rank → Bool := ![false]

abbrev stage7_12 : Fin 1 → Memref sig .tc .vmem S3x1 .f32 := fun | 0 => Memref.whole cc7_stg12_0 | ⟨_ + 1, h⟩ => absurd h (Nat.not_lt.2 (Nat.le_add_left _ _))
abbrev sem7_12 : Fin 1 → DmaSem sig := fun | 0 => cc7_sem12_0 | ⟨_ + 1, h⟩ => absurd h (Nat.not_lt.2 (Nat.le_add_left _ _))
abbrev reads7_12 : Fin grid7.rank → Bool := ![false]

abbrev stage7_13 : Fin 2 → Memref sig .tc .vmem S3x16384 .f32 := fun | 0 => Memref.whole cc7_stg13_0 | 1 => Memref.whole cc7_stg13_1 | ⟨_ + 2, h⟩ => absurd h (Nat.not_lt.2 (Nat.le_add_left _ _))
abbrev sem7_13 : Fin 2 → DmaSem sig := fun | 0 => cc7_sem13_0 | 1 => cc7_sem13_1 | ⟨_ + 2, h⟩ => absurd h (Nat.not_lt.2 (Nat.le_add_left _ _))
abbrev reads7_13 : Fin grid7.rank → Bool := ![true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S524288x2 : Shape := ⟨2, ![524288, 2]⟩
abbrev S524288 : Shape := ⟨1, ![524288]⟩
abbrev S1024x64 : Shape := ⟨2, ![1024, 64]⟩
abbrev S66x256 : Shape := ⟨2, ![66, 256]⟩
abbrev S256 : Shape := ⟨1, ![256]⟩
abbrev S256x256 : Shape := ⟨2, ![256, 256]⟩
abbrev S256x3 : Shape := ⟨2, ![256, 3]⟩
abbrev S3 : Shape := ⟨1, ![3]⟩
abbrev S_ : Shape := ⟨0, ![]⟩
abbrev S524288x1 : Shape := ⟨2, ![524288, 1]⟩
abbrev S1 : Shape := ⟨1, ![1]⟩
abbrev S1x1 : Shape := ⟨2, ![1, 1]⟩
abbrev S524288x64 : Shape := ⟨2, ![524288, 64]⟩
abbrev S524288x66 : Shape := ⟨2, ![524288, 66]⟩
abbrev S524288x256 : Shape := ⟨2, ![524288, 256]⟩
abbrev S1x256 : Shape := ⟨2, ![1, 256]⟩
abbrev S524288x3 : Shape := ⟨2, ![524288, 3]⟩
abbrev S1x3 : Shape := ⟨2, ![1, 3]⟩

abbrev nBuf : Space → Nat
  | .hbm => 77
  | .vmem => 0
  | .smem => 0
  | _ => 0

abbrev bufTy : (tb : Table) → Fin (tcTables nBuf tb) → BufTy
  | .hbm, ⟨0, _⟩ => ⟨S524288x2, .f32⟩
  | .hbm, ⟨1, _⟩ => ⟨S524288, .i32⟩
  | .hbm, ⟨2, _⟩ => ⟨S1024x64, .f32⟩
  | .hbm, ⟨3, _⟩ => ⟨S66x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x3, .f32⟩
  | .hbm, ⟨12, _⟩ => ⟨S3, .f32⟩
  | .hbm, ⟨13, _⟩ => ⟨S_, .i32⟩
  | .hbm, ⟨14, _⟩ => ⟨S524288, .i32⟩
  | .hbm, ⟨15, _⟩ => ⟨S524288, .i1⟩
  | .hbm, ⟨16, _⟩ => ⟨S_, .i32⟩
  | .hbm, ⟨17, _⟩ => ⟨S524288, .i32⟩
  | .hbm, ⟨18, _⟩ => ⟨S524288, .i32⟩
  | .hbm, ⟨19, _⟩ => ⟨S524288, .i32⟩
  | .hbm, ⟨20, _⟩ => ⟨S524288x1, .i32⟩
  | .hbm, ⟨21, _⟩ => ⟨S1, .i32⟩
  | .hbm, ⟨22, _⟩ => ⟨S_, .i32⟩
  | .hbm, ⟨23, _⟩ => ⟨S524288x1, .i32⟩
  | .hbm, ⟨24, _⟩ => ⟨S524288x1, .i1⟩
  | .hbm, ⟨25, _⟩ => ⟨S1x1, .i32⟩
  | .hbm, ⟨26, _⟩ => ⟨S524288x1, .i32⟩
  | .hbm, ⟨27, _⟩ => ⟨S524288x1, .i1⟩
  | .hbm, ⟨28, _⟩ => ⟨S524288x1, .i1⟩
  | .hbm, ⟨29, _⟩ => ⟨S_, .i1⟩
  | .hbm, ⟨30, _⟩ => ⟨S524288, .i1⟩
  | .hbm, ⟨31, _⟩ => ⟨S524288x64, .f32⟩
  | .hbm, ⟨32, _⟩ => ⟨S524288x64, .i1⟩
  | .hbm, ⟨33, _⟩ => ⟨S_, .f32⟩
  | .hbm, ⟨34, _⟩ => ⟨S524288x64, .f32⟩
  | .hbm, ⟨35, _⟩ => ⟨S524288x64, .f32⟩
  | .hbm, ⟨36, _⟩ => ⟨S524288x66, .f32⟩
  | .hbm, ⟨37, _⟩ => ⟨S524288x256, .f32⟩
  | .hbm, ⟨38, _⟩ => ⟨S1x256, .f32⟩
  | .hbm, ⟨39, _⟩ => ⟨S524288x256, .f32⟩
  | .hbm, ⟨40, _⟩ => ⟨S524288x256, .f32⟩
  | .hbm, ⟨41, _⟩ => ⟨S_, .f32⟩
  | .hbm, ⟨42, _⟩ => ⟨S524288x256, .f32⟩
  | .hbm, ⟨43, _⟩ => ⟨S524288x256, .f32⟩
  | .hbm, ⟨44, _⟩ => ⟨S524288x256, .f32⟩
  | .hbm, ⟨45, _⟩ => ⟨S1x256, .f32⟩
  | .hbm, ⟨46, _⟩ => ⟨S524288x256, .f32⟩
  | .hbm, ⟨47, _⟩ => ⟨S524288x256, .f32⟩
  | .hbm, ⟨48, _⟩ => ⟨S_, .f32⟩
  | .hbm, ⟨49, _⟩ => ⟨S524288x256, .f32⟩
  | .hbm, ⟨50, _⟩ => ⟨S524288x256, .f32⟩
  | .hbm, ⟨51, _⟩ => ⟨S524288x256, .f32⟩
  | .hbm, ⟨52, _⟩ => ⟨S1x256, .f32⟩
  | .hbm, ⟨53, _⟩ => ⟨S524288x256, .f32⟩
  | .hbm, ⟨54, _⟩ => ⟨S524288x256, .f32⟩
  | .hbm, ⟨55, _⟩ => ⟨S_, .f32⟩
  | .hbm, ⟨56, _⟩ => ⟨S524288x256, .f32⟩
  | .hbm, ⟨57, _⟩ => ⟨S524288x256, .f32⟩
  | .hbm, ⟨58, _⟩ => ⟨S524288x256, .f32⟩
  | .hbm, ⟨59, _⟩ => ⟨S1x256, .f32⟩
  | .hbm, ⟨60, _⟩ => ⟨S524288x256, .f32⟩
  | .hbm, ⟨61, _⟩ => ⟨S524288x256, .f32⟩
  | .hbm, ⟨62, _⟩ => ⟨S_, .f32⟩
  | .hbm, ⟨63, _⟩ => ⟨S524288x256, .f32⟩
  | .hbm, ⟨64, _⟩ => ⟨S524288x256, .f32⟩
  | .hbm, ⟨65, _⟩ => ⟨S524288x3, .f32⟩
  | .hbm, ⟨66, _⟩ => ⟨S1x3, .f32⟩
  | .hbm, ⟨67, _⟩ => ⟨S524288x3, .f32⟩
  | .hbm, ⟨68, _⟩ => ⟨S524288x3, .f32⟩
  | .hbm, ⟨69, _⟩ => ⟨S524288x3, .f32⟩
  | .hbm, ⟨70, _⟩ => ⟨S524288x3, .f32⟩
  | .hbm, ⟨71, _⟩ => ⟨S_, .f32⟩
  | .hbm, ⟨72, _⟩ => ⟨S524288x3, .f32⟩
  | .hbm, ⟨73, _⟩ => ⟨S524288x3, .f32⟩
  | .hbm, ⟨74, _⟩ => ⟨S_, .f32⟩
  | .hbm, ⟨75, _⟩ => ⟨S524288x3, .f32⟩
  | .hbm, ⟨76, _⟩ => ⟨S524288x3, .f32⟩
  | _, _ => ⟨S524288x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_call1_cst : Ref sig .tc := ⟨.hbm, 41, rfl⟩
abbrev main_call1_v0 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_call2_cst : Ref sig .tc := ⟨.hbm, 48, rfl⟩
abbrev main_call2_v0 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_call3_cst : Ref sig .tc := ⟨.hbm, 55, rfl⟩
abbrev main_call3_v0 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_call4_cst : Ref sig .tc := ⟨.hbm, 62, rfl⟩
abbrev main_call4_v0 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_cst : Ref sig .tc := ⟨.hbm, 71, rfl⟩
abbrev main_v28 : Ref sig .tc := ⟨.hbm, 72, rfl⟩
abbrev main_v29 : Ref sig .tc := ⟨.hbm, 73, rfl⟩
abbrev main_cst_0 : Ref sig .tc := ⟨.hbm, 74, rfl⟩
abbrev main_v30 : Ref sig .tc := ⟨.hbm, 75, rfl⟩
abbrev main_v31 : Ref sig .tc := ⟨.hbm, 76, rfl⟩

abbrev nD : Nat := 1
abbrev τ : Topo := Topo.v7x

variable {F : FTy → Type} [FloatOps F]
-- ==== Proof.Base.lean ====
/-
  The program as the launch theorem sees it: its configuration of the SparseCores, its pipelines, and the resource
  algebra of the proof (the handshakes' rounds, the pipelines' rounds, the transfers' counters).
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.RegionArrays
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the pipelines' calls. -/
abbrev ΛP : Labels := Pipeline.Sig Λ₀ (Fin 4) fun p => (pcfgs (F := F) p).Adm
/-- The SparseCore calls. -/
abbrev K : SparseCore.Cfg τ sig (ΛP (F := F)) 4 := sc (F := F)
/-- The bodies under the SparseCore layer. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' semaphores are distinct and scoped as the launch asks. -/
theorem hsFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

/-- Where the handshakes' rounds live. -/
abbrev EH : Emb UH (MT nD τ sig (HIx 4) (Elt F) ℕ UU ℕ) := embL
/-- Where the pipelines' rounds live. -/
abbrev EP : Emb UP (MT nD τ sig (HIx 4) (Elt F) ℕ UU ℕ) := (Emb.inl : Emb UP (UP × Counters)).trans embR
instance : (EP (F := F)).LandsIn (upEmb : UEmb _ (MT nD τ sig (HIx 4) (Elt F) ℕ UU ℕ)) := by unfold EP; infer_instance

/-- No pipeline prefetches a table. -/
abbrev adm : (p : Fin 4) → (pcfgs (F := F) p).Adm := fun p => (cfgs p).toPCfg_adm

end Cert.Proof.KI

end
-- ==== Proof.Host.lean ====
/-
  @main as lines of host operations between the four SparseCore calls and the four pipelines.
-/
module

public import proofs.«01_k».proof.Proof.Base
public import Idealize.ShloMosaic.Lib.StableHlo.Run

@[expose] public section

noncomputable section

namespace Cert.Proof.KI

open Cert.KernelIdeal Cert.KernelIdeal.Gen

open Idealize.ShloMosaic
open Idealize.SL.Sem

variable {F : FTy → Type} [FloatOps F]

/-- The host operations before the first call. -/
def h0 : List (HloOp τ sig (Elt F)) :=
  [StableHlo.nullary main_c (constantI S_ 32 0#32),
   StableHlo.TRef.unary (StableHlo.TRef.of main_c : StableHlo.TRef sig ⟨S_, .i32⟩) main_call0.v0 (sitofp .f32),
   StableHlo.TRef.binary (StableHlo.TRef.of main_arg2 : StableHlo.TRef sig ⟨S1024x64, .f32⟩) main_call0.v0 main_call0.v1 (fun x v => pad S1024x128 ![0, 0] ![0, 64] ![0, 0] x v pads_S1024x64_S1024x128_000_0640 h_S_),
   StableHlo.unary main_arg3 main_v1 ((extractStridedSlice S2x256 ![0, 0] · slices_S66x256_S2x256_0_0) : (⟨S66x256, .f32⟩ : BufTy).Contents (Elt F) → (⟨S2x256, .f32⟩ : BufTy).Contents (Elt F)),
   StableHlo.unary main_v1 main_v2 ((truncf .bf16 · bitsLt_bf16_f32) : (⟨S2x256, .f32⟩ : BufTy).Contents (Elt F) → (⟨S2x256, .bf16⟩ : BufTy).Contents (Elt F)),
   StableHlo.unary main_arg3 main_v3 ((extractStridedSlice S64x256 ![2, 0] · slices_S66x256_S64x256_2_0) : (⟨S66x256, .f32⟩ : BufTy).Contents (Elt F) → (⟨S64x256, .f32⟩ : BufTy).Contents (Elt F)),
   StableHlo.nullary main_c_0 (constantI S_ 32 0#32),
   StableHlo.TRef.unary (StableHlo.TRef.of main_c_0 : StableHlo.TRef sig ⟨S_, .i32⟩) main_call1.v0 (sitofp .f32),
   StableHlo.TRef.binary (StableHlo.TRef.of main_v3 : StableHlo.TRef sig ⟨S64x256, .f32⟩) main_call1.v0 main_call1.v1 (fun x v => pad S128x256 ![0, 0] ![64, 0] ![0, 0] x v pads_S64x256_S128x256_0640_000 h_S_),
   StableHlo.unary main_v4 main_v5 ((truncf .bf16 · bitsLt_bf16_f32) : (⟨S128x256, .f32⟩ : BufTy).Contents (Elt F) → (⟨S128x256, .bf16⟩ : BufTy).Contents (Elt F)),
   StableHlo.reshape main_arg4 main_v6 (rfl : (.f32 : EltTy) = .f32) shapeCasts_S256_S1x256,
   StableHlo.unary main_v6 main_v7 ((truncf .bf16 · bitsLt_bf16_f32) : (⟨S1x256, .f32⟩ : BufTy).Contents (Elt F) → (⟨S1x256, .bf16⟩ : BufTy).Contents (Elt F)),
   StableHlo.unary main_arg5 main_v8 ((truncf .bf16 · bitsLt_bf16_f32) : (⟨S256x256, .f32⟩ : BufTy).Contents (Elt F) → (⟨S256x256, .bf16⟩ : BufTy).Contents (Elt F)),
   StableHlo.reshape main_arg6 main_v9 (rfl : (.f32 : EltTy) = .f32) shapeCasts_S256_S1x256,
   StableHlo.unary main_v9 main_v10 ((truncf .bf16 · bitsLt_bf16_f32) : (⟨S1x256, .f32⟩ : BufTy).Contents (Elt F) → (⟨S1x256, .bf16⟩ : BufTy).Contents (Elt F)),
   StableHlo.unary main_arg7 main_v11 ((truncf .bf16 · bitsLt_bf16_f32) : (⟨S256x256, .f32⟩ : BufTy).Contents (Elt F) → (⟨S256x256, .bf16⟩ : BufTy).Contents (Elt F)),
   StableHlo.reshape main_arg8 main_v12 (rfl : (.f32 : EltTy) = .f32) shapeCasts_S256_S1x256,
   StableHlo.unary main_v12 main_v13 ((truncf .bf16 · bitsLt_bf16_f32) : (⟨S1x256, .f32⟩ : BufTy).Contents (Elt F) → (⟨S1x256, .bf16⟩ : BufTy).Contents (Elt F)),
   StableHlo.unary main_arg9 main_v14 ((truncf .bf16 · bitsLt_bf16_f32) : (⟨S256x256, .f32⟩ : BufTy).Contents (Elt F) → (⟨S256x256, .bf16⟩ : BufTy).Contents (Elt F)),
   StableHlo.reshape main_arg10 main_v15 (rfl : (.f32 : EltTy) = .f32) shapeCasts_S256_S1x256,
   StableHlo.unary main_v15 main_v16 ((truncf .bf16 · bitsLt_bf16_f32) : (⟨S1x256, .f32⟩ : BufTy).Contents (Elt F) → (⟨S1x256, .bf16⟩ : BufTy).Contents (Elt F)),
   StableHlo.unary main_arg11 main_v17 ((truncf .bf16 · bitsLt_bf16_f32) : (⟨S256x3, .f32⟩ : BufTy).Contents (Elt F) → (⟨S256x3, .bf16⟩ : BufTy).Contents (Elt F)),
   StableHlo.reshape main_arg12 main_v18 (rfl : (.f32 : EltTy) = .f32) shapeCasts_S3_S3x1,
   StableHlo.unary main_arg0 main_v19 ((transpose S2x524288 [1, 0] · transposes_S524288x2_S2x524288_1_0) : (⟨S524288x2, .f32⟩ : BufTy).Contents (Elt F) → (⟨S2x524288, .f32⟩ : BufTy).Contents (Elt F)),
   StableHlo.unary main_arg1 main_v20 ((extractStridedSlice S32768 ![0] · slices_S524288_S32768_0) : (⟨S524288, .i32⟩ : BufTy).Contents (Elt F) → (⟨S32768, .i32⟩ : BufTy).Contents (Elt F)),
   StableHlo.reshape main_v20 main_v21 (rfl : (.i32 : EltTy) = .i32) shapeCasts_S32768_S32x8x128]

/-- What they write. -/
def w0 : List (Ref sig .tc) := [main_c, main_call0_v0, main_v0, main_v1, main_v2, main_v3, main_c_0, main_call1_v0, main_v4, main_v5, main_v6, main_v7, main_v8, main_v9, main_v10, main_v11, main_v12, main_v13, main_v14, main_v15, main_v16, main_v17, main_v18, main_v19, main_v20, main_v21]

theorem h0_writes : (h0 (F := F)).Forall fun op => op.writes ⊆ (w0.map (Proc.devRef (τ := τ) .tc)).toFinset := StableHlo.forall_writes_sub_of_map rfl
theorem h0_fresh : (h0 (F := F)).Forall fun op => op.fresh = ∅ := StableHlo.forall_fresh_of_map rfl
theorem h0_sub : (h0 (F := F)).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub ..⟩

/-- The host operations between the first call and the first pipeline. -/
def h1 : List (HloOp τ sig (Elt F)) :=
  [StableHlo.unary main_v19 main_v23 ((extractStridedSlice S2x32768 ![0, 0] · slices_S2x524288_S2x32768_0_0) : (⟨S2x524288, .f32⟩ : BufTy).Contents (Elt F) → (⟨S2x32768, .f32⟩ : BufTy).Contents (Elt F))]

/-- What they write. -/
def w1 : List (Ref sig .tc) := [main_v23]

theorem h1_writes : (h1 (F := F)).Forall fun op => op.writes ⊆ (w1.map (Proc.devRef (τ := τ) .tc)).toFinset := StableHlo.forall_writes_sub_of_map rfl
theorem h1_fresh : (h1 (F := F)).Forall fun op => op.fresh = ∅ := StableHlo.forall_fresh_of_map rfl
theorem h1_sub : (h1 (F := F)).Forall fun op => op.bufs ⊆ StableHlo.tcRefs τ sig :=
  StableHlo.unary_bufs_sub ..

/-- The host operations between the first pipeline and the second call. -/
def h2 : List (HloOp τ sig (Elt F)) :=
  [StableHlo.unary main_arg1 main_v25 ((extractStridedSlice S98304 ![32768] · slices_S524288_S98304_32768) : (⟨S524288, .i32⟩ : BufTy).Contents (Elt F) → (⟨S98304, .i32⟩ : BufTy).Contents (Elt F)),
   StableHlo.reshape main_v25 main_v26 (rfl : (.i32 : EltTy) = .i32) shapeCasts_S98304_S32x24x128]

/-- What they write. -/
def w2 : List (Ref sig .tc) := [main_v25, main_v26]

theorem h2_writes : (h2 (F := F)).Forall fun op => op.writes ⊆ (w2.map (Proc.devRef (τ := τ) .tc)).toFinset := StableHlo.forall_writes_sub_of_map rfl
theorem h2_fresh : (h2 (F := F)).Forall fun op => op.fresh = ∅ := StableHlo.forall_fresh_of_map rfl
theorem h2_sub : (h2 (F := F)).Forall fun op => op.bufs ⊆ StableHlo.tcRefs τ sig :=
  ⟨StableHlo.unary_bufs_sub .., StableHlo.reshape_bufs_sub ..⟩

/-- The host operations between the second call and the second pipeline. -/
def h3 : List (HloOp τ sig (Elt F)) :=
  [StableHlo.unary main_v19 main_v28 ((extractStridedSlice S2x98304 ![0, 32768] · slices_S2x524288_S2x98304_0_32768) : (⟨S2x524288, .f32⟩ : BufTy).Contents (Elt F) → (⟨S2x98304, .f32⟩ : BufTy).Contents (Elt F))]

/-- What they write. -/
def w3 : List (Ref sig .tc) := [main_v28]

theorem h3_writes : (h3 (F := F)).Forall fun op => op.writes ⊆ (w3.map (Proc.devRef (τ := τ) .tc)).toFinset := StableHlo.forall_writes_sub_of_map rfl
theorem h3_fresh : (h3 (F := F)).Forall fun op => op.fresh = ∅ := StableHlo.forall_fresh_of_map rfl
theorem h3_sub : (h3 (F := F)).Forall fun op => op.bufs ⊆ StableHlo.tcRefs τ sig :=
  StableHlo.unary_bufs_sub ..

/-- The host operations between the second pipeline and the third call. -/
def h4 : List (HloOp τ sig (Elt F)) :=
  [StableHlo.unary main_arg1 main_v30 ((extractStridedSlice S196608 ![131072] · slices_S524288_S196608_131072) : (⟨S524288, .i32⟩ : BufTy).Contents (Elt F) → (⟨S196608, .i32⟩ : BufTy).Contents (Elt F)),
   StableHlo.reshape main_v30 main_v31 (rfl : (.i32 : EltTy) = .i32) shapeCasts_S196608_S32x48x128]

/-- What they write. -/
def w4 : List (Ref sig .tc) := [main_v30, main_v31]

theorem h4_writes : (h4 (F := F)).Forall fun op => op.writes ⊆ (w4.map (Proc.devRef (τ := τ) .tc)).toFinset := StableHlo.forall_writes_sub_of_map rfl
theorem h4_fresh : (h4 (F := F)).Forall fun op => op.fresh = ∅ := StableHlo.forall_fresh_of_map rfl
theorem h4_sub : (h4 (F := F)).Forall fun op => op.bufs ⊆ StableHlo.tcRefs τ sig :=
  ⟨StableHlo.unary_bufs_sub .., StableHlo.reshape_bufs_sub ..⟩

/-- The host operations between the third call and the third pipeline. -/
def h5 : List (HloOp τ sig (Elt F)) :=
  [StableHlo.unary main_v19 main_v33 ((extractStridedSlice S2x196608 ![0, 131072] · slices_S2x524288_S2x196608_0_131072) : (⟨S2x524288, .f32⟩ : BufTy).Contents (Elt F) → (⟨S2x196608, .f32⟩ : BufTy).Contents (Elt F))]

/-- What they write. -/
def w5 : List (Ref sig .tc) := [main_v33]

theorem h5_writes : (h5 (F := F)).Forall fun op => op.writes ⊆ (w5.map (Proc.devRef (τ := τ) .tc)).toFinset := StableHlo.forall_writes_sub_of_map rfl
theorem h5_fresh : (h5 (F := F)).Forall fun op => op.fresh = ∅ := StableHlo.forall_fresh_of_map rfl
theorem h5_sub : (h5 (F := F)).Forall fun op => op.bufs ⊆ StableHlo.tcRefs τ sig :=
  StableHlo.unary_bufs_sub ..

/-- The host operations between the third pipeline and the fourth call. -/
def h6 : List (HloOp τ sig (Elt F)) :=
  [StableHlo.unary main_arg1 main_v35 ((extractStridedSlice S196608 ![327680] · slices_S524288_S196608_327680) : (⟨S524288, .i32⟩ : BufTy).Contents (Elt F) → (⟨S196608, .i32⟩ : BufTy).Contents (Elt F)),
   StableHlo.reshape main_v35 main_v36 (rfl : (.i32 : EltTy) = .i32) shapeCasts_S196608_S32x48x128]

/-- What they write. -/
def w6 : List (Ref sig .tc) := [main_v35, main_v36]

theorem h6_writes : (h6 (F := F)).Forall fun op => op.writes ⊆ (w6.map (Proc.devRef (τ := τ) .tc)).toFinset := StableHlo.forall_writes_sub_of_map rfl
theorem h6_fresh : (h6 (F := F)).Forall fun op => op.fresh = ∅ := StableHlo.forall_fresh_of_map rfl
theorem h6_sub : (h6 (F := F)).Forall fun op => op.bufs ⊆ StableHlo.tcRefs τ sig :=
  ⟨StableHlo.unary_bufs_sub .., StableHlo.reshape_bufs_sub ..⟩

/-- The host operations between the fourth call and the fourth pipeline. -/
def h7 : List (HloOp τ sig (Elt F)) :=
  [StableHlo.unary main_v19 main_v38 ((extractStridedSlice S2x196608 ![0, 327680] · slices_S2x524288_S2x196608_0_327680) : (⟨S2x524288, .f32⟩ : BufTy).Contents (Elt F) → (⟨S2x196608, .f32⟩ : BufTy).Contents (Elt F))]

/-- What they write. -/
def w7 : List (Ref sig .tc) := [main_v38]

theorem h7_writes : (h7 (F := F)).Forall fun op => op.writes ⊆ (w7.map (Proc.devRef (τ := τ) .tc)).toFinset := StableHlo.forall_writes_sub_of_map rfl
theorem h7_fresh : (h7 (F := F)).Forall fun op => op.fresh = ∅ := StableHlo.forall_fresh_of_map rfl
theorem h7_sub : (h7 (F := F)).Forall fun op => op.bufs ⊆ StableHlo.tcRefs τ sig :=
  StableHlo.unary_bufs_sub ..

/-- The host operations after the fourth pipeline. -/
def h8 : List (HloOp τ sig (Elt F)) :=
  [StableHlo.nullary main_cst (constant S_ .f32 0x00000000#32),
   StableHlo.unary main_cst main_v40 (broadcastInDim S3x524288 ![] bcast_S_S3x524288 : (⟨S_, .f32⟩ : BufTy).Contents (Elt F) → (⟨S3x524288, .f32⟩ : BufTy).Contents (Elt F)),
   StableHlo.nullary main_c_1 (constantI S_ 32 0#32),
   StableHlo.nullary main_c_2 (constantI S_ 32 0#32),
   StableHlo.binaryIndexed main_v40 main_v24 ![main_c_1, main_c_2] ⟨S_, .i32⟩ main_v41 ((fun x u i => Host.dynamicUpdateSlice x u (fun k => (i k (Shape.Idx.first h_S_)).toInt) updateFits_S3x524288_S3x32768) : (⟨S3x524288, .f32⟩ : BufTy).Contents (Elt F) → (⟨S3x32768, .f32⟩ : BufTy).Contents (Elt F) → (Fin 2 → (⟨S_, .i32⟩ : BufTy).Contents (Elt F)) → (⟨S3x524288, .f32⟩ : BufTy).Contents (Elt F)),
   StableHlo.nullary main_c_3 (constantI S_ 32 0#32),
   StableHlo.nullary main_c_4 (constantI S_ 32 32768#32),
   StableHlo.binaryIndexed main_v41 main_v29 ![main_c_3, main_c_4] ⟨S_, .i32⟩ main_v42 ((fun x u i => Host.dynamicUpdateSlice x u (fun k => (i k (Shape.Idx.first h_S_)).toInt) updateFits_S3x524288_S3x98304) : (⟨S3x524288, .f32⟩ : BufTy).Contents (Elt F) → (⟨S3x98304, .f32⟩ : BufTy).Contents (Elt F) → (Fin 2 → (⟨S_, .i32⟩ : BufTy).Contents (Elt F)) → (⟨S3x524288, .f32⟩ : BufTy).Contents (Elt F)),
   StableHlo.nullary main_c_5 (constantI S_ 32 0#32),
   StableHlo.nullary main_c_6 (constantI S_ 32 131072#32),
   StableHlo.binaryIndexed main_v42 main_v34 ![main_c_5, main_c_6] ⟨S_, .i32⟩ main_v43 ((fun x u i => Host.dynamicUpdateSlice x u (fun k => (i k (Shape.Idx.first h_S_)).toInt) updateFits_S3x524288_S3x196608) : (⟨S3x524288, .f32⟩ : BufTy).Contents (Elt F) → (⟨S3x196608, .f32⟩ : BufTy).Contents (Elt F) → (Fin 2 → (⟨S_, .i32⟩ : BufTy).Contents (Elt F)) → (⟨S3x524288, .f32⟩ : BufTy).Contents (Elt F)),
   StableHlo.nullary main_c_7 (constantI S_ 32 0#32),
   StableHlo.nullary main_c_8 (constantI S_ 32 327680#32),
   StableHlo.binaryIndexed main_v43 main_v39 ![main_c_7, main_c_8] ⟨S_, .i32⟩ main_v44 ((fun x u i => Host.dynamicUpdateSlice x u (fun k => (i k (Shape.Idx.first h_S_)).toInt) updateFits_S3x524288_S3x196608) : (⟨S3x524288, .f32⟩ : BufTy).Contents (Elt F) → (⟨S3x196608, .f32⟩ : BufTy).Contents (Elt F) → (Fin 2 → (⟨S_, .i32⟩ : BufTy).Contents (Elt F)) → (⟨S3x524288, .f32⟩ : BufTy).Contents (Elt F)),
   StableHlo.unary main_v44 main_v45 ((transpose S524288x3 [1, 0] · transposes_S3x524288_S524288x3_1_0) : (⟨S3x524288, .f32⟩ : BufTy).Contents (Elt F) → (⟨S524288x3, .f32⟩ : BufTy).Contents (Elt F))]

/-- What they write. -/
def w8 : List (Ref sig .tc) := [main_cst, main_v40, main_c_1, main_c_2, main_v41, main_c_3, main_c_4, main_v42, main_c_5, main_c_6, main_v43, main_c_7, main_c_8, main_v44, main_v45]

theorem h8_writes : (h8 (F := F)).Forall fun op => op.writes ⊆ (w8.map (Proc.devRef (τ := τ) .tc)).toFinset := StableHlo.forall_writes_sub_of_map rfl
theorem h8_fresh : (h8 (F := F)).Forall fun op => op.fresh = ∅ := StableHlo.forall_fresh_of_map rfl
theorem h8_sub : (h8 (F := F)).Forall fun op => op.bufs ⊆ StableHlo.tcRefs τ sig :=
  ⟨StableHlo.nullary_bufs_sub .., StableHlo.unary_bufs_sub .., StableHlo.nullary_bufs_sub .., StableHlo.nullary_bufs_sub .., StableHlo.binaryIndexed_bufs_sub .., StableHlo.nullary_bufs_sub .., StableHlo.nullary_bufs_sub .., StableHlo.binaryIndexed_bufs_sub .., StableHlo.nullary_bufs_sub .., StableHlo.nullary_bufs_sub .., StableHlo.binaryIndexed_bufs_sub .., StableHlo.nullary_bufs_sub .., StableHlo.nullary_bufs_sub .., StableHlo.binaryIndexed_bufs_sub .., StableHlo.unary_bufs_sub ..⟩

/-- @main is its lines of host operations around its calls. -/
theorem main_eq (d : Dev nD) : main (F := F) d = StableHlo.seqK h0 (K.run d 0 >>= fun _ => StableHlo.seqK h1 ((Prog.lift (.customCall (SparseCore.inner (Pipeline.entry 0)) ())) >>= fun _ => StableHlo.seqK h2 (K.run d 1 >>= fun _ => StableHlo.seqK h3 ((Prog.lift (.customCall (SparseCore.inner (Pipeline.entry 1)) ())) >>= fun _ => StableHlo.seqK h4 (K.run d 2 >>= fun _ => StableHlo.seqK h5 ((Prog.lift (.customCall (SparseCore.inner (Pipeline.entry 2)) ())) >>= fun _ => StableHlo.seqK h6 (K.run d 3 >>= fun _ => StableHlo.seqK h7 ((Prog.lift (.customCall (SparseCore.inner (Pipeline.entry 3)) ())) >>= fun _ => StableHlo.seqK h8 (pure ⟨⟩))))))))) := rfl

end Cert.Proof.KI

end
-- ==== Proof.Tile.lean ====
/-
  One vector subcore's gather task, over any signature: the subcore fetches its block of row numbers, starts an
  indirect gather for each of the first two rows of that block, and in each of its trips waits for a gather, writes
  the gathered rows out, and starts the gather two rows on. Its effect is proved here once, from any whole buffers.
-/
module

public import Idealize.ShloMosaic.Lib.SparseCore.FromWhole
public import Idealize.ShloMosaic.Lib.SparseCore.Quiescent
public import Idealize.ShloMosaic.Lib.SparseCore.Ops
public import Idealize.ShloMosaic.Lib.SparseCore.Stream
public import Idealize.ShloMosaic.Lib.Scf
public import Idealize.ShloMosaic.Lib.Tactic
public import Idealize.ShloMosaic.Lib.ValueIdx
public import Idealize.ShloMosaic.Lib.ValueLayout

@[expose] public section

noncomputable section

namespace Cert.Proof.Tile

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

abbrev Sh1 (a : ℕ) : Shape := ⟨1, ![a]⟩
abbrev Sh2 (a b : ℕ) : Shape := ⟨2, ![a, b]⟩
abbrev Sh3 (a b c : ℕ) : Shape := ⟨3, ![a, b, c]⟩

/-! ## The task -/

/-- The operands of a gather task: the table, the row numbers, the output, the three scratch buffers and the five
    transfer semaphores. -/
structure Operands (sig : RefSig) (n rows : ℕ) where
  tbl : Memref sig .scVector .hbm (Sh2 1024 128) .f32
  idx : Memref sig .scVector .hbm (Sh3 32 n 128) .i32
  out : Memref sig .scVector .hbm (Sh2 rows 128) .f32
  lst : Memref sig .scVector .vmem (Sh2 n 128) .i32
  b0 : Memref sig .scVector .vmem (Sh2 128 128) .f32
  b1 : Memref sig .scVector .vmem (Sh2 128 128) .f32
  hlst : lst.IsWhole
  hb0 : b0.IsWhole
  hb1 : b1.IsWhole
  s0 : DmaSem sig
  s1 : DmaSem sig
  r0 : DmaSem sig
  r1 : DmaSem sig
  r2 : DmaSem sig

/-- The scalars a task computes: its loop, the offsets of its transfers and the conditions under which it starts the
    next gathers. -/
structure Scalars (n rows : ℕ) where
  loop : Scf.Loop 32
  ok : loop.OK
  off1 : Fin 3 → ℕ
  inb1 : ∀ a, off1 a + (Sh3 1 n 128).size a ≤ (Sh3 32 n 128).size a
  off3 : Fin loop.trips → BitVec 32 → Fin 2 → ℕ
  inb3A : ∀ k a, off3 k 0#32 a + (Sh2 128 128).size a ≤ (Sh2 rows 128).size a
  inb3B : ∀ k a, off3 k 1#32 a + (Sh2 128 128).size a ≤ (Sh2 rows 128).size a
  cond1 : Fin loop.trips → BitVec 1
  cond2 : Fin loop.trips → BitVec 1
  off4 : Fin loop.trips → Fin 2 → ℕ
  inb4 : ∀ k, cond1 k = 1#1 → ∀ a, off4 k a + (Sh2 1 128).size a ≤ (Sh2 n 128).size a
  off5 : Fin loop.trips → Fin 2 → ℕ
  inb5 : ∀ k, cond2 k = 1#1 → ∀ a, off5 k a + (Sh2 1 128).size a ≤ (Sh2 n 128).size a
  inbA : ∀ a, (![0, 0] : Fin 2 → ℕ) a + (Sh2 1 128).size a ≤ (Sh2 n 128).size a
  inbB : ∀ a, (![1, 0] : Fin 2 → ℕ) a + (Sh2 1 128).size a ≤ (Sh2 n 128).size a
  sqz : (Sh3 1 n 128).Squeezes (Sh2 n 128)
  ret : Fin loop.trips → Σ' (_ : BitVec 32), BitVec 32

theorem inbT : ∀ a, (![0, 0] : Fin 2 → ℕ) a + (Sh2 1024 128).size a ≤ (Sh2 1024 128).size a := by decide
theorem sqz1 : (Sh2 1 128).Squeezes (Sh1 128) := by decide
theorem gth : (Sh2 1024 128).Gathers 0 (Sh2 128 128) := Shape.Gathers.rank2 1024 128 128

variable {nD : ℕ} {τ : Topo} {sig : RefSig} {F : FTy → Type} {Λ : Labels} {n rows : ℕ}

namespace Operands

variable (T : Operands sig n rows)

/-- All of the table, as a gather names it. -/
abbrev all : Memref sig .scVector .hbm (Sh2 1024 128) .f32 :=
  T.tbl.slice (Rect.unit (s := Sh2 1024 128) ![0, 0] (Sh2 1024 128).size inbT) (fun _ => rfl)
/-- A row of the list of row numbers. -/
abbrev row (off : Fin 2 → ℕ) (inb : ∀ a, off a + (Sh2 1 128).size a ≤ (Sh2 n 128).size a) :
    Memref sig .scVector .vmem (Sh1 128) .i32 :=
  (T.lst.slice (Rect.unit (s := Sh2 n 128) off (Sh2 1 128).size inb) (fun _ => rfl)).squeeze (Sh1 128) sqz1
/-- The task's block of the row numbers. -/
abbrev mine (off : Fin 3 → ℕ) (inb : ∀ a, off a + (Sh3 1 n 128).size a ≤ (Sh3 32 n 128).size a)
    (sq : (Sh3 1 n 128).Squeezes (Sh2 n 128)) : Memref sig .scVector .hbm (Sh2 n 128) .i32 :=
  (T.idx.slice (Rect.unit (s := Sh3 32 n 128) off (Sh3 1 n 128).size inb) (fun _ => rfl)).squeeze (Sh2 n 128) sq
/-- A block of 128 rows of the output. -/
abbrev chunk (off : Fin 2 → ℕ) (inb : ∀ a, off a + (Sh2 128 128).size a ≤ (Sh2 rows 128).size a) :
    Memref sig .scVector .hbm (Sh2 128 128) .f32 :=
  T.out.slice (Rect.unit (s := Sh2 rows 128) off (Sh2 128 128).size inb) (fun _ => rfl)

end Operands

section Programs

variable (T : Operands sig n rows) (A : Scalars n rows) (ci : Fin τ.nSC) (cj : Fin τ.nSub)

local notation "TP" => Prog (TpuEff nD τ sig (Elt F) Λ (Proc.scVector ci cj))

/-- Starting the gather of one row of row numbers into a buffer. -/
abbrev startGather (b : Memref sig .scVector .vmem (Sh2 128 128) .f32) (s : DmaSem sig)
    (o : Memref sig .scVector .vmem (Sh1 128) .i32) : TP PUnit.{1} :=
  SparseCore.enqueueIndirectGather (e := .f32) rfl T.all b gth o rfl s (View.wordExact_bits rfl) rfl (Or.inl rfl)

/-- The first part of a trip: the first buffer whole, the second up to its write-out. -/
def part (k : Fin A.loop.trips) : TP (Σ' (_ : BitVec 32), BitVec 32) := do
  SparseCore.waitIndirectGather T.s0 T.all T.b0 (View.wordExact_bits rfl) T.hb0.wordExact
  Prog.lift (.enqueueDma T.b0 (.here (T.chunk (A.off3 k 0#32) (A.inb3A k))) (.dma T.r1) T.hb0.wordExact (View.wordExact_bits rfl) ⟨Or.inl rfl, trivial⟩)
  Prog.lift (.waitDma2 T.r1 T.b0 (T.chunk (A.off3 k 0#32) (A.inb3A k)) T.hb0.wordExact (View.wordExact_bits rfl))
  if h : A.cond1 k = 1#1 then do
    startGather T ci cj T.b0 T.s0 (T.row (A.off4 k) (A.inb4 k h))
    pure ⟨⟩
  else do
    pure ⟨⟩
  SparseCore.waitIndirectGather T.s1 T.all T.b1 (View.wordExact_bits rfl) T.hb1.wordExact
  Prog.lift (.enqueueDma T.b1 (.here (T.chunk (A.off3 k 1#32) (A.inb3B k))) (.dma T.r2) T.hb1.wordExact (View.wordExact_bits rfl) ⟨Or.inl rfl, trivial⟩)
  Prog.lift (.waitDma2 T.r2 T.b1 (T.chunk (A.off3 k 1#32) (A.inb3B k)) T.hb1.wordExact (View.wordExact_bits rfl))
  pure (A.ret k)

/-- One trip. -/
def trip (k : Fin A.loop.trips) (_ : Unit) : TP Unit := do
  let ⟨_, _⟩ ← part T A ci cj k
  if h : A.cond2 k = 1#1 then do
    startGather T ci cj T.b1 T.s1 (T.row (A.off5 k) (A.inb5 k h))
    pure ⟨⟩
  else do
    pure ⟨⟩
  pure ⟨⟩

/-- The task. -/
def task : TP PUnit := do
  Prog.lift (.enqueueDma (T.mine A.off1 A.inb1 A.sqz) (.here T.lst) (.dma T.r0) ((View.wordExact_bits rfl).reshape _ _) T.hlst.wordExact
    ⟨Or.inl rfl, trivial⟩)
  Prog.lift (.waitDma2 T.r0 (T.mine A.off1 A.inb1 A.sqz) T.lst ((View.wordExact_bits rfl).reshape _ _) T.hlst.wordExact)
  startGather T ci cj T.b0 T.s0 (T.row ![0, 0] A.inbA)
  startGather T ci cj T.b1 T.s1 (T.row ![1, 0] A.inbB)
  Scf.Loop.for A.loop A.ok ⟨⟩ (trip T A ci cj)
  pure ⟨⟩

end Programs

end Cert.Proof.Tile

end
-- ==== Proof.TileEq.lean ====
module
public import proofs.«01_k».proof.Proof.Tile
public import proofs.«01_k».proof.Proof.Gen.KernelIdeal.Skeleton
@[expose] public section
noncomputable section
namespace Cert.Proof.KI
open Idealize.ShloMosaic Idealize.SL.Sem Cert.KernelIdeal Cert.KernelIdeal.Gen
variable {F : FTy → Type} [FloatOps F]

section
variable (i : grid0.Coords) (arg2 : Memref sig .scVector .hbm S1024x128 .f32) (harg2 : arg2.IsWhole) (arg3 : Memref sig .scVector .hbm S32x8x128 .i32) (harg3 : arg3.IsWhole) (arg4 : Memref sig .scVector .hbm S32768x128 .f32) (harg4 : arg4.IsWhole) (arg5 : Memref sig .scVector .vmem S8x128 .i32) (harg5 : arg5.IsWhole) (arg6 : Memref sig .scVector .vmem S128x128 .f32) (harg6 : arg6.IsWhole) (arg7 : Memref sig .scVector .vmem S128x128 .f32) (harg7 : arg7.IsWhole) (arg8 : DmaSems sig S_) (arg9 : DmaSems sig S_) (v10_r0 : DmaSems sig S_) (v31_r1 : DmaSems sig S_) (v31_r2 : DmaSems sig S_)

abbrev op0 : Tile.Operands sig 8 32768 where
  tbl := arg2
  idx := arg3
  out := arg4
  lst := arg5
  b0 := arg6
  b1 := arg7
  hlst := harg5
  hb0 := harg6
  hb1 := harg7
  s0 := arg8.sem
  s1 := arg9.sem
  r0 := v10_r0.sem
  r1 := v31_r1.sem
  r2 := v31_r2.sem

abbrev sc0 : Tile.Scalars 8 32768 where
  loop := k0_t1_loop
  ok := k0_t1_ok
  off1 := k0_off1 i
  inb1 := k0_off1_inb i
  off3 := fun k b => k0_off3 i k b
  inb3A := fun k => k0_off3_inb i k 0
  inb3B := fun k => k0_off3_inb i k 1
  cond1 := k0_cond1
  cond2 := k0_cond2
  off4 := k0_off4
  inb4 := k0_off4_inb
  off5 := k0_off5
  inb5 := k0_off5_inb
  inbA := inb_S8x128_S1x128_0_0
  inbB := inb_S8x128_S1x128_1_0
  sqz := squeezes_S1x8x128_S8x128
  ret := fun k => ⟨Scalar.addi (Scalar.muli (Scf.iv 0#32 1#32 k) 2#32) 1#32,
    Scalar.extui (Scalar.cmpi .slt (Scalar.addi (Scalar.addi (Scalar.muli (Scf.iv 0#32 1#32 k) 2#32) 1#32) 2#32) 8#32)⟩

local notation "OP" => op0 arg2 arg3 arg4 arg5 harg5 arg6 harg6 arg7 harg7 arg8 arg9 v10_r0 v31_r1 v31_r2
set_option maxHeartbeats 400000
theorem part_eq (v2) (k) : k0_part1 (F := F) i arg2 harg2 arg3 harg3 arg4 harg4 arg5 harg5 arg6 harg6 arg7 harg7 arg8 arg9 v10_r0 v31_r1 v31_r2 v2 0#32 1#32 k = Tile.part OP (sc0 i) _ _ k := by
  rw [k0_part1_eq_skeleton]
  unfold k0_part1_skel Tile.part
  refine congrArg₂ bind rfl (funext fun _ => ?_)
  refine congrArg₂ bind rfl (funext fun _ => ?_)
  refine congrArg₂ bind rfl (funext fun _ => ?_)
  by_cases h : k0_cond1 k = 1#1
  · rw [dif_pos h]
  · rw [dif_neg h]

theorem trip_eq (v2) (k) (u) : k0_t1_body (F := F) i arg2 harg2 arg3 harg3 arg4 harg4 arg5 harg5 arg6 harg6 arg7 harg7 arg8 arg9 v10_r0 v31_r1 v31_r2 v2 k u = Tile.trip OP (sc0 i) _ _ k u := by
  unfold k0_t1_body Tile.trip
  rw [part_eq]

theorem cc0_eq :
    cc0_gather_kernel (F := F) i arg2 harg2 arg3 harg3 arg4 harg4 arg5 harg5 arg6 harg6 arg7 harg7 arg8 arg9 v10_r0 v31_r1 v31_r2
     = Tile.task OP (sc0 i) _ _ := by
  rw [cc0_gather_kernel_eq_skeleton]
  unfold cc0_gather_kernel_skel
  have h := fun v2 => funext fun k => funext fun u => trip_eq (F := F) i arg2 harg2 arg3 harg3 arg4 harg4 arg5 harg5 arg6 harg6 arg7 harg7 arg8 arg9 v10_r0 v31_r1 v31_r2 v2 k u
  simp only [h]
  rfl
end

section
variable (i : grid2.Coords) (arg2 : Memref sig .scVector .hbm S1024x128 .f32) (harg2 : arg2.IsWhole) (arg3 : Memref sig .scVector .hbm S32x24x128 .i32) (harg3 : arg3.IsWhole) (arg4 : Memref sig .scVector .hbm S98304x128 .f32) (harg4 : arg4.IsWhole) (arg5 : Memref sig .scVector .vmem S24x128 .i32) (harg5 : arg5.IsWhole) (arg6 : Memref sig .scVector .vmem S128x128 .f32) (harg6 : arg6.IsWhole) (arg7 : Memref sig .scVector .vmem S128x128 .f32) (harg7 : arg7.IsWhole) (arg8 : DmaSems sig S_) (arg9 : DmaSems sig S_) (v10_r0 : DmaSems sig S_) (v31_r1 : DmaSems sig S_) (v31_r2 : DmaSems sig S_)

abbrev op2 : Tile.Operands sig 24 98304 where
  tbl := arg2
  idx := arg3
  out := arg4
  lst := arg5
  b0 := arg6
  b1 := arg7
  hlst := harg5
  hb0 := harg6
  hb1 := harg7
  s0 := arg8.sem
  s1 := arg9.sem
  r0 := v10_r0.sem
  r1 := v31_r1.sem
  r2 := v31_r2.sem

abbrev sc2 : Tile.Scalars 24 98304 where
  loop := k2_t1_loop
  ok := k2_t1_ok
  off1 := k2_off1 i
  inb1 := k2_off1_inb i
  off3 := fun k b => k2_off3 i k b
  inb3A := fun k => k2_off3_inb i k 0
  inb3B := fun k => k2_off3_inb i k 1
  cond1 := k2_cond1
  cond2 := k2_cond2
  off4 := k2_off4
  inb4 := k2_off4_inb
  off5 := k2_off5
  inb5 := k2_off5_inb
  inbA := inb_S24x128_S1x128_0_0
  inbB := inb_S24x128_S1x128_1_0
  sqz := squeezes_S1x24x128_S24x128
  ret := fun k => ⟨Scalar.addi (Scalar.muli (Scf.iv 0#32 1#32 k) 2#32) 1#32,
    Scalar.extui (Scalar.cmpi .slt (Scalar.addi (Scalar.addi (Scalar.muli (Scf.iv 0#32 1#32 k) 2#32) 1#32) 2#32) 24#32)⟩

local notation "OP" => op2 arg2 arg3 arg4 arg5 harg5 arg6 harg6 arg7 harg7 arg8 arg9 v10_r0 v31_r1 v31_r2
theorem part_eq2 (v2) (k) : k2_part1 (F := F) i arg2 harg2 arg3 harg3 arg4 harg4 arg5 harg5 arg6 harg6 arg7 harg7 arg8 arg9 v10_r0 v31_r1 v31_r2 v2 0#32 1#32 k = Tile.part OP (sc2 i) _ _ k := by
  rw [k2_part1_eq_skeleton]
  unfold k2_part1_skel Tile.part
  refine congrArg₂ bind rfl (funext fun _ => ?_)
  refine congrArg₂ bind rfl (funext fun _ => ?_)
  refine congrArg₂ bind rfl (funext fun _ => ?_)
  by_cases h : k2_cond1 k = 1#1
  · rw [dif_pos h]
  · rw [dif_neg h]

theorem trip_eq2 (v2) (k) (u) : k2_t1_body (F := F) i arg2 harg2 arg3 harg3 arg4 harg4 arg5 harg5 arg6 harg6 arg7 harg7 arg8 arg9 v10_r0 v31_r1 v31_r2 v2 k u = Tile.trip OP (sc2 i) _ _ k u := by
  unfold k2_t1_body Tile.trip
  rw [part_eq2]

theorem cc2_eq :
    cc2_gather_kernel (F := F) i arg2 harg2 arg3 harg3 arg4 harg4 arg5 harg5 arg6 harg6 arg7 harg7 arg8 arg9 v10_r0 v31_r1 v31_r2
     = Tile.task OP (sc2 i) _ _ := by
  rw [cc2_gather_kernel_eq_skeleton]
  unfold cc2_gather_kernel_skel
  have h := fun v2 => funext fun k => funext fun u => trip_eq2 (F := F) i arg2 harg2 arg3 harg3 arg4 harg4 arg5 harg5 arg6 harg6 arg7 harg7 arg8 arg9 v10_r0 v31_r1 v31_r2 v2 k u
  simp only [h]
  rfl
end

section
variable (i : grid4.Coords) (arg2 : Memref sig .scVector .hbm S1024x128 .f32) (harg2 : arg2.IsWhole) (arg3 : Memref sig .scVector .hbm S32x48x128 .i32) (harg3 : arg3.IsWhole) (arg4 : Memref sig .scVector .hbm S196608x128 .f32) (harg4 : arg4.IsWhole) (arg5 : Memref sig .scVector .vmem S48x128 .i32) (harg5 : arg5.IsWhole) (arg6 : Memref sig .scVector .vmem S128x128 .f32) (harg6 : arg6.IsWhole) (arg7 : Memref sig .scVector .vmem S128x128 .f32) (harg7 : arg7.IsWhole) (arg8 : DmaSems sig S_) (arg9 : DmaSems sig S_) (v10_r0 : DmaSems sig S_) (v31_r1 : DmaSems sig S_) (v31_r2 : DmaSems sig S_)

abbrev op4 : Tile.Operands sig 48 196608 where
  tbl := arg2
  idx := arg3
  out := arg4
  lst := arg5
  b0 := arg6
  b1 := arg7
  hlst := harg5
  hb0 := harg6
  hb1 := harg7
  s0 := arg8.sem
  s1 := arg9.sem
  r0 := v10_r0.sem
  r1 := v31_r1.sem
  r2 := v31_r2.sem

abbrev sc4 : Tile.Scalars 48 196608 where
  loop := k4_t1_loop
  ok := k4_t1_ok
  off1 := k4_off1 i
  inb1 := k4_off1_inb i
  off3 := fun k b => k4_off3 i k b
  inb3A := fun k => k4_off3_inb i k 0
  inb3B := fun k => k4_off3_inb i k 1
  cond1 := k4_cond1
  cond2 := k4_cond2
  off4 := k4_off4
  inb4 := k4_off4_inb
  off5 := k4_off5
  inb5 := k4_off5_inb
  inbA := inb_S48x128_S1x128_0_0
  inbB := inb_S48x128_S1x128_1_0
  sqz := squeezes_S1x48x128_S48x128
  ret := fun k => ⟨Scalar.addi (Scalar.muli (Scf.iv 0#32 1#32 k) 2#32) 1#32,
    Scalar.extui (Scalar.cmpi .slt (Scalar.addi (Scalar.addi (Scalar.muli (Scf.iv 0#32 1#32 k) 2#32) 1#32) 2#32) 48#32)⟩

local notation "OP" => op4 arg2 arg3 arg4 arg5 harg5 arg6 harg6 arg7 harg7 arg8 arg9 v10_r0 v31_r1 v31_r2
theorem part_eq4 (v2) (k) : k4_part1 (F := F) i arg2 harg2 arg3 harg3 arg4 harg4 arg5 harg5 arg6 harg6 arg7 harg7 arg8 arg9 v10_r0 v31_r1 v31_r2 v2 0#32 1#32 k = Tile.part OP (sc4 i) _ _ k := by
  rw [k4_part1_eq_skeleton]
  unfold k4_part1_skel Tile.part
  refine congrArg₂ bind rfl (funext fun _ => ?_)
  refine congrArg₂ bind rfl (funext fun _ => ?_)
  refine congrArg₂ bind rfl (funext fun _ => ?_)
  by_cases h : k4_cond1 k = 1#1
  · rw [dif_pos h]
  · rw [dif_neg h]

theorem trip_eq4 (v2) (k) (u) : k4_t1_body (F := F) i arg2 harg2 arg3 harg3 arg4 harg4 arg5 harg5 arg6 harg6 arg7 harg7 arg8 arg9 v10_r0 v31_r1 v31_r2 v2 k u = Tile.trip OP (sc4 i) _ _ k u := by
  unfold k4_t1_body Tile.trip
  rw [part_eq4]

theorem cc4_eq :
    cc4_gather_kernel (F := F) i arg2 harg2 arg3 harg3 arg4 harg4 arg5 harg5 arg6 harg6 arg7 harg7 arg8 arg9 v10_r0 v31_r1 v31_r2
     = Tile.task OP (sc4 i) _ _ := by
  rw [cc4_gather_kernel_eq_skeleton]
  unfold cc4_gather_kernel_skel
  have h := fun v2 => funext fun k => funext fun u => trip_eq4 (F := F) i arg2 harg2 arg3 harg3 arg4 harg4 arg5 harg5 arg6 harg6 arg7 harg7 arg8 arg9 v10_r0 v31_r1 v31_r2 v2 k u
  simp only [h]
  rfl
end
/-- The last two calls' tasks are one program. -/
theorem cc6_eq4 (i : grid6.Coords) : cc6_gather_kernel (F := F) i = cc4_gather_kernel (F := F) i := rfl
end Cert.Proof.KI
end
-- ==== Proof.TileRun.lean ====
/-
  The effect of one gather task: from the table and the task's row numbers it leaves, in each of the task's blocks of
  the output, the table's rows at those numbers.
-/
module

public import proofs.«01_k».proof.Proof.Tile

@[expose] public section

noncomputable section

namespace Cert.Proof.Tile

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic

variable {nD : ℕ} {τ : Topo} {sig : RefSig} {F : FTy → Type} {Λ : Labels} {n rows : ℕ}

/-! ## What a gather reads -/

/-- Row `j` of the row numbers `L`, looked up in the table `tb`. -/
def lookup (tb : (Sh2 1024 128).Idx → Elt F .f32) (L : (Sh2 n 128).Idx → BitVec 32) (j : Fin n) :
    (Sh2 128 128).Idx → Elt F .f32 :=
  fun x => tb (ix2 (Fin.ofNat 1024 (L (ix2 j (x 0))).toNat) (x 1))

/-- The whole table read through the slice a gather names is the table. -/
theorem read_all (T : Operands sig n rows) (f : T.tbl.view.ty.Contents (Elt F)) :
    T.all.view.read (Elt F) f = T.tbl.view.read (Elt F) f := by
  funext x
  rw [View.read_apply, View.read_apply]
  congr 2
  show T.tbl.view.emb _ = _
  congr 1
  funext a; apply Fin.ext
  fin_cases a <;> simp [Rect.emb, Rect.unit]

/-- A row of the list, read through its squeezed slice. -/
theorem read_row (T : Operands sig n rows) (j : Fin n) (inb) (f : T.lst.view.ty.Contents (Elt F)) (x : (Sh1 128).Idx) :
    (T.row ![j.val, 0] inb).view.read (Elt F) f x = T.lst.view.read (Elt F) f (ix2 j (x 0)) := by
  rw [View.read_apply, View.read_apply]
  congr 2
  show T.lst.view.emb _ = _
  congr 1
  have hr : Shape.reshapeEquiv (s := Sh2 1 128) (s' := Sh1 128) sqz1.numel_eq x = ix2 (⟨0, Nat.one_pos⟩ : Fin 1) (x 0) := by
    apply Shape.reshapeEquiv_eq_of_rowMajor
    refine (Shape.rowMajor_val_two (ix2 (⟨0, Nat.one_pos⟩ : Fin 1) (x 0 : Fin 128))).trans (Eq.trans ?_ (Shape.rowMajor_val_one x).symm)
    show 0 * 128 + (x 0).val = (x 0).val
    omega
  funext a; apply Fin.ext
  show ((Rect.unit (s := Sh2 n 128) ![j.val, 0] (Sh2 1 128).size inb).emb (Shape.reshapeEquiv (s := Sh2 1 128) (s' := Sh1 128) sqz1.numel_eq x) a).val = _
  rw [hr]
  fin_cases a <;> simp [Rect.emb, Rect.unit, ix2]

/-- What a gather of row `j` of the list lands. -/
theorem payload_eq (T : Operands sig n rows) (j : Fin n) (inb) (ft : T.tbl.view.ty.Contents (Elt F)) (fl : T.lst.view.ty.Contents (Elt F))
    (hn) (hin) :
    SparseCore.gatherPayload gth (T.all.view.read (Elt F) ft) (SparseCore.rows ((T.row ![j.val, 0] inb).view.read (Elt F) fl) hn hin)
      = lookup (T.tbl.view.read (Elt F) ft) (T.lst.view.read (Elt F) fl) j := by
  funext x
  unfold SparseCore.gatherPayload lookup
  rw [read_all]
  congr 1
  have hk : ∀ k : Fin (Sh1 128).numel, ((Sh1 128).rowMajor.symm k 0).val = k.val := by
    intro k
    have h := Shape.rowMajor_val_one ((Sh1 128).rowMajor.symm k)
    rw [Equiv.apply_symm_apply] at h
    exact h.symm
  funext a; apply Fin.ext
  fin_cases a
  · have hlt := hin (ix1 (x 0))
    rw [read_row] at hlt
    have e : ((gth.idx (SparseCore.rows ((T.row ![j.val, 0] inb).view.read (Elt F) fl) hn hin) x) 0).val
        = (T.lst.view.read (Elt F) fl (ix2 j (x 0))).toNat := by
      show ((T.row ![j.val, 0] inb).view.read (Elt F) fl _).toNat = _
      rw [read_row]
      congr 3
      exact Fin.ext (hk _)
    show ((gth.idx (SparseCore.rows ((T.row ![j.val, 0] inb).view.read (Elt F) fl) hn hin) x) 0).val
      = (T.lst.view.read (Elt F) fl (ix2 j (x 0))).toNat % 1024
    exact e.trans (Nat.mod_eq_of_lt hlt).symm
  · rfl

/-! ## The blocks of the output -/

/-- Block `j` of the task's output: 128 rows from row `base + 128 * j`. -/
abbrev blk (T : Operands sig n rows) (base : ℕ) (hb : base + 128 * n ≤ rows) (j : Fin n) :
    Memref sig .scVector .hbm (Sh2 128 128) .f32 :=
  T.chunk ![base + 128 * j.val, 0] (by
    have := j.isLt
    intro a; fin_cases a
    · show base + 128 * j.val + 128 ≤ rows; omega
    · show 0 + 128 ≤ 128; omega)

/-- The first `m` blocks of the output hold what the lookups read. -/
def Done (T : Operands sig n rows) (base : ℕ) (hb : base + 128 * n ≤ rows) (tb : (Sh2 1024 128).Idx → Elt F .f32)
    (L : (Sh2 n 128).Idx → BitVec 32) (m : ℕ) (f : T.out.view.ty.Contents (Elt F)) : Prop :=
  ∀ j : Fin n, j.val < m → (blk T base hb j).view.read (Elt F) f = lookup tb L j

/-- Two different blocks share no element. -/
theorem blk_disjoint (T : Operands sig n rows) (base : ℕ) (hb : base + 128 * n ≤ rows) {j j' : Fin n} (h : j ≠ j') :
    Disjoint (blk T base hb j).view.set (blk T base hb j').view.set := by
  rw [Finset.disjoint_left]
  intro i hi hi'
  obtain ⟨x, -, hx⟩ := Finset.mem_map.1 hi
  obtain ⟨y, -, hy⟩ := Finset.mem_map.1 hi'
  have e := congrArg Fin.val (congrFun (T.out.view.emb.injective (hx.trans hy.symm)) 0)
  have hx0 : (x 0).val < 128 := (x 0).isLt
  have hy0 : (y 0).val < 128 := (y 0).isLt
  have e' : base + 128 * j.val + 1 * (x 0).val = base + 128 * j'.val + 1 * (y 0).val := e
  exact h (Fin.ext (by omega))

/-- Writing the next block keeps the ones before it and adds it. -/
theorem Done.step {T : Operands sig n rows} {base : ℕ} {hb : base + 128 * n ≤ rows} {tb : (Sh2 1024 128).Idx → Elt F .f32}
    {L : (Sh2 n 128).Idx → BitVec 32} {j : Fin n} {f : T.out.view.ty.Contents (Elt F)} (h : Done T base hb tb L j.val f) :
    Done T base hb tb L (j.val + 1) ((blk T base hb j).view.write (Elt F) f (lookup tb L j) Finset.univ) := by
  intro j' hj'
  by_cases e : j' = j
  · subst e; exact View.read_write_univ _ _
  · have hlt : j'.val < j.val := lt_of_le_of_ne (Nat.lt_succ_iff.1 hj') fun e' => e (Fin.ext e')
    rw [← h j' hlt]
    refine View.read_slice_write_slice_of_disjoint (v := T.out.view) _ _ f _ Finset.univ ?_
    rw [View.setOn_univ]
    exact blk_disjoint T base hb e

/-! ## The run -/

section Run

variable {Ix : Type} [DecidableEq Ix] {Name : Type} [DecidableEq Name] [Infinite Name]
variable {U : Type} [URA U] {Lvl : Type} [Preorder Lvl] {defs : Defs nD τ sig (Elt F) Λ}
local notation "𝕄" => MT nD τ sig Ix (Elt F) Name U Lvl
variable (EC : UEmb Counters (MT nD τ sig Ix (Elt F) Name U Lvl)) [EC.LandsIn (upEmb : UEmb _ (MT nD τ sig Ix (Elt F) Name U Lvl))]
variable (𝒱 : Variants) (bd : Option 𝒱.V) (ι : Ix)
variable (T : Operands sig n rows) (A : Scalars n rows) (d : Dev nD) (ci : Fin τ.nSC) (cj : Fin τ.nSub)

/-- A buffer at rest: held whole, with the read shares of the table and the list its gathers use, its semaphore at zero. -/
def Idle (b : Memref sig .scVector .vmem (Sh2 128 128) .f32) (s : DmaSem sig) (qt ql : PosShare TreeShare)
    (ft : Buf (Elt F) (T.tbl.view.loc (SparseCore.V d ci cj))) (fl : Buf (Elt F) (T.lst.view.loc (SparseCore.V d ci cj))) : sProp 𝕄 :=
  iprop((∃ fb : Buf (Elt F) (b.view.loc (SparseCore.V d ci cj)), b.view.loc (SparseCore.V d ci cj) ↦{fullShare} fb) ∗ (T.tbl.view.loc (SparseCore.V d ci cj) ↦{qt} ft)
    ∗ (T.lst.view.loc (SparseCore.V d ci cj) ↦{ql} fl) ∗ semVal ((SparseCore.V d ci cj), SemLoc.dma s) 0)

/-- A buffer with the gather of row `j` of the list under way into it. -/
def Flying (b : Memref sig .scVector .vmem (Sh2 128 128) .f32) (s : DmaSem sig) (qt ql : PosShare TreeShare)
    (ft : Buf (Elt F) (T.tbl.view.loc (SparseCore.V d ci cj))) (fl : Buf (Elt F) (T.lst.view.loc (SparseCore.V d ci cj))) (j : Fin n) : sProp 𝕄 :=
  iprop(∃ fb : Buf (Elt F) (b.view.loc (SparseCore.V d ci cj)), Transfers.Flight EC (SparseCore.V d ci cj) (.dma s) ι b.view.dmaCredit
    iprop((b.view.loc (SparseCore.V d ci cj) ↦{fullShare} (b.view.write (Elt F) fb (lookup (T.tbl.view.read (Elt F) ft) (T.lst.view.read (Elt F) fl) j) Finset.univ))
      ∗ (T.tbl.view.loc (SparseCore.V d ci cj) ↦{qt} ft) ∗ (T.lst.view.loc (SparseCore.V d ci cj) ↦{ql} fl)))

variable {b : Memref sig .scVector .vmem (Sh2 128 128) .f32} {s : DmaSem sig} {qt ql : PosShare TreeShare}
variable {ft : Buf (Elt F) (T.tbl.view.loc (SparseCore.V d ci cj))} {fl : Buf (Elt F) (T.lst.view.loc (SparseCore.V d ci cj))}
variable {α : Type} {Q : α → sProp (MT nD τ sig Ix (Elt F) Name U Lvl)}

/-- The rows of a buffer carry the buffer's credit between them. -/
abbrev RowCredit (b : Memref sig .scVector .vmem (Sh2 128 128) .f32) : Prop :=
  ∑ j, (b.slice ((Sh2 128 128).rowRect gth.axis' j) ((Sh2 128 128).stride_rowRect gth.axis' j)).view.dmaCredit = b.view.dmaCredit

/-- Starting a gather of row `j` into a buffer at rest puts it under way. -/
theorem wp_start (hcr : RowCredit b) (j : Fin n) (off : Fin 2 → ℕ) (inb) (hoff : off = ![j.val, 0])
    (hin : ∀ x, (T.lst.view.read (Elt F) fl x).toNat < 1024)
    {k : PUnit → Prog (TpuEff nD τ sig (Elt F) Λ (Proc.scVector ci cj)) α} :
    (Idle T d ci cj b s qt ql ft fl : sProp 𝕄)
      ⊢ iprop((Flying EC ι T d ci cj b s qt ql ft fl j -∗ wp frame (wpE defs 𝒱 (SparseCore.V d ci cj) bd) Set.univ (k ⟨⟩) Q)
        -∗ wp frame (wpE defs 𝒱 (SparseCore.V d ci cj) bd) Set.univ (startGather T ci cj b s (T.row off inb) >>= k) Q) := by
  subst hoff
  unfold Idle
  iintro ⟨⟨%fb, Hb⟩, Ht, Hl, Hs⟩ Hk
  have hin' : ∀ x, ((T.row ![j.val, 0] inb).view.read (Elt F) fl x).toNat < (Sh2 1024 128).size gth.axis := fun x => by
    rw [read_row]; exact hin _
  iapply (SparseCore.wp_gatherFromWhole (src := T.all) (dst := b) (hg := gth) (offs := T.row ![j.val, 0] inb) (fs := ft) (fd := fb) (fo := fl)
    EC 𝒱 (SparseCore.V d ci cj) bd ι b.view.dmaCredit hcr (by decide) hin') $$ [Hb Ht Hl Hs]
  · iframe Hb Ht Hl Hs
  iintro Hf
  iapply Hk
  unfold Flying
  iexists fb
  rw [← payload_eq T j inb ft fl rfl hin']
  iexact Hf

/-- Waiting for the gather under way, writing its rows out to block `j` and waiting for that: the block holds the
    looked-up rows and the buffer is at rest. -/
theorem wp_drain (hb : b.IsWhole) (r : DmaSem sig) (j : Fin n) (base : ℕ) (hbase : base + 128 * n ≤ rows) (off : Fin 2 → ℕ) (inb)
    (hoff : off = ![base + 128 * j.val, 0]) {Sd : Finset (Idx (T.out.view.loc (SparseCore.V d ci cj)))} (hSd : (blk T base hbase j).view.set ⊆ Sd)
    {fo : Buf (Elt F) (T.out.view.loc (SparseCore.V d ci cj))} {O : CellTallies nD τ sig Ix} {W : Waits sig Ix}
    {k : PUnit → Prog (TpuEff nD τ sig (Elt F) Λ (Proc.scVector ci cj)) α} :
    iprop(Flying EC ι T d ci cj b s qt ql ft fl j ∗ (T.out.view.loc (SparseCore.V d ci cj) ↦[Sd]{fullShare} fo) ∗ semVal ((SparseCore.V d ci cj), SemLoc.dma r) 0
        ∗ owes (SparseCore.V d ci cj) O W ∗ Transfers.MayWaits (SparseCore.V d ci cj) ι O)
      ⊢ iprop((iprop(Idle T d ci cj b s qt ql ft fl
            ∗ (T.out.view.loc (SparseCore.V d ci cj) ↦[Sd]{fullShare} ((blk T base hbase j).view.write (Elt F) fo (lookup (T.tbl.view.read (Elt F) ft) (T.lst.view.read (Elt F) fl) j) Finset.univ))
            ∗ semVal ((SparseCore.V d ci cj), SemLoc.dma r) 0 ∗ owes (SparseCore.V d ci cj) O (insert (SemLoc.dma r, ι) (insert (SemLoc.dma s, ι) W)))
          -∗ wp frame (wpE defs 𝒱 (SparseCore.V d ci cj) bd) Set.univ (k ⟨⟩) Q)
        -∗ wp frame (wpE defs 𝒱 (SparseCore.V d ci cj) bd) Set.univ
            (.op (.waitDma2 s T.all b (View.wordExact_bits rfl) hb.wordExact) fun _ =>
             .op (.enqueueDma b (.here (T.chunk off inb)) (.dma r) hb.wordExact (View.wordExact_bits rfl) ⟨Or.inl rfl, trivial⟩) fun _ =>
             .op (.waitDma2 r b (T.chunk off inb) hb.wordExact (View.wordExact_bits rfl)) k) Q) := by
  subst hoff
  unfold Flying
  iintro ⟨⟨%fb, Hf⟩, Ho, Hr, HO, #Hmw⟩ Hk
  ihave Hmw1 := (Transfers.MayWaits.elim (SemLoc.dma s)) $$ Hmw
  iapply (Transfers.wp_waitLocalO EC 𝒱 (SparseCore.V d ci cj) bd ι (dstw := b) rfl) $$ [Hf HO Hmw1]
  · iframe Hf HO Hmw1
  iintro ⟨⟨Hb, Ht, Hl⟩, Hs, HO⟩
  iapply (Transfers.wp_dmaFromWhole EC 𝒱 (SparseCore.V d ci cj) bd ι (blk T base hbase j).view.dmaCredit (src := b) (dst := blk T base hbase j) (Sd := Sd) rfl
    (View.dmaCredit_pos _ (by decide)) hSd) $$ [Hb Ho Hr]
  · iframe Hb Ho Hr
  iintro Hg
  ihave Hmw2 := (Transfers.MayWaits.elim (SemLoc.dma r)) $$ Hmw
  iapply (Transfers.wp_waitLocalO EC 𝒱 (SparseCore.V d ci cj) bd ι (dstw := blk T base hbase j) rfl) $$ [Hg HO Hmw2]
  · iframe Hg HO Hmw2
  iintro ⟨⟨Ho, Hb⟩, Hr, HO⟩
  iapply Hk
  iframe Hr HO
  isplitl [Hb Ht Hl Hs]
  · unfold Idle
    iframe Ht Hl Hs
    iexists _; iexact Hb
  · rw [View.read_write_univ]
    iexact Ho

/-- The task's scalars in closed form: its blocks are `n = 2 * trips` consecutive ones from row `base`, and each trip
    writes two of them and starts the gathers two rows on where there are such rows. -/
structure Closed (A : Scalars n rows) (base : ℕ) : Prop where
  two : 2 ≤ n
  trips : n = 2 * A.loop.trips
  fits : base + 128 * n ≤ rows
  off3A : ∀ k, A.off3 k 0#32 = ![base + 128 * (2 * k.val), 0]
  off3B : ∀ k, A.off3 k 1#32 = ![base + 128 * (2 * k.val + 1), 0]
  off4 : ∀ k, A.off4 k = ![2 * k.val + 2, 0]
  off5 : ∀ k, A.off5 k = ![2 * k.val + 3, 0]
  cond1 : ∀ k, A.cond1 k = 1#1 ↔ 2 * k.val + 2 < n
  cond2 : ∀ k, A.cond2 k = 1#1 ↔ 2 * k.val + 3 < n

/-- A buffer before its `m`-th row: that row's gather under way when there is such a row, at rest otherwise. -/
def Slot (b : Memref sig .scVector .vmem (Sh2 128 128) .f32) (s : DmaSem sig) (qt ql : PosShare TreeShare)
    (ft : Buf (Elt F) (T.tbl.view.loc (SparseCore.V d ci cj))) (fl : Buf (Elt F) (T.lst.view.loc (SparseCore.V d ci cj))) (m : ℕ) : sProp 𝕄 :=
  if h : m < n then Flying EC ι T d ci cj b s qt ql ft fl ⟨m, h⟩ else Idle T d ci cj b s qt ql ft fl

/-- What holds before trip `k`. -/
def Inv (base : ℕ) (hb : base + 128 * n ≤ rows) (qt ql : PosShare TreeShare) (Sd : Finset (Idx (T.out.view.loc (SparseCore.V d ci cj))))
    (ft : Buf (Elt F) (T.tbl.view.loc (SparseCore.V d ci cj))) (fl : Buf (Elt F) (T.lst.view.loc (SparseCore.V d ci cj)))
    (O : CellTallies nD τ sig Ix) (W : Waits sig Ix) (k : ℕ) : sProp 𝕄 :=
  iprop(Slot EC ι T d ci cj T.b0 T.s0 qt.left ql.left ft fl (2 * k) ∗ Slot EC ι T d ci cj T.b1 T.s1 qt.right ql.right ft fl (2 * k + 1)
    ∗ (∃ fo : Buf (Elt F) (T.out.view.loc (SparseCore.V d ci cj)),
        ⌜Done T base hb (T.tbl.view.read (Elt F) ft) (T.lst.view.read (Elt F) fl) (2 * k) fo⌝ ∗ (T.out.view.loc (SparseCore.V d ci cj) ↦[Sd]{fullShare} fo))
    ∗ semVal ((SparseCore.V d ci cj), SemLoc.dma T.r1) 0 ∗ semVal ((SparseCore.V d ci cj), SemLoc.dma T.r2) 0
    ∗ Transfers.MayWaits (SparseCore.V d ci cj) ι O
    ∗ (∃ W', ⌜∀ p ∈ W', p ∈ W ∨ p.2 = ι⌝ ∗ owes (SparseCore.V d ci cj) O W'))

section Forms

local notation "TP" => Prog (TpuEff nD τ sig (Elt F) Λ (Proc.scVector ci cj))

/-- Waiting for a gather, then writing its buffer out to a block of the output and waiting for that. -/
abbrev drain {β : Type} (b : Memref sig .scVector .vmem (Sh2 128 128) .f32) (hb : b.IsWhole) (s r : DmaSem sig)
    (o : Memref sig .scVector .hbm (Sh2 128 128) .f32) (k : PUnit.{1} → TP β) : TP β :=
  .op (.waitDma2 s T.all b (View.wordExact_bits rfl) hb.wordExact) fun _ =>
  .op (.enqueueDma b (.here o) (.dma r) hb.wordExact (View.wordExact_bits rfl) ⟨Or.inl rfl, trivial⟩) fun _ =>
  .op (.waitDma2 r b o hb.wordExact (View.wordExact_bits rfl)) k

/-- The second half of a trip's first part. -/
abbrev part2 (k : Fin A.loop.trips) : TP (Σ' (_ : BitVec 32), BitVec 32) :=
  drain T ci cj T.b1 T.hb1 T.s1 T.r2 (T.chunk (A.off3 k 1#32) (A.inb3B k)) fun _ => .ret (A.ret k)

/-- The end of a trip. -/
abbrev tail2 (k : Fin A.loop.trips) : TP Unit :=
  if h : A.cond2 k = 1#1 then startGather T ci cj T.b1 T.s1 (T.row (A.off5 k) (A.inb5 k h)) >>= fun _ => .ret ⟨⟩ else .ret ⟨⟩

theorem part_nf (k : Fin A.loop.trips) : (part T A ci cj k : TP _) =
    drain T ci cj T.b0 T.hb0 T.s0 T.r1 (T.chunk (A.off3 k 0#32) (A.inb3A k)) fun _ =>
      if h : A.cond1 k = 1#1 then startGather T ci cj T.b0 T.s0 (T.row (A.off4 k) (A.inb4 k h)) >>= fun _ => part2 T A ci cj k
      else part2 T A ci cj k := rfl

theorem trip_nf (k : Fin A.loop.trips) (u : Unit) : (trip T A ci cj k u : TP _) =
    (part T A ci cj k >>= fun _ => tail2 T A ci cj k) := rfl

theorem task_nf : (task T A ci cj : TP _) =
    .op (.enqueueDma (T.mine A.off1 A.inb1 A.sqz) (.here T.lst) (.dma T.r0) ((View.wordExact_bits rfl).reshape _ _) T.hlst.wordExact
      ⟨Or.inl rfl, trivial⟩) fun _ =>
    .op (.waitDma2 T.r0 (T.mine A.off1 A.inb1 A.sqz) T.lst ((View.wordExact_bits rfl).reshape _ _) T.hlst.wordExact) fun _ =>
    startGather T ci cj T.b0 T.s0 (T.row ![0, 0] A.inbA) >>= fun _ =>
    startGather T ci cj T.b1 T.s1 (T.row ![1, 0] A.inbB) >>= fun _ =>
    (Scf.Loop.for A.loop A.ok ⟨⟩ (trip T A ci cj)) >>= fun _ => .ret ⟨⟩ := rfl

end Forms

/-- One trip keeps what holds before each. -/
theorem wp_trip (h0 : RowCredit T.b0) (h1 : RowCredit T.b1) (base : ℕ) (C : Closed A base)
    {qt ql : PosShare TreeShare} {Sd : Finset (Idx (T.out.view.loc (SparseCore.V d ci cj)))}
    (hSd : ∀ j, (blk T base C.fits j).view.set ⊆ Sd)
    {ft : Buf (Elt F) (T.tbl.view.loc (SparseCore.V d ci cj))} {fl : Buf (Elt F) (T.lst.view.loc (SparseCore.V d ci cj))}
    (hin : ∀ x, (T.lst.view.read (Elt F) fl x).toNat < 1024)
    {O : CellTallies nD τ sig Ix} {W : Waits sig Ix} (k : Fin A.loop.trips) (u : Unit) :
    (Inv EC ι T d ci cj base C.fits qt ql Sd ft fl O W k.val : sProp 𝕄)
      ⊢ wp frame (wpE defs 𝒱 (SparseCore.V d ci cj) bd) Set.univ (trip T A ci cj k u)
          fun _ => Inv EC ι T d ci cj base C.fits qt ql Sd ft fl O W (k.val + 1) := by
  have hk := k.isLt
  have htr := C.trips
  have e0 : 2 * k.val < n := by omega
  have e1 : 2 * k.val + 1 < n := by omega
  unfold Inv
  rw [trip_nf, wp_bind, part_nf]
  have s0 : (Slot EC ι T d ci cj T.b0 T.s0 qt.left ql.left ft fl (2 * k.val) : sProp (MT nD τ sig Ix (Elt F) Name U Lvl))
      = Flying EC ι T d ci cj T.b0 T.s0 qt.left ql.left ft fl ⟨2 * k.val, e0⟩ := dif_pos e0
  have s1 : (Slot EC ι T d ci cj T.b1 T.s1 qt.right ql.right ft fl (2 * k.val + 1) : sProp (MT nD τ sig Ix (Elt F) Name U Lvl))
      = Flying EC ι T d ci cj T.b1 T.s1 qt.right ql.right ft fl ⟨2 * k.val + 1, e1⟩ := dif_pos e1
  rw [s0, s1]
  iintro ⟨H0, H1, ⟨%fo, %hD, Ho⟩, Hr1, Hr2, #Hmw, ⟨%W1, %hW1, HO⟩⟩
  iapply (wp_drain EC 𝒱 bd ι T d ci cj T.hb0 T.r1 ⟨2 * k.val, e0⟩ base C.fits _ (A.inb3A k) (C.off3A k) (hSd _)) $$ [H0 Ho Hr1 HO]
  · iframe H0 Ho Hr1 HO Hmw
  iintro ⟨H0, Ho, Hr1, HO⟩
  replace hD := hD.step (j := ⟨2 * k.val, e0⟩)
  -- the second half, from whatever the first buffer is left at
  have hrest : ∀ (R : sProp (MT nD τ sig Ix (Elt F) Name U Lvl)), (R ⊢ (Slot EC ι T d ci cj T.b0 T.s0 qt.left ql.left ft fl (2 * (k.val + 1)) : sProp _)) →
      iprop(R ∗ Flying EC ι T d ci cj T.b1 T.s1 qt.right ql.right ft fl (⟨2 * k.val + 1, e1⟩ : Fin n)
        ∗ (T.out.view.loc (SparseCore.V d ci cj) ↦[Sd]{fullShare} ((blk T base C.fits (⟨2 * k.val, e0⟩ : Fin n)).view.write (Elt F) fo
            (lookup (T.tbl.view.read (Elt F) ft) (T.lst.view.read (Elt F) fl) (⟨2 * k.val, e0⟩ : Fin n)) Finset.univ))
        ∗ semVal ((SparseCore.V d ci cj), SemLoc.dma T.r1) 0 ∗ semVal ((SparseCore.V d ci cj), SemLoc.dma T.r2) 0
        ∗ Transfers.MayWaits (SparseCore.V d ci cj) ι O
        ∗ owes (SparseCore.V d ci cj) O (insert (SemLoc.dma T.r1, ι) (insert (SemLoc.dma T.s0, ι) W1)))
      ⊢ wp frame (wpE defs 𝒱 (SparseCore.V d ci cj) bd) Set.univ (part2 T A ci cj k) fun _ =>
          wp frame (wpE defs 𝒱 (SparseCore.V d ci cj) bd) Set.univ
            (tail2 T A ci cj k) fun _ => Inv EC ι T d ci cj base C.fits qt ql Sd ft fl O W (k.val + 1) := by
    intro R hR
    iintro ⟨H0, H1, Ho, Hr1, Hr2, #Hmw, HO⟩
    iapply (wp_drain EC 𝒱 bd ι T d ci cj T.hb1 T.r2 ⟨2 * k.val + 1, e1⟩ base C.fits _ (A.inb3B k) (C.off3B k) (hSd _)) $$ [H1 Ho Hr2 HO]
    · iframe H1 Ho Hr2 HO Hmw
    iintro ⟨H1, Ho, Hr2, HO⟩
    have hD2 := Done.step (j := ⟨2 * k.val + 1, e1⟩) hD
    rw [wp_ret]
    imodintro
    have hW2 : ∀ p ∈ insert (SemLoc.dma T.r2, ι) (insert (SemLoc.dma T.s1, ι) (insert (SemLoc.dma T.r1, ι) (insert (SemLoc.dma T.s0, ι) W1))),
        p ∈ W ∨ p.2 = ι := by
      intro p hp
      simp only [Finset.mem_insert] at hp
      rcases hp with rfl | rfl | rfl | rfl | hp
      · exact .inr rfl
      · exact .inr rfl
      · exact .inr rfl
      · exact .inr rfl
      · exact hW1 p hp
    unfold Inv tail2
    by_cases c2 : A.cond2 k = 1#1
    · have e3 := (C.cond2 k).1 c2
      rw [dif_pos c2]
      iapply (wp_start EC 𝒱 bd ι T d ci cj h1 ⟨2 * k.val + 3, e3⟩ _ (A.inb5 k c2) (C.off5 k) hin) $$ H1
      iintro H1
      rw [wp_ret]
      imodintro
      isplitl [H0]; · iapply hR; iexact H0
      isplitl [H1]
      · unfold Slot; rw [dif_pos (show 2 * (k.val + 1) + 1 < n by omega)]; iexact H1
      isplitl [Ho]
      · iexists _; isplitr; · ipureintro; exact hD2
        iexact Ho
      iframe Hr1 Hr2 Hmw
      iexists _; isplitr; · ipureintro; exact hW2
      iexact HO
    · have e3 : ¬ 2 * k.val + 3 < n := fun h => c2 ((C.cond2 k).2 h)
      rw [dif_neg c2, wp_ret]
      imodintro
      isplitl [H0]; · iapply hR; iexact H0
      isplitl [H1]
      · unfold Slot; rw [dif_neg (show ¬ 2 * (k.val + 1) + 1 < n by omega)]; iexact H1
      isplitl [Ho]
      · iexists _; isplitr; · ipureintro; exact hD2
        iexact Ho
      iframe Hr1 Hr2 Hmw
      iexists _; isplitr; · ipureintro; exact hW2
      iexact HO
  by_cases c1 : A.cond1 k = 1#1
  · have e2 := (C.cond1 k).1 c1
    rw [dif_pos c1]
    iapply (wp_start EC 𝒱 bd ι T d ci cj h0 ⟨2 * k.val + 2, e2⟩ _ (A.inb4 k c1) (C.off4 k) hin) $$ H0
    iintro H0
    iapply (hrest _ (by unfold Slot; rw [dif_pos (show 2 * (k.val + 1) < n by omega)]))
    iframe H0 H1 Ho Hr1 Hr2 Hmw HO
  · have e2 : ¬ 2 * k.val + 2 < n := fun h => c1 ((C.cond1 k).2 h)
    rw [dif_neg c1]
    iapply (hrest _ (by unfold Slot; rw [dif_neg (show ¬ 2 * (k.val + 1) < n by omega)]))
    iframe H0 H1 Ho Hr1 Hr2 Hmw HO

include EC in
/-- The whole task. From the table and the task's block of row numbers, every number in range, it leaves the output's
    blocks at the table's rows at those numbers, and everything else as it was. -/
theorem wp_task (h0 : RowCredit T.b0) (h1 : RowCredit T.b1) (base : ℕ) (C : Closed A base)
    {qt qi : PosShare TreeShare} {Sd : Finset (Idx (T.out.view.loc (SparseCore.V d ci cj)))}
    (hSd : ∀ j, (blk T base C.fits j).view.set ⊆ Sd)
    {ft : Buf (Elt F) (T.tbl.view.loc (SparseCore.V d ci cj))} {fi : Buf (Elt F) (T.idx.view.loc (SparseCore.V d ci cj))}
    {fo : Buf (Elt F) (T.out.view.loc (SparseCore.V d ci cj))}
    (hin : ∀ x, ((T.mine A.off1 A.inb1 A.sqz).view.read (Elt F) fi x).toNat < 1024)
    {O : CellTallies nD τ sig Ix} {W : Waits sig Ix} :
    iprop((T.tbl.view.loc (SparseCore.V d ci cj) ↦{qt} ft)
        ∗ (T.idx.view.loc (SparseCore.V d ci cj) ↦[(T.mine A.off1 A.inb1 A.sqz).view.set]{qi} fi)
        ∗ (T.out.view.loc (SparseCore.V d ci cj) ↦[Sd]{fullShare} fo)
        ∗ (∃ f : Buf (Elt F) (T.lst.view.loc (SparseCore.V d ci cj)), T.lst.view.loc (SparseCore.V d ci cj) ↦{fullShare} f)
        ∗ (∃ f : Buf (Elt F) (T.b0.view.loc (SparseCore.V d ci cj)), T.b0.view.loc (SparseCore.V d ci cj) ↦{fullShare} f)
        ∗ (∃ f : Buf (Elt F) (T.b1.view.loc (SparseCore.V d ci cj)), T.b1.view.loc (SparseCore.V d ci cj) ↦{fullShare} f)
        ∗ semVal ((SparseCore.V d ci cj), SemLoc.dma T.s0) 0 ∗ semVal ((SparseCore.V d ci cj), SemLoc.dma T.s1) 0
        ∗ semVal ((SparseCore.V d ci cj), SemLoc.dma T.r0) 0 ∗ semVal ((SparseCore.V d ci cj), SemLoc.dma T.r1) 0
        ∗ semVal ((SparseCore.V d ci cj), SemLoc.dma T.r2) 0
        ∗ Transfers.MayWaits (SparseCore.V d ci cj) ι O ∗ (owes (SparseCore.V d ci cj) O W : sProp 𝕄))
      ⊢ wp frame (wpE defs 𝒱 (SparseCore.V d ci cj) bd) Set.univ (task T A ci cj) fun _ => iprop(
        (T.tbl.view.loc (SparseCore.V d ci cj) ↦{qt} ft)
        ∗ (T.idx.view.loc (SparseCore.V d ci cj) ↦[(T.mine A.off1 A.inb1 A.sqz).view.set]{qi} fi)
        ∗ (∃ fo' : Buf (Elt F) (T.out.view.loc (SparseCore.V d ci cj)),
            ⌜Done T base C.fits (T.tbl.view.read (Elt F) ft) ((T.mine A.off1 A.inb1 A.sqz).view.read (Elt F) fi) n fo'⌝
            ∗ (T.out.view.loc (SparseCore.V d ci cj) ↦[Sd]{fullShare} fo'))
        ∗ (∃ f : Buf (Elt F) (T.lst.view.loc (SparseCore.V d ci cj)), T.lst.view.loc (SparseCore.V d ci cj) ↦{fullShare} f)
        ∗ (∃ f : Buf (Elt F) (T.b0.view.loc (SparseCore.V d ci cj)), T.b0.view.loc (SparseCore.V d ci cj) ↦{fullShare} f)
        ∗ (∃ f : Buf (Elt F) (T.b1.view.loc (SparseCore.V d ci cj)), T.b1.view.loc (SparseCore.V d ci cj) ↦{fullShare} f)
        ∗ semVal ((SparseCore.V d ci cj), SemLoc.dma T.s0) 0 ∗ semVal ((SparseCore.V d ci cj), SemLoc.dma T.s1) 0
        ∗ semVal ((SparseCore.V d ci cj), SemLoc.dma T.r0) 0 ∗ semVal ((SparseCore.V d ci cj), SemLoc.dma T.r1) 0
        ∗ semVal ((SparseCore.V d ci cj), SemLoc.dma T.r2) 0
        ∗ (∃ W', ⌜∀ p ∈ W', p ∈ W ∨ p.2 = ι⌝ ∗ owes (SparseCore.V d ci cj) O W')) := by
  have htwo := C.two
  have htr := C.trips
  rw [task_nf]
  iintro ⟨Ht, Hi, Ho, ⟨%fl, Hl⟩, Hb0, Hb1, Hs0, Hs1, Hr0, Hr1, Hr2, #Hmw, HO⟩
  iapply (Transfers.wp_dmaLocal EC 𝒱 (SparseCore.V d ci cj) bd ι T.lst.view.dmaCredit (src := T.mine A.off1 A.inb1 A.sqz) (dst := T.lst)
    (fs := fi) (fd := fl) (Sd := Finset.univ) rfl (View.dmaCredit_pos _ (by
      show 0 < ∏ a : Fin 2, (![n, 128] : Fin 2 → ℕ) a
      rw [Fin.prod_univ_two]; show 0 < n * 128; omega)) (Finset.subset_univ _)) $$ [Hi Hl Hr0]
  · iframe Hi Hl Hr0
  iintro Hf
  ihave Hmw1 := (Transfers.MayWaits.elim (SemLoc.dma T.r0)) $$ Hmw
  iapply (Transfers.wp_waitLocalO EC 𝒱 (SparseCore.V d ci cj) bd ι (dstw := T.lst) rfl) $$ [Hf HO Hmw1]
  · iframe Hf HO Hmw1
  iintro ⟨⟨Hl, Hi⟩, Hr0, HO⟩
  generalize hL : T.lst.view.write (Elt F) fl (ReadAs.same.apply ((T.mine A.off1 A.inb1 A.sqz).view.read (Elt F) fi)) Finset.univ = fl'
  have hLr : T.lst.view.read (Elt F) fl' = (T.mine A.off1 A.inb1 A.sqz).view.read (Elt F) fi := by
    rw [← hL, View.read_write_univ]
  have hin' : ∀ x, (T.lst.view.read (Elt F) fl' x).toNat < 1024 := fun x => by rw [hLr]; exact hin x
  ihave ⟨Ht1, Ht2⟩ := (pointsTo_share (PosShare.mem_left_op_right qt)).1 $$ Ht
  ihave ⟨Hl1, Hl2⟩ := (pointsTo_share (PosShare.mem_left_op_right fullShare)).1 $$ Hl
  iapply (wp_start EC 𝒱 bd ι T d ci cj h0 ⟨0, by omega⟩ _ A.inbA rfl hin') $$ [Ht1 Hl1 Hb0 Hs0]
  · unfold Idle; iframe Ht1 Hl1 Hb0 Hs0
  iintro H0
  iapply (wp_start EC 𝒱 bd ι T d ci cj h1 ⟨1, by omega⟩ _ A.inbB rfl hin') $$ [Ht2 Hl2 Hb1 Hs1]
  · unfold Idle; iframe Ht2 Hl2 Hb1 Hs1
  iintro H1
  iapply (Scf.wp_for_bind frame (wpE defs 𝒱 (SparseCore.V d ci cj) bd) Set.univ _ _ _ A.ok ⟨⟩ (trip T A ci cj)
    (fun k _ => Inv EC ι T d ci cj base C.fits qt fullShare Sd ft fl' O (insert (SemLoc.dma T.r0, ι) W) k)
    (fun k u => wp_trip EC 𝒱 bd ι T A d ci cj h0 h1 base C hSd hin' k u)) $$ [H0 H1 Ho Hr1 Hr2 HO]
  · unfold Inv
    isplitl [H0]; · unfold Slot; rw [dif_pos (show 2 * 0 < n by omega)]; iexact H0
    isplitl [H1]; · unfold Slot; rw [dif_pos (show 2 * 0 + 1 < n by omega)]; iexact H1
    isplitl [Ho]
    · iexists fo; isplitr
      · ipureintro; intro j hj; exact absurd hj (by omega)
      iexact Ho
    iframe Hr1 Hr2 Hmw
    iexists _; isplitr; · ipureintro; exact fun p hp => .inl hp
    iexact HO
  iintro %u HI
  rw [wp_ret]
  imodintro
  have e0 : (Slot EC ι T d ci cj T.b0 T.s0 qt.left fullShare.left ft fl' (2 * A.loop.trips) : sProp (MT nD τ sig Ix (Elt F) Name U Lvl))
      = Idle T d ci cj T.b0 T.s0 qt.left fullShare.left ft fl' := dif_neg (by omega)
  have e1 : (Slot EC ι T d ci cj T.b1 T.s1 qt.right fullShare.right ft fl' (2 * A.loop.trips + 1) : sProp (MT nD τ sig Ix (Elt F) Name U Lvl))
      = Idle T d ci cj T.b1 T.s1 qt.right fullShare.right ft fl' := dif_neg (by omega)
  unfold Inv
  rw [e0, e1, ← htr, hLr]
  unfold Idle
  icases HI with ⟨⟨Hb0, Ht1, Hl1, Hs0⟩, ⟨Hb1, Ht2, Hl2, Hs1⟩, ⟨%fo', %hD, Ho⟩, Hr1, Hr2, -, ⟨%W', %hW', HO⟩⟩
  isplitl [Ht1 Ht2]
  · iapply (pointsTo_share (PosShare.mem_left_op_right qt)).2
    iframe Ht1 Ht2
  iframe Hi
  isplitl [Ho]
  · iexists fo'; isplitr; · ipureintro; exact hD
    iexact Ho
  isplitl [Hl1 Hl2]
  · iexists fl'
    iapply (pointsTo_share (PosShare.mem_left_op_right fullShare)).2
    iframe Hl1 Hl2
  iframe Hb0 Hb1 Hs0 Hs1 Hr0 Hr1 Hr2
  iexists W'; isplitr
  · ipureintro
    intro p hp
    rcases hW' p hp with h | h
    · rcases Finset.mem_insert.1 h with rfl | h
      · exact .inr rfl
      · exact .inl h
    · exact .inr h
  iexact HO

end Run

end Cert.Proof.Tile

end
-- ==== Proof.TileCall.lean ====
/-
  One gather task among the thirty-two of a call: handed shares of the table and of the row numbers and its own rows of
  the output, it leaves in those rows the table's rows at the row numbers. And the thirty-two row sets of the output.
-/
module

public import proofs.«01_k».proof.Proof.TileRun
public import Idealize.ShloMosaic.Lib.ShareLeaves

@[expose] public section

noncomputable section

namespace Cert.Proof.Tile

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic

variable {nD : ℕ} {τ : Topo} {sig : RefSig} {F : FTy → Type} {Λ : Labels} {n rows : ℕ}

/-- The rows of the table `tb` at the row numbers `L`, in order. -/
def gath (hn : 0 < n) (hrows : rows = 4096 * n) (tb : (Sh2 1024 128).Idx → Elt F .f32) (L : (Sh3 32 n 128).Idx → BitVec 32) :
    (Sh2 rows 128).Idx → Elt F .f32 :=
  fun x => tb (ix2 (Fin.ofNat 1024 (L (ix3
    (⟨(x 0).val / (128 * n), by
      have h : (x 0).val < rows := (x 0).isLt
      exact Nat.div_lt_of_lt_mul (by rw [show 128 * n * 32 = 4096 * n by ring]; omega)⟩ : Fin 32)
    (⟨(x 0).val / 128 % n, Nat.mod_lt _ hn⟩ : Fin n)
    (⟨(x 0).val % 128, Nat.mod_lt _ (by decide)⟩ : Fin 128))).toNat) (x 1))

variable (T : Operands sig n rows)

/-- The rows of the output that are task `w`'s. -/
def Sd (w : ℕ) : Finset T.out.view.ty.shape.Idx :=
  (Finset.univ.filter fun x : (Sh2 rows 128).Idx => (x 0).val / (128 * n) = w).map T.out.view.emb

/-- Different tasks' rows are different. -/
theorem Sd_disjoint {w w' : ℕ} (h : w ≠ w') : Disjoint (Sd T w) (Sd T w') := by
  rw [Finset.disjoint_left]
  intro i hi hi'
  obtain ⟨x, hx, rfl⟩ := Finset.mem_map.mp hi
  obtain ⟨y, hy, he⟩ := Finset.mem_map.mp hi'
  have : y = x := T.out.view.emb.injective he
  subst this
  exact h ((Finset.mem_filter.mp hx).2.symm.trans (Finset.mem_filter.mp hy).2)

/-- The tasks' rows are all the rows. -/
theorem Sd_cover (hn : 0 < n) (hrows : rows = 4096 * n) {ι : Type} [Fintype ι] [DecidableEq ι] (f : ι → ℕ) (hf : ∀ w < 32, ∃ i, f i = w) :
    (Finset.univ : Finset ι).biUnion (fun i => Sd T (f i)) = T.out.view.set := by
  ext i
  simp only [Finset.mem_biUnion, Finset.mem_univ, true_and]
  constructor
  · rintro ⟨w, hi⟩
    obtain ⟨x, -, rfl⟩ := Finset.mem_map.mp hi
    exact Finset.mem_map.mpr ⟨x, Finset.mem_univ _, rfl⟩
  · intro hi
    obtain ⟨x, -, rfl⟩ := Finset.mem_map.mp hi
    have hx : (x 0).val < rows := (x 0).isLt
    obtain ⟨w, hw⟩ := hf ((x 0).val / (128 * n)) (Nat.div_lt_of_lt_mul (by rw [show 128 * n * 32 = 4096 * n by ring]; omega))
    exact ⟨w, Finset.mem_map.mpr ⟨x, Finset.mem_filter.mpr ⟨Finset.mem_univ _, hw.symm⟩, rfl⟩⟩

/-- Task `w`'s blocks lie in its rows. -/
theorem blk_sub (hn : 0 < n) {base w : ℕ} (hw : base = 128 * n * w) (hb : base + 128 * n ≤ rows) (j : Fin n) :
    (blk T base hb j).view.set ⊆ Sd T w := by
  intro i hi
  obtain ⟨y, -, rfl⟩ := Finset.mem_map.mp hi
  refine Finset.mem_map.mpr ⟨_, Finset.mem_filter.mpr ⟨Finset.mem_univ _, ?_⟩, rfl⟩
  have hy : (y 0).val < 128 := (y 0).isLt
  have hj := j.isLt
  show (base + 128 * j.val + 1 * (y 0).val) / (128 * n) = w
  rw [Nat.div_eq_iff (by omega)]
  constructor
  · rw [hw]; nlinarith
  · rw [hw]; have : 128 * j.val + 128 ≤ 128 * n := by omega
    have e : w * (128 * n) = 128 * n * w := by ring
    omega

/-- The task's block of the row numbers, read through its squeezed slice. -/
theorem read_mine (w : Fin 32) {off : Fin 3 → ℕ} (ho : off = ![w.val, 0, 0]) (inb) (sq) (f : T.idx.view.ty.Contents (Elt F)) (j : Fin n) (l : Fin 128) :
    (T.mine off inb sq).view.read (Elt F) f (ix2 j l) = T.idx.view.read (Elt F) f (ix3 w j l) := by
  subst ho
  rw [View.read_apply, View.read_apply]
  congr 2
  show T.idx.view.emb _ = _
  congr 1
  have hr : Shape.reshapeEquiv (s := Sh3 1 n 128) (s' := Sh2 n 128) sq.numel_eq (ix2 j l) = ix3 (⟨0, Nat.one_pos⟩ : Fin 1) j l := by
    apply Shape.reshapeEquiv_eq_of_rowMajor
    refine (Shape.rowMajor_val_three (ix3 (⟨0, Nat.one_pos⟩ : Fin 1) j l)).trans (Eq.trans ?_ (Shape.rowMajor_val_two (ix2 j l)).symm)
    show (0 * n + j.val) * 128 + l.val = j.val * 128 + l.val
    omega
  funext a; apply Fin.ext
  show ((Rect.unit (s := Sh3 32 n 128) ![w.val, 0, 0] (Sh3 1 n 128).size inb).emb (Shape.reshapeEquiv (s := Sh3 1 n 128) (s' := Sh2 n 128) sq.numel_eq (ix2 j l)) a).val = _
  rw [hr]
  fin_cases a <;> simp [Rect.emb, Rect.unit, ix3]

/-- Where the task is done its rows hold the gathered rows. -/
theorem done_gath (hn : 0 < n) (hrows : rows = 4096 * n) {base : ℕ} (w : Fin 32) (hw : base = 128 * n * w.val) (hb : base + 128 * n ≤ rows)
    {tb : (Sh2 1024 128).Idx → Elt F .f32} {L : (Sh3 32 n 128).Idx → BitVec 32} {L' : (Sh2 n 128).Idx → BitVec 32}
    (hL : ∀ j l, L' (ix2 j l) = L (ix3 w j l)) {f g : T.out.view.ty.Contents (Elt F)} (hf : Done T base hb tb L' n f)
    (hg : T.out.view.read (Elt F) g = gath hn hrows tb L) :
    ∀ i ∈ Sd T w.val, f i = g i := by
  intro i hi
  obtain ⟨x, hx, rfl⟩ := Finset.mem_map.mp hi
  have hxw := (Finset.mem_filter.mp hx).2
  have key : T.out.view.read (Elt F) f x = T.out.view.read (Elt F) g x := by
    rw [hg]
    have h := congrFun (hf ⟨(x 0).val / 128 % n, Nat.mod_lt _ hn⟩ (Nat.mod_lt _ hn)) (ix2 (⟨(x 0).val % 128, Nat.mod_lt _ (by decide)⟩ : Fin 128) (x 1))
    have hE : (x 0).val = base + 128 * ((x 0).val / 128 % n) + (x 0).val % 128 := by
      have h1 := Nat.div_add_mod (x 0).val 128
      have h2 := Nat.div_add_mod ((x 0).val / 128) n
      rw [Nat.div_div_eq_div_mul, hxw] at h2
      rw [hw]; nlinarith
    rw [View.read_apply] at h ⊢
    have he : (blk T base hb ⟨(x 0).val / 128 % n, Nat.mod_lt _ hn⟩).view.emb (ix2 (⟨(x 0).val % 128, Nat.mod_lt _ (by decide)⟩ : Fin 128) (x 1)) = T.out.view.emb x := by
      show T.out.view.emb _ = _
      congr 1
      funext a; apply Fin.ext
      match a with
      | 0 => show base + 128 * ((x 0).val / 128 % n) + 1 * ((x 0).val % 128) = (x 0).val; omega
      | 1 => show 0 + 1 * (x 1).val = (x 1).val; omega
    rw [he] at h
    refine h.trans ?_
    unfold lookup gath
    show tb (ix2 (Fin.ofNat 1024 (L' (ix2 _ _)).toNat) _) = _
    rw [hL]
    have hwf : w = ⟨(x 0).val / (128 * n), hxw ▸ w.isLt⟩ := Fin.ext hxw.symm
    rw [hwf]
  rw [View.read_apply, View.read_apply] at key
  exact (cast_inj _).mp key

section Run

variable {Ix : Type} [DecidableEq Ix] {Name : Type} [DecidableEq Name] [Infinite Name]
variable {U : Type} [URA U] {Lvl : Type} [Preorder Lvl] {defs : Defs nD τ sig (Elt F) Λ}
variable (EC : UEmb Counters (MT nD τ sig Ix (Elt F) Name U Lvl)) [EC.LandsIn (upEmb : UEmb _ (MT nD τ sig Ix (Elt F) Name U Lvl))]
variable (𝒱 : Variants) (bd : Option 𝒱.V) (ι : Ix)
variable (A : Scalars n rows) (d : Dev nD) (ci : Fin τ.nSC) (cj : Fin τ.nSub)

local notation "𝕄" => MT nD τ sig Ix (Elt F) Name U Lvl

include EC in
/-- Task `w` from shares of the whole table and of all the row numbers, and its own rows of the output: those rows end
    at the gathered rows, as the contents `g` has them. -/
theorem wp_tile (h0 : RowCredit T.b0) (h1 : RowCredit T.b1) (hn : 0 < n) (hrows : rows = 4096 * n) (w : Fin 32)
    (C : Closed A (128 * n * w.val)) (hoff : A.off1 = ![w.val, 0, 0]) {qt qi : PosShare TreeShare}
    {ft : Buf (Elt F) (T.tbl.view.loc (SparseCore.V d ci cj))} {fi : Buf (Elt F) (T.idx.view.loc (SparseCore.V d ci cj))}
    {g : Buf (Elt F) (T.out.view.loc (SparseCore.V d ci cj))}
    (hg : T.out.view.read (Elt F) g = gath hn hrows (T.tbl.view.read (Elt F) ft) (T.idx.view.read (Elt F) fi))
    (hin : ∀ x, (T.idx.view.read (Elt F) fi x).toNat < 1024)
    {O : CellTallies nD τ sig Ix} {W : Waits sig Ix} :
    iprop(((T.tbl.view.loc (SparseCore.V d ci cj) ↦{qt} ft) ∗ (T.idx.view.loc (SparseCore.V d ci cj) ↦{qi} fi)
          ∗ ∃ fo : Buf (Elt F) (T.out.view.loc (SparseCore.V d ci cj)), T.out.view.loc (SparseCore.V d ci cj) ↦[Sd T w.val]{fullShare} fo)
        ∗ ((∃ f : Buf (Elt F) (T.lst.view.loc (SparseCore.V d ci cj)), T.lst.view.loc (SparseCore.V d ci cj) ↦{fullShare} f)
          ∗ (∃ f : Buf (Elt F) (T.b0.view.loc (SparseCore.V d ci cj)), T.b0.view.loc (SparseCore.V d ci cj) ↦{fullShare} f)
          ∗ ∃ f : Buf (Elt F) (T.b1.view.loc (SparseCore.V d ci cj)), T.b1.view.loc (SparseCore.V d ci cj) ↦{fullShare} f)
        ∗ (semVal ((SparseCore.V d ci cj), SemLoc.dma T.s0) 0 ∗ semVal ((SparseCore.V d ci cj), SemLoc.dma T.s1) 0
          ∗ semVal ((SparseCore.V d ci cj), SemLoc.dma T.r0) 0 ∗ semVal ((SparseCore.V d ci cj), SemLoc.dma T.r1) 0
          ∗ semVal ((SparseCore.V d ci cj), SemLoc.dma T.r2) 0)
        ∗ Transfers.MayWaits (SparseCore.V d ci cj) ι O ∗ (owes (SparseCore.V d ci cj) O W : sProp 𝕄))
      ⊢ wp frame (wpE defs 𝒱 (SparseCore.V d ci cj) bd) Set.univ (task T A ci cj) fun _ => iprop(
        ((T.tbl.view.loc (SparseCore.V d ci cj) ↦{qt} ft) ∗ (T.idx.view.loc (SparseCore.V d ci cj) ↦{qi} fi)
          ∗ T.out.view.loc (SparseCore.V d ci cj) ↦[Sd T w.val]{fullShare} g)
        ∗ ((∃ f : Buf (Elt F) (T.lst.view.loc (SparseCore.V d ci cj)), T.lst.view.loc (SparseCore.V d ci cj) ↦{fullShare} f)
          ∗ (∃ f : Buf (Elt F) (T.b0.view.loc (SparseCore.V d ci cj)), T.b0.view.loc (SparseCore.V d ci cj) ↦{fullShare} f)
          ∗ ∃ f : Buf (Elt F) (T.b1.view.loc (SparseCore.V d ci cj)), T.b1.view.loc (SparseCore.V d ci cj) ↦{fullShare} f)
        ∗ (semVal ((SparseCore.V d ci cj), SemLoc.dma T.s0) 0 ∗ semVal ((SparseCore.V d ci cj), SemLoc.dma T.s1) 0
          ∗ semVal ((SparseCore.V d ci cj), SemLoc.dma T.r0) 0 ∗ semVal ((SparseCore.V d ci cj), SemLoc.dma T.r1) 0
          ∗ semVal ((SparseCore.V d ci cj), SemLoc.dma T.r2) 0)
        ∗ ∃ W', ⌜∀ p ∈ W', p ∈ W ∨ p.2 = ι⌝ ∗ owes (SparseCore.V d ci cj) O W') := by
  have hm : ∀ x, ((T.mine A.off1 A.inb1 A.sqz).view.read (Elt F) fi x).toNat < 1024 := fun x => by
    have hx : x = ix2 (x 0 : Fin n) (x 1 : Fin 128) := eq_ix2 x
    have h := hin (ix3 w (x 0) (x 1))
    rw [← read_mine T w hoff A.inb1 A.sqz fi (x 0) (x 1)] at h
    exact lt_of_eq_of_lt (congrArg (fun y => ((T.mine A.off1 A.inb1 A.sqz).view.read (Elt F) fi y).toNat) hx) h
  iintro ⟨⟨Ht, Hi, %fo, Ho⟩, ⟨Hl, Hb0, Hb1⟩, ⟨Hs0, Hs1, Hr0, Hr1, Hr2⟩, Hmw, HO⟩
  ihave Hi := (pointsTo_split_subset (q := qi) (f := fi) (S := Finset.univ) (Finset.subset_univ (T.mine A.off1 A.inb1 A.sqz).view.set)).1 $$ Hi
  icases Hi with ⟨Hi, Hi'⟩
  iapply (wp_wand frame (wpE defs 𝒱 (SparseCore.V d ci cj) bd) Set.univ) $$ [Ht Hi Ho Hl Hb0 Hb1 Hs0 Hs1 Hr0 Hr1 Hr2 Hmw HO]
  · iapply (wp_task EC 𝒱 bd ι T A d ci cj h0 h1 _ C (qt := qt) (qi := qi) (Sd := Sd T w.val) (blk_sub T hn rfl C.fits) (ft := ft) (fi := fi) (fo := fo) hm)
    iframe
  iintro %_ ⟨Ht, Hi, ⟨%fo', %hD, Ho⟩, Hl, Hb0, Hb1, Hs0, Hs1, Hr0, Hr1, Hr2, HO⟩
  ihave Hi := (pointsTo_split_subset (q := qi) (f := fi) (S := Finset.univ) (Finset.subset_univ (T.mine A.off1 A.inb1 A.sqz).view.set)).2 $$ [Hi Hi']
  · isplitl [Hi]; · iexact Hi
    iexact Hi'
  ihave Ho := (Entails.of_eq (pointsTo_congr (done_gath T hn hrows w rfl C.fits (fun j l => read_mine T w hoff A.inb1 A.sqz fi j l) hD hg))) $$ Ho
  iframe

end Run

/-! ## A call's operands, dealt to its tasks and gathered again -/

section Deal

variable {Ix : Type} [DecidableEq Ix] {Name : Type} [DecidableEq Name] {U : Type} [URA U] {Lvl : Type}

local notation "𝕄" => MT nD τ sig Ix (Elt F) Name U Lvl

/-- The number of the task on subcore `s` of SparseCore `c`. -/
def wid (x : Fin 2 × Fin 16) : Fin (2 ^ 5) := ⟨2 * x.2.val + x.1.val, by omega⟩

/-- Every task has one number. -/
def widEquiv : Fin 2 × Fin 16 ≃ Fin (2 ^ 5) where
  toFun := wid
  invFun w := (⟨w.val % 2, by omega⟩, ⟨w.val / 2, by omega⟩)
  left_inv := by decide
  right_inv := by decide

variable {ℓt ℓi ℓo : Loc nD τ sig} (S : ℕ → Finset (Idx ℓo)) (ft : Buf (Elt F) ℓt) (fi : Buf (Elt F) ℓi)

/-- What a task is handed. -/
def goes (x : Fin 2 × Fin 16) : sProp 𝕄 :=
  iprop((ℓt ↦{ShareLeaves.leaf 5 fullShare (wid x)} ft) ∗ (ℓi ↦{ShareLeaves.leaf 5 fullShare (wid x)} fi)
    ∗ ∃ f : Buf (Elt F) ℓo, ℓo ↦[S (wid x).val]{fullShare} f)

/-- What it hands back, its rows of the output as the contents `g` has them. -/
def backs (g : Buf (Elt F) ℓo) (x : Fin 2 × Fin 16) : sProp 𝕄 :=
  iprop((ℓt ↦{ShareLeaves.leaf 5 fullShare (wid x)} ft) ∗ (ℓi ↦{ShareLeaves.leaf 5 fullShare (wid x)} fi)
    ∗ ℓo ↦[S (wid x).val]{fullShare} g)

instance goes_storable (x) : BI.Storable (upEmb : UEmb _ 𝕄) (goes (F := F) S ft fi x) := by unfold goes; infer_instance
instance backs_storable (g) (x) : BI.Storable (upEmb : UEmb _ 𝕄) (backs (F := F) S ft fi g x) := by unfold backs; infer_instance

variable (hd : ∀ w w', w ≠ w' → Disjoint (S w) (S w')) (hc : (Finset.univ : Finset (Fin (2 ^ 5))).biUnion (fun w => S w.val) = Finset.univ)

theorem leaves (ℓ : Loc nD τ sig) (f : Buf (Elt F) ℓ) :
    (ℓ ↦{fullShare} f : sProp 𝕄) = bigSep Finset.univ fun x : Fin 2 × Fin 16 => ℓ ↦{ShareLeaves.leaf 5 fullShare (wid x)} f := by
  rw [ShareLeaves.pointsTo_leaves Finset.univ f 5 fullShare, bigSep_univ_equiv widEquiv]
  rfl

include hd hc in
theorem rows_eq (f : Buf (Elt F) ℓo) :
    (ℓo ↦{fullShare} f : sProp 𝕄) = bigSep Finset.univ fun x : Fin 2 × Fin 16 => ℓo ↦[S (wid x).val]{fullShare} f := by
  rw [show (ℓo ↦{fullShare} f : sProp 𝕄) = ℓo ↦[(Finset.univ : Finset (Fin (2 ^ 5))).biUnion (fun w => S w.val)]{fullShare} f by rw [hc],
    pointsTo_biUnion _ _ (fun w _ w' _ h => hd _ _ fun e => h (Fin.ext e)), bigSep_univ_equiv widEquiv]
  rfl

include hd hc in
/-- The operands whole are every task's part. -/
theorem deal (fo : Buf (Elt F) ℓo) :
    iprop((ℓt ↦{fullShare} ft) ∗ (ℓi ↦{fullShare} fi) ∗ ℓo ↦{fullShare} fo) ⊢ (bigSep Finset.univ fun c : Fin 2 => bigSep Finset.univ fun s : Fin 16 => goes S ft fi (c, s) : sProp 𝕄) := by
  rw [leaves ℓt ft, leaves ℓi fi, rows_eq S hd hc fo, ← bigSep_sep', ← bigSep_sep', ← bigSep_univ_prod]
  refine bigSep_mono fun x _ => ?_
  unfold goes
  exact (show _ ⊢ (_ : sProp 𝕄) from by
    iintro ⟨Ht, Hi, Ho⟩
    iframe Ht Hi
    iexists fo; iexact Ho)

include hd hc in
/-- Every task's part handed back is the operands whole, the output at `g`. -/
theorem collect (g : Buf (Elt F) ℓo) :
    (bigSep Finset.univ fun c : Fin 2 => bigSep Finset.univ fun s : Fin 16 => backs S ft fi g (c, s) : sProp 𝕄)
      ⊢ iprop((ℓt ↦{fullShare} ft) ∗ (ℓi ↦{fullShare} fi) ∗ ℓo ↦{fullShare} g) := by
  rw [leaves ℓt ft, leaves ℓi fi, rows_eq S hd hc g, ← bigSep_sep', ← bigSep_sep', ← bigSep_univ_prod]
  exact BI.Entails.refl _

end Deal

end Cert.Proof.Tile

end
-- ==== Proof.TileThread.lean ====
/-
  A gather task on its subcore: out of the subcore's own buffers and semaphores it takes the three buffers and the five
  semaphores it names, runs, and puts them back.
-/
module

public import proofs.«01_k».proof.Proof.TileCall
public import Idealize.ShloMosaic.Lib.SparseCore.Quiescent
public import Idealize.ShloMosaic.Lib.SparseCore.Ops
public import Idealize.ShloMosaic.Lib.SparseCore.Stream

@[expose] public section

noncomputable section

namespace Cert.Proof.Tile

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {F : FTy → Type} {Λ : Labels} {n rows Qn : ℕ}

section
variable {Ix : Type} [DecidableEq Ix] {Val : EltTy → Type} {Name : Type} [DecidableEq Name] {U : Type} [URA U] {Lvl : Type}
local notation "𝕄" => MT nD τ sig Ix Val Name U Lvl

/-- Five of a thread's own semaphores, and the rest. -/
theorem ownSems0_five (thr : Thread nD τ) (s : Fin 5 → DmaSem sig) (hs : Function.Injective s)
    (hsc : ∀ i, GSem.isScoped ((thr, SemLoc.dma (s i)) : GSem nD τ sig) = true) :
    (ownSems0 thr : sProp 𝕄) = iprop((semVal (thr, SemLoc.dma (s 0)) 0 ∗ semVal (thr, SemLoc.dma (s 1)) 0 ∗ semVal (thr, SemLoc.dma (s 2)) 0
        ∗ semVal (thr, SemLoc.dma (s 3)) 0 ∗ semVal (thr, SemLoc.dma (s 4)) 0)
      ∗ bigSep (ownCells thr \ Finset.univ.image fun i => (thr, SemLoc.dma (s i))) fun g => semVal g 0) := by
  unfold SparseCore.Cfg.ownSems0
  have hinj : Function.Injective fun i => ((thr, SemLoc.dma (s i)) : GSem nD τ sig) := fun i j h =>
    hs (by simpa using h)
  have hsub : (Finset.univ.image fun i => ((thr, SemLoc.dma (s i)) : GSem nD τ sig)) ⊆ ownCells thr := by
    intro g hg
    obtain ⟨i, -, rfl⟩ := Finset.mem_image.mp hg
    exact mem_ownCells.mpr ⟨rfl, hsc i⟩
  conv_lhs => rw [← Finset.union_sdiff_of_subset hsub, bigSep_union Finset.disjoint_sdiff]
  rw [show (Finset.univ.image fun i => ((thr, SemLoc.dma (s i)) : GSem nD τ sig)) = Finset.univ.map ⟨_, hinj⟩ from
    (Finset.map_eq_image ⟨_, hinj⟩ Finset.univ).symm, bigSep_map,
    bigSep_univ_eq_bigSepL [(0 : Fin 5), (1 : Fin 5), (2 : Fin 5), (3 : Fin 5), (4 : Fin 5)] (by decide) (by decide)]
  rfl

/-- Three of a vector subcore's own buffers, and the rest. -/
theorem ownBufs_three (d : Dev nD) (c : Fin τ.nSC) (j : Fin τ.nSub) (l : Fin 3 → Ref sig .scVector) (hl : Function.Injective l)
    (ho : ∀ i, ((Proc.scVector c j : Proc τ).devRef (l i)).owner = .proc (.scVector c j)) :
    (ownBufs (V d c j) : sProp 𝕄) = iprop(((∃ f, (V d c j).loc (l 0) ↦{fullShare} f) ∗ (∃ f, (V d c j).loc (l 1) ↦{fullShare} f)
        ∗ ∃ f, (V d c j).loc (l 2) ↦{fullShare} f)
      ∗ bigSep (ownRefs (τ := τ) (.scVector c j) \ Finset.univ.image fun i => (Proc.scVector c j : Proc τ).devRef (l i))
          fun b => iprop(∃ f, ((d, b) : Loc nD τ sig) ↦{fullShare} f)) := by
  unfold SparseCore.Cfg.ownBufs
  have hinj : Function.Injective fun i => (Proc.scVector c j : Proc τ).devRef (l i) := fun i i' h =>
    hl (Proc.devRef_injective _ h)
  have hsub : (Finset.univ.image fun i => (Proc.scVector c j : Proc τ).devRef (l i)) ⊆ ownRefs (τ := τ) (.scVector c j) := by
    intro g hg
    obtain ⟨i, -, rfl⟩ := Finset.mem_image.mp hg
    exact SparseCore.Cfg.mem_ownRefs_of_owner (ho i)
  conv_lhs => rw [show (V d c j : Thread nD τ).2 = .scVector c j from rfl, ← Finset.union_sdiff_of_subset hsub, bigSep_union Finset.disjoint_sdiff]
  rw [show (Finset.univ.image fun i => (Proc.scVector c j : Proc τ).devRef (l i)) = Finset.univ.map ⟨_, hinj⟩ from
    (Finset.map_eq_image ⟨_, hinj⟩ Finset.univ).symm, bigSep_map,
    bigSep_univ_eq_bigSepL [(0 : Fin 3), (1 : Fin 3), (2 : Fin 3)] (by decide) (by decide)]
  rfl
end

variable {U : Type} [URA U] {Λ₀ : Labels}
local notation "𝕄" => MT nD τ sig (HIx Qn) (Elt F) ℕ U ℕ
variable (EC : UEmb Counters (MT nD τ sig (HIx Qn) (Elt F) ℕ U ℕ)) [EC.LandsIn (upEmb : UEmb _ (MT nD τ sig (HIx Qn) (Elt F) ℕ U ℕ))]
variable {defs : Defs nD τ sig (Elt F) Λ₀} (𝒱 : Variants) (K : SparseCore.Cfg τ sig Λ Qn)
variable (T : Operands sig n rows) (A : Scalars n rows)

include EC in
/-- The task from what its subcore holds at its start to what it holds at its end. -/
theorem tile_run (hF : K.Facts) (h0 : RowCredit T.b0) (h1 : RowCredit T.b1) (hn : 0 < n) (hrows : rows = 4096 * n)
    (l : Fin 3 → Ref sig .scVector) (hl : Function.Injective l)
    (hs : Function.Injective ![T.s0, T.s1, T.r0, T.r1, T.r2])
    (hsc : ∀ i, (SemLoc.dma (![T.s0, T.s1, T.r0, T.r1, T.r2] i) : SemLoc sig).isScoped .scVector = true)
    (d : Dev nD) (c : Fin τ.nSC) (j : Fin τ.nSub) (ho : ∀ i, ((Proc.scVector c j : Proc τ).devRef (l i)).owner = .proc (.scVector c j))
    (e0 : T.lst.view.loc (V d c j) = (V d c j).loc (l 0)) (e1 : T.b0.view.loc (V d c j) = (V d c j).loc (l 1))
    (e2 : T.b1.view.loc (V d c j) = (V d c j).loc (l 2))
    (x : Fin 2 × Fin 16) (C : Closed A (128 * n * (wid x).val)) (hoff : A.off1 = ![(wid x).val, 0, 0])
    {ft : Buf (Elt F) (T.tbl.view.loc (V d c j))} {fi : Buf (Elt F) (T.idx.view.loc (V d c j))}
    {g : Buf (Elt F) (T.out.view.loc (V d c j))}
    (hg : T.out.view.read (Elt F) g = gath hn hrows (T.tbl.view.read (Elt F) ft) (T.idx.view.read (Elt F) fi))
    (hin : ∀ x, (T.idx.view.read (Elt F) fi x).toNat < 1024)
    (O : CellTallies nD τ sig (HIx Qn)) (W : Waits sig (HIx Qn)) (hO : ∀ g, O g none = 0) :
    iprop(levAts K.L K.lev ∗ BI.emp ∗ goes (ℓo := T.out.view.loc (V d c j)) (Sd T) ft fi x
        ∗ scopedBufs (V d c j) ∗ scopedSems0 (V d c j) ∗ owes (V d c j) O W)
      ⊢ (wp frame (wpE defs 𝒱 (V d c j) none) Set.univ (task T A c j) fun _ =>
          iprop(backs (ℓo := T.out.view.loc (V d c j)) (Sd T) ft fi g x ∗ scopedBufs (V d c j) ∗ scopedSems0 (V d c j)
            ∗ ∃ W', ⌜∀ p ∈ W', p ∈ W ∨ p.2 = none⌝ ∗ owes (V d c j) O W') : sProp 𝕄) := by
  rw [K.scopedBufs_V hF d c j, SparseCore.Cfg.scopedSems0_V (Val := Elt F) d c j,
    ownSems0_five (V d c j) _ hs hsc, ownBufs_three d c j l hl ho, ← e0, ← e1, ← e2]
  unfold goes backs
  iintro ⟨#Hlv, -, Hg, ⟨Hb, Hbs⟩, ⟨Hs, Hss⟩, HO⟩
  ihave Hmw := (show levAts K.L K.lev ⊢ Transfers.MayWaits (V d c j) (none : HIx Qn) O from
    K.mayWaits_none (thr := V d c j) hO) $$ Hlv
  iapply (wp_wand frame (wpE defs 𝒱 (V d c j) none) Set.univ) $$ [Hg Hb Hs Hmw HO]
  · iapply (wp_tile T EC 𝒱 none none A d c j h0 h1 hn hrows (wid x) C hoff hg hin (W := W))
    isplitl [Hg]; · iexact Hg
    isplitl [Hb]; · iexact Hb
    isplitl [Hs]; · iexact Hs
    isplitl [Hmw]; · iexact Hmw
    iexact HO
  iintro %_ ⟨Hg, Hb, Hs, HO⟩
  isplitl [Hg]; · iexact Hg
  isplitl [Hb Hbs]
  · isplitl [Hb]; · iexact Hb
    iexact Hbs
  isplitl [Hs Hss]
  · isplitl [Hs]; · iexact Hs
    iexact Hss
  iexact HO

end Cert.Proof.Tile

end
-- ==== Proof.Calls.lean ====
/-
  What the four SparseCore calls hand their tasks and get back, and each task's proof.
-/
module

public import proofs.«01_k».proof.Proof.Base
public import proofs.«01_k».proof.Proof.TileEq
public import proofs.«01_k».proof.Proof.TileThread

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 4) (Elt F) ℕ UU ℕ

/-! ## The tasks' scalars in closed form -/

theorem closed0 (i : grid0.Coords) : Tile.Closed (sc0 i) (128 * 8 * (Tile.wid (i 0, i 1)).val) where
  two := by decide
  trips := (by decide +kernel : 8 = 2 * k0_t1_loop.trips)
  fits := by
    have h0 : (i 0).val < 2 := (i 0).isLt
    have h1 : (i 1).val < 16 := (i 1).isLt
    show 128 * 8 * (2 * (i 1).val + (i 0).val) + 128 * 8 ≤ 32768
    omega
  off3A k := (k0_off3_eq i k 0).trans (congrArg (fun a => ![a, 0]) (by
    show _ = 128 * 8 * (2 * (i 1).val + (i 0).val) + 128 * (2 * k.val)
    simp only [Fin.val_zero]; omega))
  off3B k := (k0_off3_eq i k 1).trans (congrArg (fun a => ![a, 0]) (by
    show _ = 128 * 8 * (2 * (i 1).val + (i 0).val) + 128 * (2 * k.val + 1)
    simp only [Fin.val_one]; omega))
  off4 := k0_off4_eq
  off5 := k0_off5_eq
  cond1 := (by decide +kernel : ∀ j : Fin k0_t1_loop.trips, k0_cond1 j = 1#1 ↔ 2 * j.val + 2 < 8)
  cond2 := (by decide +kernel : ∀ j : Fin k0_t1_loop.trips, k0_cond2 j = 1#1 ↔ 2 * j.val + 3 < 8)

theorem closed2 (i : grid2.Coords) : Tile.Closed (sc2 i) (128 * 24 * (Tile.wid (i 0, i 1)).val) where
  two := by decide
  trips := (by decide +kernel : 24 = 2 * k2_t1_loop.trips)
  fits := by
    have h0 : (i 0).val < 2 := (i 0).isLt
    have h1 : (i 1).val < 16 := (i 1).isLt
    show 128 * 24 * (2 * (i 1).val + (i 0).val) + 128 * 24 ≤ 98304
    omega
  off3A k := (k2_off3_eq i k 0).trans (congrArg (fun a => ![a, 0]) (by
    show _ = 128 * 24 * (2 * (i 1).val + (i 0).val) + 128 * (2 * k.val)
    simp only [Fin.val_zero]; omega))
  off3B k := (k2_off3_eq i k 1).trans (congrArg (fun a => ![a, 0]) (by
    show _ = 128 * 24 * (2 * (i 1).val + (i 0).val) + 128 * (2 * k.val + 1)
    simp only [Fin.val_one]; omega))
  off4 := k2_off4_eq
  off5 := k2_off5_eq
  cond1 := (by decide +kernel : ∀ j : Fin k2_t1_loop.trips, k2_cond1 j = 1#1 ↔ 2 * j.val + 2 < 24)
  cond2 := (by decide +kernel : ∀ j : Fin k2_t1_loop.trips, k2_cond2 j = 1#1 ↔ 2 * j.val + 3 < 24)

theorem closed4 (i : grid4.Coords) : Tile.Closed (sc4 i) (128 * 48 * (Tile.wid (i 0, i 1)).val) where
  two := by decide
  trips := (by decide +kernel : 48 = 2 * k4_t1_loop.trips)
  fits := by
    have h0 : (i 0).val < 2 := (i 0).isLt
    have h1 : (i 1).val < 16 := (i 1).isLt
    show 128 * 48 * (2 * (i 1).val + (i 0).val) + 128 * 48 ≤ 196608
    omega
  off3A k := (k4_off3_eq i k 0).trans (congrArg (fun a => ![a, 0]) (by
    show _ = 128 * 48 * (2 * (i 1).val + (i 0).val) + 128 * (2 * k.val)
    simp only [Fin.val_zero]; omega))
  off3B k := (k4_off3_eq i k 1).trans (congrArg (fun a => ![a, 0]) (by
    show _ = 128 * 48 * (2 * (i 1).val + (i 0).val) + 128 * (2 * k.val + 1)
    simp only [Fin.val_one]; omega))
  off4 := k4_off4_eq
  off5 := k4_off5_eq
  cond1 := (by decide +kernel : ∀ j : Fin k4_t1_loop.trips, k4_cond1 j = 1#1 ↔ 2 * j.val + 2 < 48)
  cond2 := (by decide +kernel : ∀ j : Fin k4_t1_loop.trips, k4_cond2 j = 1#1 ↔ 2 * j.val + 3 < 48)

/-! ## The calls' operands -/

abbrev T0 : Tile.Operands sig 8 32768 := op0 (Memref.whole main_v0_scv) (Memref.whole main_v21_scv) (Memref.whole main_v22_scv)
  (Memref.whole cc0_scratch0) (Memref.isWhole_whole _) (Memref.whole cc0_scratch1) (Memref.isWhole_whole _) (Memref.whole cc0_scratch2) (Memref.isWhole_whole _)
  cc0_scratch3 cc0_scratch4 cc0_scoped0 cc0_scoped1 cc0_scoped2
abbrev T1 : Tile.Operands sig 24 98304 := op2 (Memref.whole main_v0_scv) (Memref.whole main_v26_scv) (Memref.whole main_v27_scv)
  (Memref.whole cc2_scratch0) (Memref.isWhole_whole _) (Memref.whole cc2_scratch1) (Memref.isWhole_whole _) (Memref.whole cc2_scratch2) (Memref.isWhole_whole _)
  cc2_scratch3 cc2_scratch4 cc2_scoped0 cc2_scoped1 cc2_scoped2
abbrev T2 : Tile.Operands sig 48 196608 := op4 (Memref.whole main_v0_scv) (Memref.whole main_v31_scv) (Memref.whole main_v32_scv)
  (Memref.whole cc4_scratch0) (Memref.isWhole_whole _) (Memref.whole cc4_scratch1) (Memref.isWhole_whole _) (Memref.whole cc4_scratch2) (Memref.isWhole_whole _)
  cc4_scratch3 cc4_scratch4 cc4_scoped0 cc4_scoped1 cc4_scoped2
abbrev T3 : Tile.Operands sig 48 196608 := op4 (Memref.whole main_v0_scv) (Memref.whole main_v36_scv) (Memref.whole main_v37_scv)
  (Memref.whole cc6_scratch0) (Memref.isWhole_whole _) (Memref.whole cc6_scratch1) (Memref.isWhole_whole _) (Memref.whole cc6_scratch2) (Memref.isWhole_whole _)
  cc6_scratch3 cc6_scratch4 cc6_scoped0 cc6_scoped1 cc6_scoped2

theorem credit0 : Tile.RowCredit T0.b0 ∧ Tile.RowCredit T0.b1 := by constructor <;> decide
theorem credit1 : Tile.RowCredit T1.b0 ∧ Tile.RowCredit T1.b1 := by constructor <;> decide
theorem credit2 : Tile.RowCredit T2.b0 ∧ Tile.RowCredit T2.b1 := by constructor <;> decide
theorem credit3 : Tile.RowCredit T3.b0 ∧ Tile.RowCredit T3.b1 := by constructor <;> decide

/-! ## What a call's tasks are handed and give back -/

section Contents
variable (d : Dev nD) (tb : Buf (Elt F) ((T d : Thread nD τ).loc main_v0))

/-- The rows of the table that the first call gathers, at the row numbers `L`. -/
def rows0 (L : Buf (Elt F) ((T d : Thread nD τ).loc main_v21)) : Buf (Elt F) ((T d : Thread nD τ).loc main_v22) := Tile.gath (F := F) (n := 8) (rows := 32768) (by decide) rfl tb L
/-- The second call's. -/
def rows1 (L : Buf (Elt F) ((T d : Thread nD τ).loc main_v26)) : Buf (Elt F) ((T d : Thread nD τ).loc main_v27) := Tile.gath (F := F) (n := 24) (rows := 98304) (by decide) rfl tb L
/-- The third call's. -/
def rows2 (L : Buf (Elt F) ((T d : Thread nD τ).loc main_v31)) : Buf (Elt F) ((T d : Thread nD τ).loc main_v32) := Tile.gath (F := F) (n := 48) (rows := 196608) (by decide) rfl tb L
/-- The fourth call's. -/
def rows3 (L : Buf (Elt F) ((T d : Thread nD τ).loc main_v36)) : Buf (Elt F) ((T d : Thread nD τ).loc main_v37) := Tile.gath (F := F) (n := 48) (rows := 196608) (by decide) rfl tb L
end Contents

variable (A : Fin 4 → Dev nD → Valuation τ sig (Elt F))

/-- What task `x` of call `q` is handed, the arrays' contents at the call being `A q`. -/
def goQ (q : Fin 4) (d : Dev nD) (x : Fin 2 × Fin 16) : sProp 𝕄 := match q with
  | 0 => Tile.goes (ℓt := (T d : Thread nD τ).loc main_v0) (ℓi := (T d : Thread nD τ).loc main_v21) (ℓo := (T d : Thread nD τ).loc main_v22)
      (Tile.Sd T0) (A 0 d (Proc.devRef .tc main_v0)) (A 0 d (Proc.devRef .tc main_v21)) x
  | 1 => Tile.goes (ℓt := (T d : Thread nD τ).loc main_v0) (ℓi := (T d : Thread nD τ).loc main_v26) (ℓo := (T d : Thread nD τ).loc main_v27)
      (Tile.Sd T1) (A 1 d (Proc.devRef .tc main_v0)) (A 1 d (Proc.devRef .tc main_v26)) x
  | 2 => Tile.goes (ℓt := (T d : Thread nD τ).loc main_v0) (ℓi := (T d : Thread nD τ).loc main_v31) (ℓo := (T d : Thread nD τ).loc main_v32)
      (Tile.Sd T2) (A 2 d (Proc.devRef .tc main_v0)) (A 2 d (Proc.devRef .tc main_v31)) x
  | 3 => Tile.goes (ℓt := (T d : Thread nD τ).loc main_v0) (ℓi := (T d : Thread nD τ).loc main_v36) (ℓo := (T d : Thread nD τ).loc main_v37)
      (Tile.Sd T3) (A 3 d (Proc.devRef .tc main_v0)) (A 3 d (Proc.devRef .tc main_v36)) x

/-- What it gives back: the gathered rows in its place of the output. -/
def tdQ (q : Fin 4) (d : Dev nD) (x : Fin 2 × Fin 16) : sProp 𝕄 := match q with
  | 0 => Tile.backs (ℓt := (T d : Thread nD τ).loc main_v0) (ℓi := (T d : Thread nD τ).loc main_v21) (ℓo := (T d : Thread nD τ).loc main_v22)
      (Tile.Sd T0) (A 0 d (Proc.devRef .tc main_v0)) (A 0 d (Proc.devRef .tc main_v21)) (rows0 d (A 0 d (Proc.devRef .tc main_v0)) (A 0 d (Proc.devRef .tc main_v21))) x
  | 1 => Tile.backs (ℓt := (T d : Thread nD τ).loc main_v0) (ℓi := (T d : Thread nD τ).loc main_v26) (ℓo := (T d : Thread nD τ).loc main_v27)
      (Tile.Sd T1) (A 1 d (Proc.devRef .tc main_v0)) (A 1 d (Proc.devRef .tc main_v26)) (rows1 d (A 1 d (Proc.devRef .tc main_v0)) (A 1 d (Proc.devRef .tc main_v26))) x
  | 2 => Tile.backs (ℓt := (T d : Thread nD τ).loc main_v0) (ℓi := (T d : Thread nD τ).loc main_v31) (ℓo := (T d : Thread nD τ).loc main_v32)
      (Tile.Sd T2) (A 2 d (Proc.devRef .tc main_v0)) (A 2 d (Proc.devRef .tc main_v31)) (rows2 d (A 2 d (Proc.devRef .tc main_v0)) (A 2 d (Proc.devRef .tc main_v31))) x
  | 3 => Tile.backs (ℓt := (T d : Thread nD τ).loc main_v0) (ℓi := (T d : Thread nD τ).loc main_v36) (ℓo := (T d : Thread nD τ).loc main_v37)
      (Tile.Sd T3) (A 3 d (Proc.devRef .tc main_v0)) (A 3 d (Proc.devRef .tc main_v36)) (rows3 d (A 3 d (Proc.devRef .tc main_v0)) (A 3 d (Proc.devRef .tc main_v36))) x

instance goQ_storable (q d x) : BI.Storable (upEmb : UEmb _ 𝕄) (goQ A q d x) :=
  match q with
  | 0 => Tile.goes_storable .. | 1 => Tile.goes_storable .. | 2 => Tile.goes_storable .. | 3 => Tile.goes_storable ..
instance tdQ_storable (q d x) : BI.Storable (upEmb : UEmb _ 𝕄) (tdQ A q d x) :=
  match q with
  | 0 => Tile.backs_storable .. | 1 => Tile.backs_storable .. | 2 => Tile.backs_storable .. | 3 => Tile.backs_storable ..

theorem nCore_eq (q : Fin 4) : (K (F := F)).nCore q = 2 := match q with | 0 => rfl | 1 => rfl | 2 => rfl | 3 => rfl
theorem nSub_eq (q : Fin 4) : (K (F := F)).nSub q = 16 := match q with | 0 => rfl | 1 => rfl | 2 => rfl | 3 => rfl

/-- A task's place in its call's grid, as a pair. -/
def at2 (q : Fin 4) (c : Fin ((K (F := F)).nCore q)) (i : Fin ((K (F := F)).nSub q)) : Fin 2 × Fin 16 :=
  (Fin.cast (nCore_eq q) c, Fin.cast (nSub_eq q) i)

/-- The payloads of the four calls. -/
def P : (K (F := F)).Pay (nD := nD) (Name := ℕ) (U := UU) (Val := Elt F) where
  st := fun q d c => bigSep Finset.univ fun i : Fin ((K (F := F)).nSub q) => goQ A q d (at2 q c i)
  dn := fun q d c => bigSep Finset.univ fun i : Fin ((K (F := F)).nSub q) => tdQ A q d (at2 q c i)
  go := fun q d c i => goQ A q d (at2 q c i)
  td := fun q d c i => tdQ A q d (at2 q c i)
  x := fun _ _ => iprop(emp)

instance P_storable : (P (F := F) A).IsStorable where
  st q d c := by unfold P; infer_instance
  dn q d c := by unfold P; infer_instance
  go q d c i := by unfold P; infer_instance
  td q d c i := by unfold P; infer_instance

theorem vecSplit (q : Fin 4) : (K (F := F)).VecSplit' (P A) q := by
  intro d c
  have h : (bigSep Finset.univ fun i : Fin ((K (F := F)).nSub q) => goQ A q d (at2 q c i)) ⊢ |={Set.univ}=> iprop(
      (bigSep Finset.univ fun i : Fin ((K (F := F)).nSub q) => goQ A q d (at2 q c i))
      ∗ ((bigSep Finset.univ fun i : Fin ((K (F := F)).nSub q) => tdQ A q d (at2 q c i))
        -∗ bigSep Finset.univ fun i : Fin ((K (F := F)).nSub q) => tdQ A q d (at2 q c i))) := by
    iintro H
    imodintro
    isplitl [H]
    · iexact H
    iintro H
    iexact H
  exact h

/-! ## The tasks' proofs -/

theorem obl_post {thr : Thread nD τ} {X Y Z : sProp 𝕄} {O : CellTallies nD τ sig (HIx 4)} {W : Waits sig (HIx 4)} {q : Fin 4} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %h, HO⟩
  iframe HX HY HZ
  iexists W'
  isplitr
  · ipureintro; exact fun p hp => (h p hp).imp_right Or.inl
  · iexact HO

/-- A task's coordinates in its call's grid. -/
def coordsV (c : Fin (grid0.bound 0)) (s : Fin (grid0.bound 1)) : grid0.Coords :=
  fun | 0 => c | 1 => s | ⟨_ + 2, h⟩ => absurd h (Nat.not_lt.2 (Nat.le_add_left _ _))

variable (F) in
/-- Every row number handed to a call is a row of the table. -/
def Ok : Prop := ∀ d,
  (∀ x : S32x8x128.Idx, ((A 0 d (Proc.devRef .tc main_v21) : S32x8x128.Idx → BitVec 32) x).toNat < 1024)
  ∧ (∀ x : S32x24x128.Idx, ((A 1 d (Proc.devRef .tc main_v26) : S32x24x128.Idx → BitVec 32) x).toNat < 1024)
  ∧ (∀ x : S32x48x128.Idx, ((A 2 d (Proc.devRef .tc main_v31) : S32x48x128.Idx → BitVec 32) x).toNat < 1024)
  ∧ (∀ x : S32x48x128.Idx, ((A 3 d (Proc.devRef .tc main_v36) : S32x48x128.Idx → BitVec 32) x).toNat < 1024)

abbrev EC : UEmb Counters 𝕄 := countersEmb

section
variable (i : grid0.Coords)
theorem task_eq0 : cc0_gather_kernel (F := F) i (Memref.whole main_v0_scv) (Memref.isWhole_whole _) (Memref.whole main_v21_scv) (Memref.isWhole_whole _) (Memref.whole main_v22_scv) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scoped0 cc0_scoped1 cc0_scoped2 = Tile.task T0 (sc0 i) ((i 0).castLE hcore0) ((i 1).castLE hsub0) := cc0_eq ..

set_option maxRecDepth 16384 in
/-- Each task of call 0 gathers its rows. -/
theorem tileObl0 (hok : Ok F A) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [show defs₀ (F := F) (.scVector ((K (F := F)).core 0 c) ((K (F := F)).sub 0 i)) 0 ()
    = SparseCore.onTile hcore0 hsub0 (fun c s => cc0_gather_kernel (F := F) (coordsV c s) (Memref.whole main_v0_scv) (Memref.isWhole_whole _) (Memref.whole main_v21_scv) (Memref.isWhole_whole _) (Memref.whole main_v22_scv) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scoped0 cc0_scoped1 cc0_scoped2) ⟨⟩
        ((K (F := F)).core 0 c) ((K (F := F)).sub 0 i) from rfl]
  simp only [SparseCore.onTile, hci, and_self, ↓reduceDIte]
  rw [task_eq0]
  have h := Tile.tile_run (F := F) (defs := defs₀ (F := F)) EC 𝒱₀ (K (F := F)) T0 (sc0 (coordsV ⟨_, hci.1⟩ ⟨_, hci.2⟩)) hsFacts
    credit0.1 credit0.2 (by decide) rfl ![cc0_scratch0, cc0_scratch1, cc0_scratch2] (by decide) (by decide) (by decide)
    d (((K (F := F)).core 0 c)) (((K (F := F)).sub 0 i)) (fun j => by fin_cases j <;> rfl) rfl rfl rfl (at2 0 c i)
    (closed0 (coordsV ⟨_, hci.1⟩ ⟨_, hci.2⟩)) (k0_off1_eq (coordsV ⟨_, hci.1⟩ ⟨_, hci.2⟩))
    (ft := A 0 d (Proc.devRef .tc main_v0)) (fi := A 0 d (Proc.devRef .tc main_v21))
    (g := rows0 d (A 0 d (Proc.devRef .tc main_v0)) (A 0 d (Proc.devRef .tc main_v21))) rfl ((hok d).1) O W hO
  exact h.trans (wp_mono frame _ _ fun _ => obl_post)
end

section
variable (i : grid2.Coords)
theorem task_eq1 : cc2_gather_kernel (F := F) i (Memref.whole main_v0_scv) (Memref.isWhole_whole _) (Memref.whole main_v26_scv) (Memref.isWhole_whole _) (Memref.whole main_v27_scv) (Memref.isWhole_whole _)
      (Memref.whole cc2_scratch0) (Memref.isWhole_whole _) (Memref.whole cc2_scratch1) (Memref.isWhole_whole _) (Memref.whole cc2_scratch2) (Memref.isWhole_whole _)
      cc2_scratch3 cc2_scratch4 cc2_scoped0 cc2_scoped1 cc2_scoped2 = Tile.task T1 (sc2 i) ((i 0).castLE hcore2) ((i 1).castLE hsub2) := cc2_eq ..

set_option maxRecDepth 16384 in
/-- Each task of call 1 gathers its rows. -/
theorem tileObl1 (hok : Ok F A) : (K (F := F)).TileObl (D (F := F)) 𝒱 (P A) v₀ 1 := by
  intro d c i O W hO _ _
  simp only [show (P A).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [show defs₀ (F := F) (.scVector ((K (F := F)).core 1 c) ((K (F := F)).sub 1 i)) 2 ()
    = SparseCore.onTile hcore2 hsub2 (fun c s => cc2_gather_kernel (F := F) (coordsV c s) (Memref.whole main_v0_scv) (Memref.isWhole_whole _) (Memref.whole main_v26_scv) (Memref.isWhole_whole _) (Memref.whole main_v27_scv) (Memref.isWhole_whole _)
      (Memref.whole cc2_scratch0) (Memref.isWhole_whole _) (Memref.whole cc2_scratch1) (Memref.isWhole_whole _) (Memref.whole cc2_scratch2) (Memref.isWhole_whole _)
      cc2_scratch3 cc2_scratch4 cc2_scoped0 cc2_scoped1 cc2_scoped2) ⟨⟩
        ((K (F := F)).core 1 c) ((K (F := F)).sub 1 i) from rfl]
  simp only [SparseCore.onTile, hci, and_self, ↓reduceDIte]
  rw [task_eq1]
  have h := Tile.tile_run (F := F) (defs := defs₀ (F := F)) EC 𝒱₀ (K (F := F)) T1 (sc2 (coordsV ⟨_, hci.1⟩ ⟨_, hci.2⟩)) hsFacts
    credit1.1 credit1.2 (by decide) rfl ![cc2_scratch0, cc2_scratch1, cc2_scratch2] (by decide) (by decide) (by decide)
    d (((K (F := F)).core 1 c)) (((K (F := F)).sub 1 i)) (fun j => by fin_cases j <;> rfl) rfl rfl rfl (at2 1 c i)
    (closed2 (coordsV ⟨_, hci.1⟩ ⟨_, hci.2⟩)) (k2_off1_eq (coordsV ⟨_, hci.1⟩ ⟨_, hci.2⟩))
    (ft := A 1 d (Proc.devRef .tc main_v0)) (fi := A 1 d (Proc.devRef .tc main_v26))
    (g := rows1 d (A 1 d (Proc.devRef .tc main_v0)) (A 1 d (Proc.devRef .tc main_v26))) rfl ((hok d).2.1) O W hO
  exact h.trans (wp_mono frame _ _ fun _ => obl_post)
end

section
variable (i : grid4.Coords)
theorem task_eq2 : cc4_gather_kernel (F := F) i (Memref.whole main_v0_scv) (Memref.isWhole_whole _) (Memref.whole main_v31_scv) (Memref.isWhole_whole _) (Memref.whole main_v32_scv) (Memref.isWhole_whole _)
      (Memref.whole cc4_scratch0) (Memref.isWhole_whole _) (Memref.whole cc4_scratch1) (Memref.isWhole_whole _) (Memref.whole cc4_scratch2) (Memref.isWhole_whole _)
      cc4_scratch3 cc4_scratch4 cc4_scoped0 cc4_scoped1 cc4_scoped2 = Tile.task T2 (sc4 i) ((i 0).castLE hcore4) ((i 1).castLE hsub4) := cc4_eq ..

set_option maxRecDepth 16384 in
/-- Each task of call 2 gathers its rows. -/
theorem tileObl2 (hok : Ok F A) : (K (F := F)).TileObl (D (F := F)) 𝒱 (P A) v₀ 2 := by
  intro d c i O W hO _ _
  simp only [show (P A).ox = fun _ _ => 0 from rfl, add_zero]
  have hci : ((K (F := F)).core 2 c).val < grid4.bound 0 ∧ ((K (F := F)).sub 2 i).val < grid4.bound 1 := ⟨c.isLt, i.isLt⟩
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  rw [show defs₀ (F := F) (.scVector ((K (F := F)).core 2 c) ((K (F := F)).sub 2 i)) 4 ()
    = SparseCore.onTile hcore4 hsub4 (fun c s => cc4_gather_kernel (F := F) (coordsV c s) (Memref.whole main_v0_scv) (Memref.isWhole_whole _) (Memref.whole main_v31_scv) (Memref.isWhole_whole _) (Memref.whole main_v32_scv) (Memref.isWhole_whole _)
      (Memref.whole cc4_scratch0) (Memref.isWhole_whole _) (Memref.whole cc4_scratch1) (Memref.isWhole_whole _) (Memref.whole cc4_scratch2) (Memref.isWhole_whole _)
      cc4_scratch3 cc4_scratch4 cc4_scoped0 cc4_scoped1 cc4_scoped2) ⟨⟩
        ((K (F := F)).core 2 c) ((K (F := F)).sub 2 i) from rfl]
  simp only [SparseCore.onTile, hci, and_self, ↓reduceDIte]
  rw [task_eq2]
  have h := Tile.tile_run (F := F) (defs := defs₀ (F := F)) EC 𝒱₀ (K (F := F)) T2 (sc4 (coordsV ⟨_, hci.1⟩ ⟨_, hci.2⟩)) hsFacts
    credit2.1 credit2.2 (by decide) rfl ![cc4_scratch0, cc4_scratch1, cc4_scratch2] (by decide) (by decide) (by decide)
    d (((K (F := F)).core 2 c)) (((K (F := F)).sub 2 i)) (fun j => by fin_cases j <;> rfl) rfl rfl rfl (at2 2 c i)
    (closed4 (coordsV ⟨_, hci.1⟩ ⟨_, hci.2⟩)) (k4_off1_eq (coordsV ⟨_, hci.1⟩ ⟨_, hci.2⟩))
    (ft := A 2 d (Proc.devRef .tc main_v0)) (fi := A 2 d (Proc.devRef .tc main_v31))
    (g := rows2 d (A 2 d (Proc.devRef .tc main_v0)) (A 2 d (Proc.devRef .tc main_v31))) rfl ((hok d).2.2.1) O W hO
  exact h.trans (wp_mono frame _ _ fun _ => obl_post)
end

section
variable (i : grid6.Coords)
theorem task_eq3 : cc6_gather_kernel (F := F) i (Memref.whole main_v0_scv) (Memref.isWhole_whole _) (Memref.whole main_v36_scv) (Memref.isWhole_whole _) (Memref.whole main_v37_scv) (Memref.isWhole_whole _)
      (Memref.whole cc6_scratch0) (Memref.isWhole_whole _) (Memref.whole cc6_scratch1) (Memref.isWhole_whole _) (Memref.whole cc6_scratch2) (Memref.isWhole_whole _)
      cc6_scratch3 cc6_scratch4 cc6_scoped0 cc6_scoped1 cc6_scoped2 = Tile.task T3 (sc4 i) ((i 0).castLE hcore6) ((i 1).castLE hsub6) := (congrFun (congrFun (congrFun (congrFun (congrFun (congrFun (congrFun (congrFun (congrFun (congrFun (congrFun (congrFun (congrFun (congrFun (congrFun (congrFun (congrFun (cc6_eq4 i) _) _) _) _) _) _) _) _) _) _) _) _) _) _) _) _) _).trans (cc4_eq ..)

set_option maxRecDepth 16384 in
/-- Each task of call 3 gathers its rows. -/
theorem tileObl3 (hok : Ok F A) : (K (F := F)).TileObl (D (F := F)) 𝒱 (P A) v₀ 3 := by
  intro d c i O W hO _ _
  simp only [show (P A).ox = fun _ _ => 0 from rfl, add_zero]
  have hci : ((K (F := F)).core 3 c).val < grid6.bound 0 ∧ ((K (F := F)).sub 3 i).val < grid6.bound 1 := ⟨c.isLt, i.isLt⟩
  change _ ⊢ wp _ _ _ (Pipeline.liftProg (defs₀ (F := F) (.scVector ((K (F := F)).core 3 c) ((K (F := F)).sub 3 i)) 6 ())) _
  refine BI.Entails.trans ?_ (Pipeline.wp_liftProg (D (F := F)) (Pipeline.defs_kernel pcfgs defs₀) 𝒱₀ _ Set.univ none _ _)
  rw [show defs₀ (F := F) (.scVector ((K (F := F)).core 3 c) ((K (F := F)).sub 3 i)) 6 ()
    = SparseCore.onTile hcore6 hsub6 (fun c s => cc6_gather_kernel (F := F) (coordsV c s) (Memref.whole main_v0_scv) (Memref.isWhole_whole _) (Memref.whole main_v36_scv) (Memref.isWhole_whole _) (Memref.whole main_v37_scv) (Memref.isWhole_whole _)
      (Memref.whole cc6_scratch0) (Memref.isWhole_whole _) (Memref.whole cc6_scratch1) (Memref.isWhole_whole _) (Memref.whole cc6_scratch2) (Memref.isWhole_whole _)
      cc6_scratch3 cc6_scratch4 cc6_scoped0 cc6_scoped1 cc6_scoped2) ⟨⟩
        ((K (F := F)).core 3 c) ((K (F := F)).sub 3 i) from rfl]
  simp only [SparseCore.onTile, hci, and_self, ↓reduceDIte]
  rw [task_eq3]
  have h := Tile.tile_run (F := F) (defs := defs₀ (F := F)) EC 𝒱₀ (K (F := F)) T3 (sc4 (coordsV ⟨_, hci.1⟩ ⟨_, hci.2⟩)) hsFacts
    credit3.1 credit3.2 (by decide) rfl ![cc6_scratch0, cc6_scratch1, cc6_scratch2] (by decide) (by decide) (by decide)
    d (((K (F := F)).core 3 c)) (((K (F := F)).sub 3 i)) (fun j => by fin_cases j <;> rfl) rfl rfl rfl (at2 3 c i)
    (closed4 (coordsV ⟨_, hci.1⟩ ⟨_, hci.2⟩)) (k4_off1_eq (coordsV ⟨_, hci.1⟩ ⟨_, hci.2⟩))
    (ft := A 3 d (Proc.devRef .tc main_v0)) (fi := A 3 d (Proc.devRef .tc main_v36))
    (g := rows3 d (A 3 d (Proc.devRef .tc main_v0)) (A 3 d (Proc.devRef .tc main_v36))) rfl ((hok d).2.2.2) O W hO
  exact h.trans (wp_mono frame _ _ fun _ => obl_post)
end

end Cert.Proof.KI

end
-- ==== Proof.MapDat.lean ====
/-
  A pipeline whose body leaves every window's block as fetched except one output window's, which it fills with a
  given function of the point: its proof data, and its body obligation from the body's effect on the blocks.
-/
module

public import Idealize.ShloMosaic.Lib.Pipeline.Kit
public import Idealize.ShloMosaic.Lib.Pipeline.Regions
public import Idealize.ShloMosaic.Lib.Pipeline.RegionArrays
public import Idealize.ShloMosaic.Lib.Pipeline.FrameBody
public import Idealize.ShloMosaic.Lib.Pipeline.Value
public import Idealize.ShloMosaic.Lib.VecWindow
public import Idealize.ShloMosaic.Lib.SparseCore.Quiescent
public import Idealize.ShloMosaic.Lib.Tactic

@[expose] public section

noncomputable section

namespace Cert.Proof.MapDat

open Idealize.ShloMosaic Idealize.ShloMosaic.Pipeline Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {Val : EltTy → Type} [∀ e, Nonempty (Val e)]
variable {Ix : Type} [DecidableEq Ix] {Name : Type} [DecidableEq Name] {U : Type} [URA U] {Lvl : Type} [Preorder Lvl]

local notation "𝕄" => MT nD τ sig Ix Val Name U Lvl

/-! ## Loads and stores of a whole memref -/

section Own

variable {Λ : Labels} {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load of all of a memref continues at what the memref holds. -/
theorem wp_ld {cs : CoreSpace} {m : Memref sig c.2.kind cs s e} {q : PosShare TreeShare} {X : s.Idx → Val e} {off : Fin s.rank → ℕ}
    {inb : ∀ a, off a + s.size a ≤ s.size a} {hl : m.view.LoadsAt (Rect.unit off s.size inb).toLoadRect}
    {k : (s.Idx → Val e) → Prog (TpuEff nD τ sig Val Λ c.2) α} :
    (owns c m q X : sProp 𝕄) ⊢ iprop((owns c m q X -∗ wp frame (wpE defs 𝒱 c bd) E (k X) Q)
      -∗ wp frame (wpE defs 𝒱 c bd) E (.op (.load m (Rect.unit off s.size inb).toLoadRect hl) k) Q) := by
  unfold owns
  iintro ⟨%f, %hf, H⟩ Hk
  iapply (wp_load 𝒱 c bd E (m := m) (r := (Rect.unit off s.size inb).toLoadRect) (hl := hl) (k := k) (S := m.view.set)
    (View.setOn_subset_set _ _)) $$ H
  iintro H
  rw [View.readAt_full, hf]
  iapply Hk
  iexists f
  isplitr; · ipureintro; exact hf
  iexact H

/-- A store of all of a memref leaves what was stored. -/
theorem wp_st {cs : CoreSpace} {m : Memref sig c.2.kind cs s e} {X w : s.Idx → Val e} {off : Fin s.rank → ℕ}
    {inb : ∀ a, off a + s.size a ≤ s.size a} {hx : (m.access (Rect.unit off s.size inb)).Stores Finset.univ}
    {hm : Finset.univ = Finset.univ ∨ ∀ a, (Rect.unit off s.size inb).stride a = 1}
    {k : PUnit → Prog (TpuEff nD τ sig Val Λ c.2) α} :
    (owns c m fullShare X : sProp 𝕄) ⊢ iprop((owns c m fullShare w -∗ wp frame (wpE defs 𝒱 c bd) E (k ⟨⟩) Q)
      -∗ wp frame (wpE defs 𝒱 c bd) E (.op (.store m (Rect.unit off s.size inb) w Finset.univ hx hm) k) Q) := by
  unfold owns
  iintro ⟨%f, %hf, H⟩ Hk
  iapply (wp_store_writes₀ 𝒱 c bd E (m := m) (r := Rect.unit off s.size inb) (w := w) (hx := hx) (hm := hm) (k := k) (S := m.view.set)
    ((Memref.set_access_subset_setOn m _).trans (View.setOn_subset_set _ _))) $$ H
  iintro H
  iapply Hk
  iexists _
  isplitr; swap; · iexact H
  ipureintro
  exact View.read_writes_full m.view f inb w []

end Own

/-! ## The proof data -/

variable {Λ₀ : Labels} {cfg : Cfg sig Λ₀} (c : Dev nD)

/-- What a fetch at point `t` puts in window `w`'s buffer when the arrays hold `A`. -/
def staged (A : (w : Fin cfg.W) → Buf Val ((cfg.win w).arr.view.loc (c.tc : Thread nD τ))) (w : Fin cfg.W) (t : Fin cfg.N) :
    (cfg.win w).block.Idx → Val (cfg.win w).elt :=
  (cfg.win w).fill (cfg.grid.coords t) (fun _ => Classical.arbitrary _) (((cfg.win w).blk t).view.read Val (A w))

/-- The data: arrays at `A`; every window's block as fetched, window `o`'s at `out`; `R` throughout; the core owing `D`
    throughout, the pairs in `rec` waited for before. -/
def mapDat (A : (w : Fin cfg.W) → Buf Val ((cfg.win w).arr.view.loc (c.tc : Thread nD τ))) (o : Fin cfg.W)
    (out : Fin cfg.N → (cfg.win o).block.Idx → Val (cfg.win o).elt) (R : sProp 𝕄) (D : CellTallies nD τ sig Ix)
    (rec : Set (SemLoc sig × Ix)) : Dat τ Val Ix Name U Lvl cfg c where
  A := A
  after w t := Function.update (fun w : Fin cfg.W => staged c A w t) o (out t) w
  Φ _ := R
  q _ := fullShare
  owed _ := D
  recorded _ := rec

section
variable {c} {A : (w : Fin cfg.W) → Buf Val ((cfg.win w).arr.view.loc (c.tc : Thread nD τ))} {o : Fin cfg.W}
    {out : Fin cfg.N → (cfg.win o).block.Idx → Val (cfg.win o).elt} {R : sProp (MT nD τ sig Ix Val Name U Lvl)} {D : CellTallies nD τ sig Ix}
    {rec : Set (SemLoc sig × Ix)}

/-- An input window's buffer holds its block at every point. -/
theorem mapDat_before (w : Fin cfg.W) (hne : w ≠ o) (hw : (cfg.win w).isOut = false) (hlive : ∀ i, cfg.idle w i = false)
    (hclip : ∀ i a, (cfg.win w).clip i a = none) (t : Fin cfg.N) (d : (cfg.win w).block.Idx → Val (cfg.win w).elt) :
    (mapDat c A o out R D rec).before w t d = staged c A w t := by
  rw [Dat.before_in_eq_fetched (mapDat c A o out R D rec) w hw hlive
    (fun t t' _ => funext fun a => (hclip _ a).trans (hclip _ a).symm)
    (fun t => by
      show (cfg.win w).cut _ (Function.update (fun w : Fin cfg.W => staged c A w t) o (out t) w) = _
      rw [Function.update_of_ne hne]
      exact (cfg.win w).cut_fill _ _ _)]
  exact Dat.fetched_of_clip_none _ w t (fun a => hclip _ a) d _

/-- The body obligation, from the body's effect: handed every input's block and anything in window `o`'s buffer, it
    leaves the inputs' as they were and `out t` in `o`'s. -/
theorem mapDat_body {defs₀ : Defs nD τ sig Val Λ₀} {𝒱₀ : Variants} (ι : Ix)
    (hin : ∀ w, w ≠ o → (cfg.win w).isOut = false) (hlive : ∀ w i, cfg.idle w i = false)
    (hclip : ∀ w i a, (cfg.win w).clip i a = none)
    (hbody : ∀ (t : Fin cfg.N) (X : (cfg.win o).block.Idx → Val (cfg.win o).elt),
      (bigSep Finset.univ fun w : Fin cfg.W => owns c ((cfg.win w).stage (cfg.slots t w)) fullShare
          (Function.update (fun w : Fin cfg.W => staged c A w t) o X w) : sProp 𝕄)
        ⊢ wp frame (wpE defs₀ 𝒱₀ c none) Set.univ (defs₀ .tc cfg.body (cfg.bodyArgs t (cfg.slots t))) fun _ =>
            bigSep Finset.univ fun w : Fin cfg.W => owns c ((cfg.win w).stage (cfg.slots t w)) fullShare
              (Function.update (fun w : Fin cfg.W => staged c A w t) o (out t) w)) :
    BodyObligation (mapDat c A o out R D rec) defs₀ 𝒱₀ ι Set.univ := by
  unfold BodyObligation
  intro t
  have hpre : (bigSep Finset.univ fun w : Fin cfg.W =>
        iprop(∃ d, owns c ((cfg.win w).stage (cfg.slots t w)) fullShare ((mapDat c A o out R D rec).before w t d)) : sProp 𝕄)
      ⊢ iprop(∃ X, bigSep Finset.univ fun w : Fin cfg.W => owns c ((cfg.win w).stage (cfg.slots t w)) fullShare
          (Function.update (fun w : Fin cfg.W => staged c A w t) o X w)) := by
    have hr : ∀ X, (bigSep (Finset.univ.erase o) fun w : Fin cfg.W =>
        iprop(∃ d, owns c ((cfg.win w).stage (cfg.slots t w)) fullShare ((mapDat c A o out R D rec).before w t d)) : sProp 𝕄)
        ⊢ bigSep (Finset.univ.erase o) fun w : Fin cfg.W => owns c ((cfg.win w).stage (cfg.slots t w)) fullShare
          (Function.update (fun w : Fin cfg.W => staged c A w t) o X w) := by
      intro X
      refine bigSep_mono fun w hw => ?_
      have hne : w ≠ o := (Finset.mem_erase.mp hw).1
      rw [Function.update_of_ne hne]
      exact (show iprop(∃ d, owns c.tc ((cfg.win w).stage (cfg.slots t w)) fullShare ((mapDat c A o out R D rec).before w t d)) ⊢
          (owns c.tc ((cfg.win w).stage (cfg.slots t w)) fullShare (staged c A w t) : sProp 𝕄) from by
        iintro ⟨%d, H⟩
        rw [mapDat_before w hne (hin w hne) (hlive w) (hclip w)]
        iexact H)
    rw [SparseCore.bigSep_erase' (Finset.mem_univ o)]
    iintro ⟨⟨%d, Ho⟩, Hr⟩
    iexists ((mapDat c A o out R D rec).before o t d)
    rw [SparseCore.bigSep_erase' (Finset.mem_univ o), Function.update_self]
    isplitl [Ho]; · iexact Ho
    iapply hr _ $$ Hr
  have hi : ∀ w : Fin cfg.W, cfg.idle w (cfg.grid.coords t) = false := fun w => hlive w _
  simp only [hi]
  iintro ⟨H1, H2, H3⟩
  ihave H3 := hpre $$ H3
  icases H3 with ⟨%X, H3⟩
  iapply (wp_wand frame (wpE defs₀ 𝒱₀ (c.tc : Thread nD τ) none) Set.univ (Q := fun _ => bigSep Finset.univ fun w : Fin cfg.W => owns c ((cfg.win w).stage (cfg.slots t w)) fullShare
      (Function.update (fun w : Fin cfg.W => staged c A w t) o (out t) w))) $$ [H3]
  · iapply (hbody t X) $$ H3
  iintro %_ H3
  rw [show (mapDat c A o out R D rec).Φ t.succ = (mapDat c A o out R D rec).Φ t.castSucc from rfl,
    show (mapDat c A o out R D rec).owesAt ι t.succ = (mapDat c A o out R D rec).owesAt ι t.castSucc from rfl]
  isplitl [H1]; · iexact H1
  isplitl [H2]; · iexact H2
  iexact H3
end

end Cert.Proof.MapDat

end
-- ==== Proof.TcBody.lean ====
/-
  The four TensorCore bodies are one program; what it writes is a function of the blocks it is handed.
-/
module

public import proofs.«01_k».proof.Proof.Base
public import proofs.«01_k».proof.Proof.MapDat
@[expose] public section
noncomputable section
namespace Cert.Proof.KI
open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
variable {F : FTy → Type} [FloatOps F]

local notation "𝕄" => MT nD τ sig (HIx 4) (Elt F) ℕ UU ℕ

theorem part3_eq (i : grid3.Coords) (j : grid1.Coords) : k3_part1 (F := F) i = k1_part1 (F := F) j := rfl
theorem part5_eq (i : grid5.Coords) (j : grid1.Coords) : k5_part1 (F := F) i = k1_part1 (F := F) j := rfl
theorem part7_eq (i : grid7.Coords) (j : grid1.Coords) : k7_part1 (F := F) i = k1_part1 (F := F) j := rfl
theorem body3_eq (i : grid3.Coords) (j : grid1.Coords) : cc3_body (F := F) i = cc1_body (F := F) j := rfl
theorem body5_eq (i : grid5.Coords) (j : grid1.Coords) : cc5_body (F := F) i = cc1_body (F := F) j := rfl
theorem body7_eq (i : grid7.Coords) (j : grid1.Coords) : cc7_body (F := F) i = cc1_body (F := F) j := rfl

/-- What the body writes, of the thirteen blocks it reads. -/
def mlpOut (X1 : Vec F S2x16384 .f32) (X2 : Vec F S16384x128 .f32) (X3 : Vec F S2x256 .bf16) (X4 : Vec F S128x256 .bf16)
    (X5 : Vec F S1x256 .bf16) (X6 : Vec F S256x256 .bf16) (X7 : Vec F S1x256 .bf16) (X8 : Vec F S256x256 .bf16)
    (X9 : Vec F S1x256 .bf16) (X10 : Vec F S256x256 .bf16) (X11 : Vec F S1x256 .bf16) (X12 : Vec F S256x3 .bf16)
    (X13 : Vec F S3x1 .f32) : Vec F S3x16384 .f32 :=
  k1_pay1 (k1_pay2 X1 X3 X2 X4 X5 X6 X7 X8) X9 X10 X11 X12 X13

set_option maxRecDepth 65536 in
/-- The body, holding its fourteen blocks, leaves the first thirteen as they were and the last at `mlpOut` of them. -/
theorem wp_body (c : Dev nD) (i : grid1.Coords) {arg1 : Memref sig .tc .vmem S2x16384 .f32} {harg1 : arg1.IsWhole} {arg2 : Memref sig .tc .vmem S16384x128 .f32} {harg2 : arg2.IsWhole} {arg3 : Memref sig .tc .vmem S2x256 .bf16} {harg3 : arg3.IsWhole} {arg4 : Memref sig .tc .vmem S128x256 .bf16} {harg4 : arg4.IsWhole} {arg5 : Memref sig .tc .vmem S1x256 .bf16} {harg5 : arg5.IsWhole} {arg6 : Memref sig .tc .vmem S256x256 .bf16} {harg6 : arg6.IsWhole} {arg7 : Memref sig .tc .vmem S1x256 .bf16} {harg7 : arg7.IsWhole} {arg8 : Memref sig .tc .vmem S256x256 .bf16} {harg8 : arg8.IsWhole} {arg9 : Memref sig .tc .vmem S1x256 .bf16} {harg9 : arg9.IsWhole} {arg10 : Memref sig .tc .vmem S256x256 .bf16} {harg10 : arg10.IsWhole} {arg11 : Memref sig .tc .vmem S1x256 .bf16} {harg11 : arg11.IsWhole} {arg12 : Memref sig .tc .vmem S256x3 .bf16} {harg12 : arg12.IsWhole} {arg13 : Memref sig .tc .vmem S3x1 .f32} {harg13 : arg13.IsWhole} {arg14 : Memref sig .tc .vmem S3x16384 .f32} {harg14 : arg14.IsWhole}
    {X1 X2 X3 X4 X5 X6 X7 X8 X9 X10 X11 X12 X13 X14} :
    iprop(owns c.tc arg1 fullShare X1 ∗ owns c.tc arg2 fullShare X2 ∗ owns c.tc arg3 fullShare X3 ∗ owns c.tc arg4 fullShare X4 ∗ owns c.tc arg5 fullShare X5 ∗ owns c.tc arg6 fullShare X6 ∗ owns c.tc arg7 fullShare X7 ∗ owns c.tc arg8 fullShare X8 ∗ owns c.tc arg9 fullShare X9 ∗ owns c.tc arg10 fullShare X10 ∗ owns c.tc arg11 fullShare X11 ∗ owns c.tc arg12 fullShare X12 ∗ owns c.tc arg13 fullShare X13 ∗ owns c.tc arg14 fullShare X14)
      ⊢ (wp frame (wpE defs₀ 𝒱₀ c.tc none) Set.univ
          (cc1_body (F := F) i arg1 harg1 arg2 harg2 arg3 harg3 arg4 harg4 arg5 harg5 arg6 harg6 arg7 harg7 arg8 harg8 arg9 harg9 arg10 harg10 arg11 harg11 arg12 harg12 arg13 harg13 arg14 harg14) (fun _ =>
            iprop(owns c.tc arg1 fullShare X1 ∗ owns c.tc arg2 fullShare X2 ∗ owns c.tc arg3 fullShare X3 ∗ owns c.tc arg4 fullShare X4 ∗ owns c.tc arg5 fullShare X5 ∗ owns c.tc arg6 fullShare X6 ∗ owns c.tc arg7 fullShare X7 ∗ owns c.tc arg8 fullShare X8 ∗ owns c.tc arg9 fullShare X9 ∗ owns c.tc arg10 fullShare X10 ∗ owns c.tc arg11 fullShare X11 ∗ owns c.tc arg12 fullShare X12 ∗ owns c.tc arg13 fullShare X13 ∗ owns c.tc arg14 fullShare (mlpOut X1 X2 X3 X4 X5 X6 X7 X8 X9 X10 X11 X12 X13))) : sProp 𝕄) := by
  rw [cc1_body_eq_skeleton]
  unfold cc1_body_skel
  rw [k1_part1_eq_skeleton]
  unfold k1_part1_skel
  simp only [Prog.lift, Prog.bind_op, Prog.bind_ret, Prog.bind_assoc]
  iintro ⟨H1, H2, H3, H4, H5, H6, H7, H8, H9, H10, H11, H12, H13, H14⟩
  iapply (MapDat.wp_ld 𝒱₀ c.tc none Set.univ) $$ H1; iintro H1
  iapply (MapDat.wp_ld 𝒱₀ c.tc none Set.univ) $$ H3; iintro H3
  iapply (MapDat.wp_ld 𝒱₀ c.tc none Set.univ) $$ H2; iintro H2
  iapply (MapDat.wp_ld 𝒱₀ c.tc none Set.univ) $$ H4; iintro H4
  iapply (MapDat.wp_ld 𝒱₀ c.tc none Set.univ) $$ H5; iintro H5
  iapply (MapDat.wp_ld 𝒱₀ c.tc none Set.univ) $$ H6; iintro H6
  iapply (MapDat.wp_ld 𝒱₀ c.tc none Set.univ) $$ H7; iintro H7
  iapply (MapDat.wp_ld 𝒱₀ c.tc none Set.univ) $$ H8; iintro H8
  iapply (MapDat.wp_ld 𝒱₀ c.tc none Set.univ) $$ H9; iintro H9
  iapply (MapDat.wp_ld 𝒱₀ c.tc none Set.univ) $$ H10; iintro H10
  iapply (MapDat.wp_ld 𝒱₀ c.tc none Set.univ) $$ H11; iintro H11
  iapply (MapDat.wp_ld 𝒱₀ c.tc none Set.univ) $$ H12; iintro H12
  iapply (MapDat.wp_ld 𝒱₀ c.tc none Set.univ) $$ H13; iintro H13
  iapply (MapDat.wp_ld 𝒱₀ c.tc none Set.univ) $$ H14; iintro H14
  iapply (MapDat.wp_st 𝒱₀ c.tc none Set.univ (w := mlpOut X1 X2 X3 X4 X5 X6 X7 X8 X9 X10 X11 X12 X13)) $$ H14; iintro H14
  rw [wp_pure]
  imodintro
  iframe

/-! ## The four calls' data -/

variable (V : Dev nD → Valuation τ sig (Elt F)) (O : Dev nD → CellTallies nD τ sig (HIx 4)) (B : Dev nD → Set (SemLoc sig × HIx 4))

/-- The arrays of pipeline 0 at the valuation. -/
abbrev arrs1 (c : Dev nD) (w : Fin cfg1.W) : Buf (Elt F) ((cfg1.win w).arr.view.loc (c.tc : Thread nD τ)) :=
  V c (Proc.devRef .tc (Pipeline.arrRef spec1 w))
/-- What point `t` of pipeline 0 writes. -/
abbrev out1 (c : Dev nD) (t : Fin cfg1.N) : (cfg1.win 13).block.Idx → Elt F (cfg1.win 13).elt :=
  mlpOut (F := F) (MapDat.staged c (arrs1 V c) 0 t) (MapDat.staged c (arrs1 V c) 1 t) (MapDat.staged c (arrs1 V c) 2 t)
    (MapDat.staged c (arrs1 V c) 3 t) (MapDat.staged c (arrs1 V c) 4 t) (MapDat.staged c (arrs1 V c) 5 t)
    (MapDat.staged c (arrs1 V c) 6 t) (MapDat.staged c (arrs1 V c) 7 t) (MapDat.staged c (arrs1 V c) 8 t)
    (MapDat.staged c (arrs1 V c) 9 t) (MapDat.staged c (arrs1 V c) 10 t) (MapDat.staged c (arrs1 V c) 11 t)
    (MapDat.staged c (arrs1 V c) 12 t)
/-- The proof data of pipeline 0. -/
abbrev dat1 (c : Dev nD) : Pipeline.Dat τ (Elt F) (HIx 4) ℕ UU ℕ cfg1 c :=
  MapDat.mapDat c (arrs1 V c) 13 (out1 V c) (Pipeline.scopedRest spec1 c) (O c) (B c)

/-- The arrays of pipeline 1 at the valuation. -/
abbrev arrs3 (c : Dev nD) (w : Fin cfg3.W) : Buf (Elt F) ((cfg3.win w).arr.view.loc (c.tc : Thread nD τ)) :=
  V c (Proc.devRef .tc (Pipeline.arrRef spec3 w))
/-- What point `t` of pipeline 1 writes. -/
abbrev out3 (c : Dev nD) (t : Fin cfg3.N) : (cfg3.win 13).block.Idx → Elt F (cfg3.win 13).elt :=
  mlpOut (F := F) (MapDat.staged c (arrs3 V c) 0 t) (MapDat.staged c (arrs3 V c) 1 t) (MapDat.staged c (arrs3 V c) 2 t)
    (MapDat.staged c (arrs3 V c) 3 t) (MapDat.staged c (arrs3 V c) 4 t) (MapDat.staged c (arrs3 V c) 5 t)
    (MapDat.staged c (arrs3 V c) 6 t) (MapDat.staged c (arrs3 V c) 7 t) (MapDat.staged c (arrs3 V c) 8 t)
    (MapDat.staged c (arrs3 V c) 9 t) (MapDat.staged c (arrs3 V c) 10 t) (MapDat.staged c (arrs3 V c) 11 t)
    (MapDat.staged c (arrs3 V c) 12 t)
/-- The proof data of pipeline 1. -/
abbrev dat3 (c : Dev nD) : Pipeline.Dat τ (Elt F) (HIx 4) ℕ UU ℕ cfg3 c :=
  MapDat.mapDat c (arrs3 V c) 13 (out3 V c) (Pipeline.scopedRest spec3 c) (O c) (B c)

/-- The arrays of pipeline 2 at the valuation. -/
abbrev arrs5 (c : Dev nD) (w : Fin cfg5.W) : Buf (Elt F) ((cfg5.win w).arr.view.loc (c.tc : Thread nD τ)) :=
  V c (Proc.devRef .tc (Pipeline.arrRef spec5 w))
/-- What point `t` of pipeline 2 writes. -/
abbrev out5 (c : Dev nD) (t : Fin cfg5.N) : (cfg5.win 13).block.Idx → Elt F (cfg5.win 13).elt :=
  mlpOut (F := F) (MapDat.staged c (arrs5 V c) 0 t) (MapDat.staged c (arrs5 V c) 1 t) (MapDat.staged c (arrs5 V c) 2 t)
    (MapDat.staged c (arrs5 V c) 3 t) (MapDat.staged c (arrs5 V c) 4 t) (MapDat.staged c (arrs5 V c) 5 t)
    (MapDat.staged c (arrs5 V c) 6 t) (MapDat.staged c (arrs5 V c) 7 t) (MapDat.staged c (arrs5 V c) 8 t)
    (MapDat.staged c (arrs5 V c) 9 t) (MapDat.staged c (arrs5 V c) 10 t) (MapDat.staged c (arrs5 V c) 11 t)
    (MapDat.staged c (arrs5 V c) 12 t)
/-- The proof data of pipeline 2. -/
abbrev dat5 (c : Dev nD) : Pipeline.Dat τ (Elt F) (HIx 4) ℕ UU ℕ cfg5 c :=
  MapDat.mapDat c (arrs5 V c) 13 (out5 V c) (Pipeline.scopedRest spec5 c) (O c) (B c)

/-- The arrays of pipeline 3 at the valuation. -/
abbrev arrs7 (c : Dev nD) (w : Fin cfg7.W) : Buf (Elt F) ((cfg7.win w).arr.view.loc (c.tc : Thread nD τ)) :=
  V c (Proc.devRef .tc (Pipeline.arrRef spec7 w))
/-- What point `t` of pipeline 3 writes. -/
abbrev out7 (c : Dev nD) (t : Fin cfg7.N) : (cfg7.win 13).block.Idx → Elt F (cfg7.win 13).elt :=
  mlpOut (F := F) (MapDat.staged c (arrs7 V c) 0 t) (MapDat.staged c (arrs7 V c) 1 t) (MapDat.staged c (arrs7 V c) 2 t)
    (MapDat.staged c (arrs7 V c) 3 t) (MapDat.staged c (arrs7 V c) 4 t) (MapDat.staged c (arrs7 V c) 5 t)
    (MapDat.staged c (arrs7 V c) 6 t) (MapDat.staged c (arrs7 V c) 7 t) (MapDat.staged c (arrs7 V c) 8 t)
    (MapDat.staged c (arrs7 V c) 9 t) (MapDat.staged c (arrs7 V c) 10 t) (MapDat.staged c (arrs7 V c) 11 t)
    (MapDat.staged c (arrs7 V c) 12 t)
/-- The proof data of pipeline 3. -/
abbrev dat7 (c : Dev nD) : Pipeline.Dat τ (Elt F) (HIx 4) ℕ UU ℕ cfg7 c :=
  MapDat.mapDat c (arrs7 V c) 13 (out7 V c) (Pipeline.scopedRest spec7 c) (O c) (B c)

/-- The four together. -/
def dats : (p : Fin 4) → (c : Dev nD) → Pipeline.Dat τ (Elt F) (HIx 4) ℕ UU ℕ (Pipeline.pin (pcfgs (F := F)) adm p) c
  | 0 => dat1 V O B
  | 1 => dat3 V O B
  | 2 => dat5 V O B
  | 3 => dat7 V O B

set_option maxRecDepth 65536 in
/-- Pipeline 0's body does what its data says. -/
theorem obl1 (c : Dev nD) : Pipeline.BodyObligation (dat1 V O B c) defs₀ 𝒱₀ none Set.univ := by
  refine MapDat.mapDat_body none ?_ ?_ ?_ fun t X => ?_
  · decide
  · intro w i; rfl
  · decide
  rw [bigSep_W1, bigSep_W1]
  simp only [Function.update_of_ne, ne_eq, Fin.reduceEq, not_false_eq_true, Function.update_self]
  change _ ⊢ wp _ _ _ (bodyAt1 t) _
  unfold bodyAt1
  exact wp_body c (grid1.coords t)

set_option maxRecDepth 65536 in
/-- Pipeline 1's body does what its data says. -/
theorem obl3 (c : Dev nD) : Pipeline.BodyObligation (dat3 V O B c) defs₀ 𝒱₀ none Set.univ := by
  refine MapDat.mapDat_body none ?_ ?_ ?_ fun t X => ?_
  · decide
  · intro w i; rfl
  · decide
  rw [bigSep_W3, bigSep_W3]
  simp only [Function.update_of_ne, ne_eq, Fin.reduceEq, not_false_eq_true, Function.update_self]
  change _ ⊢ wp _ _ _ (bodyAt3 t) _
  unfold bodyAt3
  rw [body3_eq (grid3.coords t) (grid1.coords t1_0)]
  exact wp_body c (grid1.coords t1_0)

set_option maxRecDepth 65536 in
/-- Pipeline 2's body does what its data says. -/
theorem obl5 (c : Dev nD) : Pipeline.BodyObligation (dat5 V O B c) defs₀ 𝒱₀ none Set.univ := by
  refine MapDat.mapDat_body none ?_ ?_ ?_ fun t X => ?_
  · decide
  · intro w i; rfl
  · decide
  rw [bigSep_W5, bigSep_W5]
  simp only [Function.update_of_ne, ne_eq, Fin.reduceEq, not_false_eq_true, Function.update_self]
  change _ ⊢ wp _ _ _ (bodyAt5 t) _
  unfold bodyAt5
  rw [body5_eq (grid5.coords t) (grid1.coords t1_0)]
  exact wp_body c (grid1.coords t1_0)

set_option maxRecDepth 65536 in
/-- Pipeline 3's body does what its data says. -/
theorem obl7 (c : Dev nD) : Pipeline.BodyObligation (dat7 V O B c) defs₀ 𝒱₀ none Set.univ := by
  refine MapDat.mapDat_body none ?_ ?_ ?_ fun t X => ?_
  · decide
  · intro w i; rfl
  · decide
  rw [bigSep_W7, bigSep_W7]
  simp only [Function.update_of_ne, ne_eq, Fin.reduceEq, not_false_eq_true, Function.update_self]
  change _ ⊢ wp _ _ _ (bodyAt7 t) _
  unfold bodyAt7
  rw [body7_eq (grid7.coords t) (grid1.coords t1_0)]
  exact wp_body c (grid1.coords t1_0)

end Cert.Proof.KI
-- ==== Proof.Region.lean ====
/-
  A pipeline's call in @main while the core still owes what it owes and has waited only on pairs in a given set: the
  call's record, entered from and left with the windows' arrays held at valuations.
-/
module

public import proofs.«01_k».proof.Proof.MapDat

@[expose] public section

noncomputable section

namespace Cert.Proof.MapDat

open Idealize.ShloMosaic Idealize.ShloMosaic.Pipeline Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {Val : EltTy → Type} [∀ e, Nonempty (Val e)]
variable {Ix : Type} [DecidableEq Ix] {Name : Type} [DecidableEq Name] {U : Type} [URA U] {Lvl : Type} [Preorder Lvl]

local notation "𝕄" => MT nD τ sig Ix Val Name U Lvl

variable {Λ₀ : Labels} {P : Type} [Fintype P]

section
variable (pcs : P → PCfg sig Λ₀ Val) (a : (p : P) → (pcs p).Adm)
  (pdats : (p : P) → (c : Dev nD) → Dat τ Val Ix Name U Lvl (pin pcs a p) c) (ι : Ix)
  (defs₀ : Defs nD τ sig Val Λ₀) (𝒱₀ : Variants)
  (L : GSem nD τ sig → Finset Ix) (lv : GSem nD τ sig → Ix → Lvl)
  (p : P) (D : Dev nD → CellTallies nD τ sig Ix) (B : Dev nD → Set (SemLoc sig × Ix))

set_option backward.isDefEq.respectTransparency.types false in
/-- The record of pipeline `p`'s call, entered with the windows' arrays at `W`, left with them at `W'`. -/
def scRegion (kit : PLaunchFacts (nD := nD) (τ := τ) pcs p) (hK : (pcs p).pre.K = 0)
    (hbody : ∀ c, BodyObligationLoose (pdats p c) defs₀ 𝒱₀ ι Set.univ)
    (howed : ∀ c t, (pdats p c).owed t = D c) (hrec : ∀ c t, (pdats p c).recorded t = B c)
    (hB : ∀ c, (pin pcs a p).waitPairs ι ⊆ B c)
    (hshare : ∀ c w, (pdats p c).share w = fullShare)
    (hΦ : ∀ c t, (pdats p c).Φ t = scopedRest (pin pcs a p).spec c)
    (b : Dev nD → Lvl) (hcut : LevelCut pcs a ι L lv p D b)
    (W W' : Dev nD → Valuation τ sig Val)
    (hW : ∀ c w, (pdats p c).arrAt w 0 = W c (Proc.devRef .tc (arrRef (pin pcs a p).spec w)))
    (hW' : ∀ c w, (pdats p c).arrAt w (pin pcs a p).N = W' c (Proc.devRef .tc (arrRef (pin pcs a p).spec w))) :
    RegionSeg pcs a pdats ι defs₀ 𝒱₀ L lv p where
  win := kit.win.to₀
  block_pos := kit.block_pos
  stage_whole := kit.stage_whole
  K := PEmpty
  osem k := k.elim
  ho := OwnSemFacts.none _
  hbody := hbody
  hwaits c := cellsWaits_of_cut (pin pcs a) pdats ι p c (b c) (D c) (howed c) (hcut.hι c) (hcut.hιb c) (hcut.hD c)
  pre c := iprop(StableHlo.held (c.tc : Thread nD τ) (arrRefs (pcs p).spec) (W c) ∗ owesWithin c (D c) (B c))
  post c := iprop(StableHlo.held (c.tc : Thread nD τ) (arrRefs (pcs p).spec) (W' c) ∗ owesWithin c (D c) (B c))
  X _ := BI.emp
  Y _ := BI.emp
  Z _ := BI.emp
  hentry c := by
    rw [ownSems0_none, prefHeld_of_none _ hK, ← arrays_held pcs a pdats p kit c (hshare c) ((pdats p c).arrAt · 0) (W c) (hW c)]
    have ho : (owesWithin c (D c) (B c) : sProp 𝕄) ⊢ (pdats p c).owesAt ι 0 := by
      unfold Dat.owesAt Dat.bound
      rw [howed c 0, hrec c 0]
      exact owesWithin_mono c _ Set.subset_union_left
    iintro ⟨⟨Ha, HO⟩, -, -⟩
    imodintro
    isplitl [Ha]; · iexact Ha
    isplitr; · iempintro
    isplitl [HO]; · iapply ho $$ HO
    isplitr; · iempintro
    iempintro
  hin c := by
    rw [hΦ c 0]
    iintro ⟨-, -, Hr⟩; iexact Hr
  hout c := by
    rw [ownSems0_none, hΦ c]
    iintro Hr
    isplitr; · iempintro
    isplitr; · iempintro
    iexact Hr
  hexit c := by
    rw [← arrays_held pcs a pdats p kit c (hshare c) ((pdats p c).arrAt · (pin pcs a p).N) (W' c) (hW' c)]
    have ho : ((pdats p c).owesAt ι (Fin.last (pin pcs a p).N) : sProp 𝕄) ⊢ owesWithin c (D c) (B c) := by
      unfold Dat.owesAt Dat.bound
      rw [howed c, hrec c]
      exact owesWithin_mono c _ (Set.union_subset le_rfl (hB c))
    iintro ⟨Ha, HO, -, -⟩
    imodintro
    isplitl [Ha]; · iexact Ha
    iapply ho $$ HO

end

end Cert.Proof.MapDat

end
-- ==== Proof.Steps.lean ====
/-
  The steps of @main on a TensorCore between the arrays' contents: a line of host operations, a SparseCore call, a
  pipeline's region.
-/
module

public import proofs.«01_k».proof.Proof.Calls
public import Idealize.ShloMosaic.Lib.Pipeline.FrameTail
public import proofs.«01_k».proof.Proof.TcBody
public import proofs.«01_k».proof.Proof.Region

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 4) (Elt F) ℕ UU ℕ
/-- The contents `W` with the reference `c` at `g`. -/
def put (W : Valuation τ sig (Elt F)) (c : Ref sig .tc) (g : (c.ty).Contents (Elt F)) : Valuation τ sig (Elt F) :=
  Function.update W (Proc.devRef .tc c) g
theorem put_self (W : Valuation τ sig (Elt F)) (c : Ref sig .tc) (g : (c.ty).Contents (Elt F)) : put W c g (Proc.devRef .tc c) = g := Function.update_self ..
theorem put_of_ne (W : Valuation τ sig (Elt F)) (c : Ref sig .tc) (g : (c.ty).Contents (Elt F)) {b : DevRef τ sig} (h : b ≠ Proc.devRef .tc c) :
    put W c g b = W b := Function.update_of_ne h ..

variable (F) in
/-- Programs of @main. -/
abbrev MainProg : Type 1 := Prog (TpuEff nD τ sig (Elt F) (SparseCore.Sig (Pipeline.Sig Λ₀ (Fin 4) fun p => (pcfgs (F := F) p).Adm) 4) .tc) PUnit

/-- What core `d` holds in @main before call `n`, its arrays at `W`. -/
def St (d : Dev nD) (n : ℕ) (W : Valuation τ sig (Elt F)) : sProp 𝕄 :=
  iprop(boundary (T d) ∗ StableHlo.held (T d) (Pipeline.ucRefs τ sig) W ∗ (K (F := F)).tcSt EH d n)

/-- The wp of a piece of @main on core `d`. -/
abbrev WP (d : Dev nD) (p : MainProg F) (Q : PUnit → sProp 𝕄) : sProp 𝕄 := wp frame (wpE ((K (F := F)).defs (D (F := F))) 𝒱 (T d) none) Set.univ p Q

/-- A line of host operations. -/
theorem step_host (d : Dev nD) (n : ℕ) (W : Valuation τ sig (Elt F)) (ops : List (HloOp τ sig (Elt F)))
    (hs : ops.Forall fun op => op.bufs ⊆ StableHlo.tcRefs τ sig) (hf : ops.Forall fun op => op.fresh = ∅) (k : MainProg F) (Q : PUnit → sProp 𝕄) :
    iprop(St d n W ∗ (St d n (StableHlo.after ops W) -∗ WP d k Q)) ⊢ WP d (StableHlo.seqK ops k) Q := by
  rw [← StableHlo.seq_bind_seqK]
  unfold St
  iintro ⟨⟨Hb, Hh, Ht⟩, Hk⟩
  iapply (StableHlo.wp_seq 𝒱 none Set.univ d (Pipeline.ucRefs τ sig) (fun _ => k) ops
    (fun op h => Pipeline.sub_ucRefs op ((List.forall_iff_forall_mem.mp hs) op h)) (List.forall_iff_forall_mem.mp hf) W) $$ [Hb Hh]
  · isplitl [Hb]; · iexact Hb
    iexact Hh
  iintro ⟨Hb, Hh⟩
  iapply Hk
  isplitl [Hb]; · iexact Hb
  isplitl [Hh]; · iexact Hh
  iexact Ht

/-- Three of the held buffers, and the rest. -/
theorem held_three (d : Dev nD) (R : Finset (DevRef τ sig)) (W : Valuation τ sig (Elt F)) {a b c : DevRef τ sig} (hab : a ≠ b) (hac : a ≠ c) (hbc : b ≠ c)
    (h : ({a, b, c} : Finset (DevRef τ sig)) ⊆ R) :
    (StableHlo.held (T d) R W : sProp 𝕄) = iprop((((d, a) ↦{fullShare} W a) ∗ ((d, b) ↦{fullShare} W b) ∗ ((d, c) ↦{fullShare} W c))
      ∗ StableHlo.held (T d) (R \ {a, b, c}) W) := by
  rw [StableHlo.held_sub_split (T d) h W]
  congr 1
  unfold StableHlo.held
  rw [SparseCore.bigSep_insert' (by simp [hab, hac]), SparseCore.bigSep_insert' (by simp [hbc]), bigSep_singleton]

variable (A : Fin 4 → Dev nD → Valuation τ sig (Elt F))

/-- A SparseCore call: the table and the row numbers as they were, the output as the call leaves it. -/
theorem step_call (κ : GSem nD τ sig → ℕ) (d : Dev nD) (q : Fin 4) (W : Valuation τ sig (Elt F)) (a b c : Ref sig .tc) (g : (c.ty).Contents (Elt F))
    (hab : a ≠ b) (hac : a ≠ c) (hbc : b ≠ c) (ha : a.isScoped = false) (hb : b.isScoped = false) (hc : c.isScoped = false)
    (hst : iprop(((T d : Thread nD τ).loc a ↦{fullShare} W (Proc.devRef .tc a)) ∗ ((T d : Thread nD τ).loc b ↦{fullShare} W (Proc.devRef .tc b))
      ∗ ((T d : Thread nD τ).loc c ↦{fullShare} W (Proc.devRef .tc c))) ⊢ (bigSep Finset.univ fun x : Fin ((K (F := F)).nCore q) => (P A).st q d x : sProp 𝕄))
    (hdn : (bigSep Finset.univ fun x : Fin ((K (F := F)).nCore q) => (P A).dn q d x : sProp 𝕄) ⊢ iprop(((T d : Thread nD τ).loc a ↦{fullShare} W (Proc.devRef .tc a)) ∗ ((T d : Thread nD τ).loc b ↦{fullShare} W (Proc.devRef .tc b))
      ∗ ((T d : Thread nD τ).loc c ↦{fullShare} g)))
    (k : MainProg F) (Q : PUnit → sProp 𝕄) :
    iprop((K (F := F)).ctx EH (P A) κ (K (F := F)).lev ∗ St d q.val W ∗ (St d (q.val + 1) (put W c g) -∗ WP d k Q))
      ⊢ WP d ((K (F := F)).run d q >>= fun _ => k) Q := by
  have nab := StableHlo.devRef_ne_of_ne (τ := τ) hab
  have nac := StableHlo.devRef_ne_of_ne (τ := τ) hac
  have nbc := StableHlo.devRef_ne_of_ne (τ := τ) hbc
  have hsub : ({Proc.devRef .tc a, Proc.devRef .tc b, Proc.devRef .tc c} : Finset (DevRef τ sig)) ⊆ Pipeline.ucRefs τ sig := by
    intro x hx
    simp only [Finset.mem_insert, Finset.mem_singleton] at hx
    rcases hx with rfl | rfl | rfl
    · exact Pipeline.devRef_mem_ucRefs ha
    · exact Pipeline.devRef_mem_ucRefs hb
    · exact Pipeline.devRef_mem_ucRefs hc
  have hrest : (StableHlo.held (T d) (Pipeline.ucRefs τ sig \ {Proc.devRef .tc a, Proc.devRef .tc b, Proc.devRef .tc c}) (put W c g) : sProp 𝕄)
      = StableHlo.held (T d) (Pipeline.ucRefs τ sig \ {Proc.devRef .tc a, Proc.devRef .tc b, Proc.devRef .tc c}) W :=
    StableHlo.held_congr _ fun x hx => by
      refine put_of_ne W c g ?_
      rintro rfl
      simp at hx
  unfold St
  rw [held_three d _ W nab nac nbc hsub, held_three d _ (put W c g) nab nac nbc hsub, hrest,
    put_of_ne W c g nac, put_of_ne W c g nbc, put_self]
  unfold WP
  rw [wp_bind]
  iintro ⟨Hctx, ⟨Hb, ⟨H3, Hr⟩, Ht⟩, Hk⟩
  iapply ((K (F := F)).wp_run (D (F := F)) 𝒱 (EH := EH) (P := P A) κ d q)
  isplitl [Hctx]; · iexact Hctx
  isplitl [Ht]; · iexact Ht
  isplitl [H3]; · iapply hst $$ H3
  iintro ⟨Ht, H3⟩
  iapply Hk
  isplitl [Hb]; · iexact Hb
  isplitl [H3 Hr]
  · isplitl [H3]; · iapply hdn $$ H3
    iexact Hr
  iexact Ht

/-! ## A pipeline's region -/

/-- What core `c` owes while it runs the pipeline of call `n - 1`. -/
abbrev Od (n : ℕ) : Dev nD → CellTallies nD τ sig (HIx 4) := fun c => (K (F := F)).Otc c n
/-- The waits it may have on record then. -/
abbrev Bd (n : ℕ) : Dev nD → Set (SemLoc sig × HIx 4) := fun c => {q | (K (F := F)).lev (T c, q.1) q.2 ≤ 8 * SparseCore.Cfg.Blocks.fst (Q := 4) (N := 4) n}

theorem cut (p : Fin 4) (n : ℕ) : Pipeline.LevelCut (pcfgs (F := F)) adm (none : HIx 4) (K (F := F)).L (K (F := F)).lev p (Od (F := F) n) (fun _ => 0) where
  hι _ _ _ := Finset.mem_univ _
  hιb _ _ _ := le_rfl
  hD _ _ _ h := ⟨Finset.mem_univ _, lt_of_lt_of_le (Nat.succ_pos _) ((K (F := F)).lev_of_Otc_pos h)⟩

theorem waits_sub (p : Fin 4) (n : ℕ) (c : Dev nD) : (Pipeline.pin (pcfgs (F := F)) adm p).waitPairs (none : HIx 4) ⊆ Bd (F := F) n c := by
  rintro _ ⟨w, s, rfl⟩
  exact Nat.zero_le _

/-- A region: the windows' arrays as the pipeline leaves them, the rest as it was. -/
theorem step_region (κ : GSem nD τ sig → ℕ) (d : Dev nD) (p : Fin 4) (n : ℕ)
    (dts : (p : Fin 4) → (c : Dev nD) → Pipeline.Dat τ (Elt F) (HIx 4) ℕ UU ℕ (Pipeline.pin (pcfgs (F := F)) adm p) c)
    (kit : Pipeline.PLaunchFacts (nD := nD) (τ := τ) (pcfgs (F := F)) p)
    (hbody : ∀ c, Pipeline.BodyObligationLoose (dts p c) defs₀ 𝒱₀ none Set.univ)
    (howed : ∀ c t, (dts p c).owed t = Od (F := F) n c) (hrec : ∀ c t, (dts p c).recorded t = Bd (F := F) n c)
    (hshare : ∀ c w, (dts p c).share w = fullShare)
    (hΦ : ∀ c t, (dts p c).Φ t = Pipeline.scopedRest (Pipeline.pin (pcfgs (F := F)) adm p).spec c)
    (W W' : Dev nD → Valuation τ sig (Elt F))
    (hW : ∀ c w, (dts p c).arrAt w 0 = W c (Proc.devRef .tc (Pipeline.arrRef (Pipeline.pin (pcfgs (F := F)) adm p).spec w)))
    (hW' : ∀ c w, (dts p c).arrAt w (Pipeline.pin (pcfgs (F := F)) adm p).N = W' c (Proc.devRef .tc (Pipeline.arrRef (Pipeline.pin (pcfgs (F := F)) adm p).spec w)))
    (hun : ∀ w, (Pipeline.arrRef (Pipeline.pin (pcfgs (F := F)) adm p).spec w).isScoped = false)
    (hrest : ∀ b, b ∉ Pipeline.arrRefs (τ := τ) (Pipeline.pin (pcfgs (F := F)) adm p).spec → W' d b = W d b)
    (k : MainProg F) (Q : PUnit → sProp 𝕄) :
    iprop((K (F := F)).ctx EH (P A) κ (K (F := F)).lev ∗ St d n (W d)
        ∗ (Pipeline.cellsGhost (Pipeline.pin (pcfgs (F := F)) adm) EP p d ∗ Pipeline.toksInit (Pipeline.pin (pcfgs (F := F)) adm) EP p d)
        ∗ (St d n (W' d) -∗ WP d k Q))
      ⊢ WP d (Prog.lift (.customCall (SparseCore.inner (Pipeline.entry p)) ()) >>= fun _ => k) Q := by
  have hsub := Pipeline.arrRefs_sub_ucRefs (τ := τ) (Pipeline.pin (pcfgs (F := F)) adm p).spec hun
  have hr : (StableHlo.held (T d) (Pipeline.ucRefs τ sig \ Pipeline.arrRefs (τ := τ) (Pipeline.pin (pcfgs (F := F)) adm p).spec) (W' d) : sProp 𝕄)
      = StableHlo.held (T d) (Pipeline.ucRefs τ sig \ Pipeline.arrRefs (τ := τ) (Pipeline.pin (pcfgs (F := F)) adm p).spec) (W d) :=
    StableHlo.held_congr _ fun b hb => hrest b (Finset.mem_sdiff.mp hb).2
  unfold St SparseCore.Cfg.tcSt
  rw [StableHlo.held_sub_split (T d) hsub (W d), StableHlo.held_sub_split (T d) hsub (W' d), hr]
  unfold WP
  rw [wp_bind]
  change _ ⊢ wp frame (wpE ((K (F := F)).defs (D (F := F))) 𝒱 (T d) none) Set.univ (SparseCore.liftProg (.op (.customCall (Pipeline.entry p) ()) .ret)) _

  refine BIBase.Entails.trans ?_ ((K (F := F)).wp_liftProg (D (F := F)) 𝒱 (T d) Set.univ none _ _)
  have hret : ∀ Φ : PUnit → sProp 𝕄, Φ ⟨⟩ ⊢ wp frame (wpE (D (F := F)) 𝒱 (T d) none) Set.univ (pure ⟨⟩) Φ := fun Φ => by
    rw [wp_pure]
    iintro H
    imodintro
    iexact H
  let R := MapDat.scRegion (pcfgs (F := F)) adm dts none defs₀ 𝒱₀ (K (F := F)).L (K (F := F)).lev p (Od (F := F) n) (Bd (F := F) n) kit rfl hbody howed hrec
      (waits_sub p n) hshare hΦ (fun _ => 0) (cut p n) W W' hW hW'
  have hpre : iprop(StableHlo.held (T d) (Pipeline.arrRefs (τ := τ) (Pipeline.pin (pcfgs (F := F)) adm p).spec) (W d)
      ∗ ∃ V, ⌜(K (F := F)).WBelow (T d) V (8 * SparseCore.Cfg.Blocks.fst (Q := 4) (N := 4) n)⌝ ∗ owes (T d) ((K (F := F)).Otc d n) V) ⊢ (R.pre d : sProp 𝕄) := BI.Entails.refl _
  have hpost : (R.post d : sProp 𝕄) ⊢ iprop(StableHlo.held (T d) (Pipeline.arrRefs (τ := τ) (Pipeline.pin (pcfgs (F := F)) adm p).spec) (W' d)
      ∗ ∃ V, ⌜(K (F := F)).WBelow (T d) V (8 * SparseCore.Cfg.Blocks.fst (Q := 4) (N := 4) n)⌝ ∗ owes (T d) ((K (F := F)).Otc d n) V) := BI.Entails.refl _
  iintro ⟨#Hctx, ⟨Hb, ⟨Ha, Hr⟩, HO, Ht⟩, ⟨Hg, Htk⟩, Hk⟩
  ihave Hlv := (SparseCore.Cfg.ctx_levAts κ) $$ Hctx
  iapply (Pipeline.RegionSeg.wp (pcfgs (F := F)) adm dts none (kit.cellOf_inj adm) EP defs₀ 𝒱₀ (K (F := F)).L (K (F := F)).lev
    R d none (by simp) .ret _)
  isplitl [Hr Ht Hk]
  · iintro ⟨Hb, HR⟩
    ihave HR := hpost $$ HR
    icases HR with ⟨Ha, HO⟩
    iapply (hret _)
    iapply Hk
    isplitl [Hb]; · iexact Hb
    isplitl [Ha Hr]
    · isplitl [Ha]; · iexact Ha
      iexact Hr
    isplitl [HO]; · iexact HO
    iexact Ht
  isplitl [Hb]; · iexact Hb
  isplitl [Ha HO]
  · iapply hpre
    isplitl [Ha]; · iexact Ha
    iexact HO
  isplitl [Hlv]; · iexact Hlv
  isplitl [Hg]; · iexact Hg
  iexact Htk

end Cert.Proof.KI

end
-- ==== Proof.Chain.lean ====
/-
  @main on a TensorCore, from the launch contents to the last array: the contents at every step.
-/
module

public import proofs.«01_k».proof.Proof.Host
public import proofs.«01_k».proof.Proof.Steps

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 4) (Elt F) ℕ UU ℕ

section Contents
variable (m : (ℓ : Loc nD τ sig) → Buf (Elt F) ℓ)

/-- The contents at the launch. -/
def V0 (d : Dev nD) : Valuation τ sig (Elt F) := fun b => m (d, b)
/-- The contents at the first call. -/
def V1 (d : Dev nD) : Valuation τ sig (Elt F) := StableHlo.after h0 (V0 m d)
/-- After it. -/
def V2 (d : Dev nD) : Valuation τ sig (Elt F) :=
  put (V1 m d) main_v22 (rows0 d (V1 m d (Proc.devRef .tc main_v0)) (V1 m d (Proc.devRef .tc main_v21)))
/-- The contents at the first pipeline. -/
def V3 (d : Dev nD) : Valuation τ sig (Elt F) := StableHlo.after h1 (V2 m d)
/-- After it. -/
def V4 (d : Dev nD) : Valuation τ sig (Elt F) :=
  put (V3 m d) main_v24 ((dat1 (V3 m) (Od (F := F) 1) (Bd (F := F) 1) d).arrAt 13 cfg1.N)
/-- The contents at the second call. -/
def V5 (d : Dev nD) : Valuation τ sig (Elt F) := StableHlo.after h2 (V4 m d)
/-- After it. -/
def V6 (d : Dev nD) : Valuation τ sig (Elt F) :=
  put (V5 m d) main_v27 (rows1 d (V5 m d (Proc.devRef .tc main_v0)) (V5 m d (Proc.devRef .tc main_v26)))
/-- The contents at the second pipeline. -/
def V7 (d : Dev nD) : Valuation τ sig (Elt F) := StableHlo.after h3 (V6 m d)
/-- After it. -/
def V8 (d : Dev nD) : Valuation τ sig (Elt F) :=
  put (V7 m d) main_v29 ((dat3 (V7 m) (Od (F := F) 2) (Bd (F := F) 2) d).arrAt 13 cfg3.N)
/-- The contents at the third call. -/
def V9 (d : Dev nD) : Valuation τ sig (Elt F) := StableHlo.after h4 (V8 m d)
/-- After it. -/
def V10 (d : Dev nD) : Valuation τ sig (Elt F) :=
  put (V9 m d) main_v32 (rows2 d (V9 m d (Proc.devRef .tc main_v0)) (V9 m d (Proc.devRef .tc main_v31)))
/-- The contents at the third pipeline. -/
def V11 (d : Dev nD) : Valuation τ sig (Elt F) := StableHlo.after h5 (V10 m d)
/-- After it. -/
def V12 (d : Dev nD) : Valuation τ sig (Elt F) :=
  put (V11 m d) main_v34 ((dat5 (V11 m) (Od (F := F) 3) (Bd (F := F) 3) d).arrAt 13 cfg5.N)
/-- The contents at the fourth call. -/
def V13 (d : Dev nD) : Valuation τ sig (Elt F) := StableHlo.after h6 (V12 m d)
/-- After it. -/
def V14 (d : Dev nD) : Valuation τ sig (Elt F) :=
  put (V13 m d) main_v37 (rows3 d (V13 m d (Proc.devRef .tc main_v0)) (V13 m d (Proc.devRef .tc main_v36)))
/-- The contents at the fourth pipeline. -/
def V15 (d : Dev nD) : Valuation τ sig (Elt F) := StableHlo.after h7 (V14 m d)
/-- After it. -/
def V16 (d : Dev nD) : Valuation τ sig (Elt F) :=
  put (V15 m d) main_v39 ((dat7 (V15 m) (Od (F := F) 4) (Bd (F := F) 4) d).arrAt 13 cfg7.N)
/-- The contents at the end. -/
def V17 (d : Dev nD) : Valuation τ sig (Elt F) := StableHlo.after h8 (V16 m d)

/-- The contents at the calls. -/
def Aq : Fin 4 → Dev nD → Valuation τ sig (Elt F)
  | 0 => V1 m
  | 1 => V5 m
  | 2 => V9 m
  | 3 => V13 m
end Contents

variable (A : Fin 4 → Dev nD → Valuation τ sig (Elt F))

theorem tasks_st (q : Fin 4) (d : Dev nD) :
    (bigSep Finset.univ fun x : Fin ((K (F := F)).nCore q) => (P A).st q d x : sProp 𝕄)
      = bigSep Finset.univ fun c : Fin 2 => bigSep Finset.univ fun s : Fin 16 => goQ A q d (c, s) :=
  match q with | 0 => rfl | 1 => rfl | 2 => rfl | 3 => rfl
theorem tasks_dn (q : Fin 4) (d : Dev nD) :
    (bigSep Finset.univ fun x : Fin ((K (F := F)).nCore q) => (P A).dn q d x : sProp 𝕄)
      = bigSep Finset.univ fun c : Fin 2 => bigSep Finset.univ fun s : Fin 16 => tdQ A q d (c, s) :=
  match q with | 0 => rfl | 1 => rfl | 2 => rfl | 3 => rfl

variable (m : (ℓ : Loc nD τ sig) → Buf (Elt F) ℓ)

theorem cover0 : (Finset.univ : Finset (Fin (2 ^ 5))).biUnion (fun w => Tile.Sd T0 w.val) = Finset.univ :=
  (Tile.Sd_cover T0 (by decide) rfl (fun w : Fin (2 ^ 5) => w.val) (fun w hw => ⟨⟨w, hw⟩, rfl⟩)).trans (View.set_whole _)

/-- The operands of call 0 are its tasks' parts. -/
theorem give0 (d : Dev nD) :
    iprop(((T d : Thread nD τ).loc main_v0 ↦{fullShare} A 0 d (Proc.devRef .tc main_v0)) ∗ ((T d : Thread nD τ).loc main_v21 ↦{fullShare} A 0 d (Proc.devRef .tc main_v21))
      ∗ ((T d : Thread nD τ).loc main_v22 ↦{fullShare} A 0 d (Proc.devRef .tc main_v22))) ⊢ (bigSep Finset.univ fun x : Fin ((K (F := F)).nCore 0) => (P A).st 0 d x : sProp 𝕄) := by
  rw [tasks_st]
  exact Tile.deal (ℓt := (T d : Thread nD τ).loc main_v0) (ℓi := (T d : Thread nD τ).loc main_v21) (ℓo := (T d : Thread nD τ).loc main_v22)
    (Tile.Sd T0) (A 0 d (Proc.devRef .tc main_v0)) (A 0 d (Proc.devRef .tc main_v21)) (fun _ _ h => Tile.Sd_disjoint T0 h) cover0 _

/-- The tasks' parts are the operands, the output gathered. -/
theorem take0 (d : Dev nD) :
    (bigSep Finset.univ fun x : Fin ((K (F := F)).nCore 0) => (P A).dn 0 d x : sProp 𝕄)
      ⊢ iprop(((T d : Thread nD τ).loc main_v0 ↦{fullShare} A 0 d (Proc.devRef .tc main_v0)) ∗ ((T d : Thread nD τ).loc main_v21 ↦{fullShare} A 0 d (Proc.devRef .tc main_v21))
      ∗ ((T d : Thread nD τ).loc main_v22 ↦{fullShare} rows0 d (A 0 d (Proc.devRef .tc main_v0)) (A 0 d (Proc.devRef .tc main_v21)))) := by
  rw [tasks_dn]
  exact Tile.collect (ℓt := (T d : Thread nD τ).loc main_v0) (ℓi := (T d : Thread nD τ).loc main_v21) (ℓo := (T d : Thread nD τ).loc main_v22)
    (Tile.Sd T0) (A 0 d (Proc.devRef .tc main_v0)) (A 0 d (Proc.devRef .tc main_v21)) (fun _ _ h => Tile.Sd_disjoint T0 h) cover0 _

theorem isIn0 : ∀ w : Fin cfg1.W, w ≠ 13 → (cfg1.win w).isOut = false ∧ Pipeline.arrRef spec1 w ≠ main_v24 := by decide
theorem unscoped0 : ∀ w : Fin cfg1.W, (Pipeline.arrRef spec1 w).isScoped = false := by decide

set_option maxRecDepth 65536 in
/-- The contents after pipeline 0 are its arrays as it leaves them. -/
theorem left0 (c : Dev nD) (w : Fin cfg1.W) :
    (dat1 (V3 m) (Od (F := F) 1) (Bd (F := F) 1) c).arrAt w cfg1.N = V4 m c (Proc.devRef .tc (Pipeline.arrRef spec1 w)) := by
  by_cases h : w = 13
  · subst h
    exact (put_self _ main_v24 _).symm
  · exact (Pipeline.Dat.arrAt_in _ w (isIn0 w h).1 _).trans
      (put_of_ne (V3 m c) main_v24 _ (StableHlo.devRef_ne_of_ne (isIn0 w h).2)).symm

/-- Pipeline 0 leaves every other array. -/
theorem rest0 (d : Dev nD) (b : DevRef τ sig) (h : b ∉ Pipeline.arrRefs (τ := τ) spec1) : V4 m d b = V3 m d b := by
  refine put_of_ne _ _ _ ?_
  rintro rfl
  exact h (Finset.mem_map.mpr ⟨_, Finset.mem_image.mpr ⟨13, Finset.mem_univ _, rfl⟩, rfl⟩)

/-- The first call. -/
theorem call0 (κ : GSem nD τ sig → ℕ) (d : Dev nD) (k : MainProg F) (Q : PUnit → sProp 𝕄) :
    iprop((K (F := F)).ctx EH (P (Aq m)) κ (K (F := F)).lev ∗ St d 0 (V1 m d) ∗ (St d 1 (V2 m d) -∗ WP d k Q))
      ⊢ WP d ((K (F := F)).run d 0 >>= fun _ => k) Q :=
  step_call (F := F) (Aq m) κ d 0 (V1 m d) main_v0 main_v21 main_v22 (rows0 d (V1 m d (Proc.devRef .tc main_v0)) (V1 m d (Proc.devRef .tc main_v21)))
    (by decide) (by decide) (by decide) rfl rfl rfl (give0 (Aq m) d) (take0 (Aq m) d) k Q

theorem share0 (c : Dev nD) (w) : (dats (V3 m) (Od (F := F) 1) (Bd (F := F) 1) 0 c).share w = fullShare := ite_self (c := ((cfg1.win w).isOut = true)) fullShare
theorem spec_rest0 (c : Dev nD) : (Pipeline.scopedRest (Pipeline.pin (pcfgs (F := F)) adm 0).spec c : sProp 𝕄) = Pipeline.scopedRest spec1 c := rfl
theorem dat_rest0 (c : Dev nD) (t) : (dats (V3 m) (Od (F := F) 1) (Bd (F := F) 1) 0 c).Φ t = Pipeline.scopedRest spec1 c := rfl

/-- The first pipeline. -/
theorem region0 (κ : GSem nD τ sig → ℕ) (d : Dev nD) (k : MainProg F) (Q : PUnit → sProp 𝕄) :
    iprop((K (F := F)).ctx EH (P (Aq m)) κ (K (F := F)).lev ∗ St d 1 (V3 m d)
        ∗ (Pipeline.cellsGhost (Pipeline.pin (pcfgs (F := F)) adm) EP 0 d ∗ Pipeline.toksInit (Pipeline.pin (pcfgs (F := F)) adm) EP 0 d)
        ∗ (St d 1 (V4 m d) -∗ WP d k Q))
      ⊢ WP d (Prog.lift (.customCall (SparseCore.inner (Pipeline.entry 0)) ()) >>= fun _ => k) Q :=
  step_region (F := F) (Aq m) κ d 0 1 (dats (V3 m) (Od (F := F) 1) (Bd (F := F) 1)) launch1.toP
    (fun c => (obl1 (V3 m) (Od (F := F) 1) (Bd (F := F) 1) c).loose) (fun _ _ => rfl) (fun _ _ => rfl) (share0 m) (fun c t => (dat_rest0 m c t).trans (spec_rest0 c).symm)
    (V3 m) (V4 m) (fun _ _ => rfl) (left0 m) unscoped0 (rest0 m d) k Q

/-- The first call with its pipeline. -/
theorem stage0 (κ : GSem nD τ sig → ℕ) (d : Dev nD) (k : MainProg F) (Q : PUnit → sProp 𝕄) :
    iprop((K (F := F)).ctx EH (P (Aq m)) κ (K (F := F)).lev ∗ St d 0 (V0 m d)
        ∗ (Pipeline.cellsGhost (Pipeline.pin (pcfgs (F := F)) adm) EP 0 d ∗ Pipeline.toksInit (Pipeline.pin (pcfgs (F := F)) adm) EP 0 d)
        ∗ (St d 1 (V4 m d) -∗ WP d k Q))
      ⊢ WP d (StableHlo.seqK h0 ((K (F := F)).run d 0 >>= fun _ => StableHlo.seqK h1
          (Prog.lift (.customCall (SparseCore.inner (Pipeline.entry 0)) ()) >>= fun _ => k))) Q := by
  iintro ⟨#Hctx, Hst, Hg, Hk⟩
  iapply (step_host d 0 (V0 m d) h0 h0_sub h0_fresh _ _)
  isplitl [Hst]; · iexact Hst
  iintro Hst
  iapply (call0 m κ d _ _)
  isplitr; · iexact Hctx
  isplitl [Hst]; · iexact Hst
  iintro Hst
  iapply (step_host d 1 (V2 m d) h1 h1_sub h1_fresh _ _)
  isplitl [Hst]; · iexact Hst
  iintro Hst
  iapply (region0 m κ d _ _)
  isplitr; · iexact Hctx
  isplitl [Hst]; · iexact Hst
  isplitl [Hg]; · iexact Hg
  iexact Hk

theorem cover1 : (Finset.univ : Finset (Fin (2 ^ 5))).biUnion (fun w => Tile.Sd T1 w.val) = Finset.univ :=
  (Tile.Sd_cover T1 (by decide) rfl (fun w : Fin (2 ^ 5) => w.val) (fun w hw => ⟨⟨w, hw⟩, rfl⟩)).trans (View.set_whole _)

/-- The operands of call 1 are its tasks' parts. -/
theorem give1 (d : Dev nD) :
    iprop(((T d : Thread nD τ).loc main_v0 ↦{fullShare} A 1 d (Proc.devRef .tc main_v0)) ∗ ((T d : Thread nD τ).loc main_v26 ↦{fullShare} A 1 d (Proc.devRef .tc main_v26))
      ∗ ((T d : Thread nD τ).loc main_v27 ↦{fullShare} A 1 d (Proc.devRef .tc main_v27))) ⊢ (bigSep Finset.univ fun x : Fin ((K (F := F)).nCore 1) => (P A).st 1 d x : sProp 𝕄) := by
  rw [tasks_st]
  exact Tile.deal (ℓt := (T d : Thread nD τ).loc main_v0) (ℓi := (T d : Thread nD τ).loc main_v26) (ℓo := (T d : Thread nD τ).loc main_v27)
    (Tile.Sd T1) (A 1 d (Proc.devRef .tc main_v0)) (A 1 d (Proc.devRef .tc main_v26)) (fun _ _ h => Tile.Sd_disjoint T1 h) cover1 _

/-- The tasks' parts are the operands, the output gathered. -/
theorem take1 (d : Dev nD) :
    (bigSep Finset.univ fun x : Fin ((K (F := F)).nCore 1) => (P A).dn 1 d x : sProp 𝕄)
      ⊢ iprop(((T d : Thread nD τ).loc main_v0 ↦{fullShare} A 1 d (Proc.devRef .tc main_v0)) ∗ ((T d : Thread nD τ).loc main_v26 ↦{fullShare} A 1 d (Proc.devRef .tc main_v26))
      ∗ ((T d : Thread nD τ).loc main_v27 ↦{fullShare} rows1 d (A 1 d (Proc.devRef .tc main_v0)) (A 1 d (Proc.devRef .tc main_v26)))) := by
  rw [tasks_dn]
  exact Tile.collect (ℓt := (T d : Thread nD τ).loc main_v0) (ℓi := (T d : Thread nD τ).loc main_v26) (ℓo := (T d : Thread nD τ).loc main_v27)
    (Tile.Sd T1) (A 1 d (Proc.devRef .tc main_v0)) (A 1 d (Proc.devRef .tc main_v26)) (fun _ _ h => Tile.Sd_disjoint T1 h) cover1 _

theorem isIn1 : ∀ w : Fin cfg3.W, w ≠ 13 → (cfg3.win w).isOut = false ∧ Pipeline.arrRef spec3 w ≠ main_v29 := by decide
theorem unscoped1 : ∀ w : Fin cfg3.W, (Pipeline.arrRef spec3 w).isScoped = false := by decide

set_option maxRecDepth 65536 in
/-- The contents after pipeline 1 are its arrays as it leaves them. -/
theorem left1 (c : Dev nD) (w : Fin cfg3.W) :
    (dat3 (V7 m) (Od (F := F) 2) (Bd (F := F) 2) c).arrAt w cfg3.N = V8 m c (Proc.devRef .tc (Pipeline.arrRef spec3 w)) := by
  by_cases h : w = 13
  · subst h
    exact (put_self _ main_v29 _).symm
  · exact (Pipeline.Dat.arrAt_in _ w (isIn1 w h).1 _).trans
      (put_of_ne (V7 m c) main_v29 _ (StableHlo.devRef_ne_of_ne (isIn1 w h).2)).symm

/-- Pipeline 1 leaves every other array. -/
theorem rest1 (d : Dev nD) (b : DevRef τ sig) (h : b ∉ Pipeline.arrRefs (τ := τ) spec3) : V8 m d b = V7 m d b := by
  refine put_of_ne _ _ _ ?_
  rintro rfl
  exact h (Finset.mem_map.mpr ⟨_, Finset.mem_image.mpr ⟨13, Finset.mem_univ _, rfl⟩, rfl⟩)

/-- The second call. -/
theorem call1 (κ : GSem nD τ sig → ℕ) (d : Dev nD) (k : MainProg F) (Q : PUnit → sProp 𝕄) :
    iprop((K (F := F)).ctx EH (P (Aq m)) κ (K (F := F)).lev ∗ St d 1 (V5 m d) ∗ (St d 2 (V6 m d) -∗ WP d k Q))
      ⊢ WP d ((K (F := F)).run d 1 >>= fun _ => k) Q :=
  step_call (F := F) (Aq m) κ d 1 (V5 m d) main_v0 main_v26 main_v27 (rows1 d (V5 m d (Proc.devRef .tc main_v0)) (V5 m d (Proc.devRef .tc main_v26)))
    (by decide) (by decide) (by decide) rfl rfl rfl (give1 (Aq m) d) (take1 (Aq m) d) k Q

theorem share1 (c : Dev nD) (w) : (dats (V7 m) (Od (F := F) 2) (Bd (F := F) 2) 1 c).share w = fullShare := ite_self (c := ((cfg3.win w).isOut = true)) fullShare
theorem spec_rest1 (c : Dev nD) : (Pipeline.scopedRest (Pipeline.pin (pcfgs (F := F)) adm 1).spec c : sProp 𝕄) = Pipeline.scopedRest spec3 c := rfl
theorem dat_rest1 (c : Dev nD) (t) : (dats (V7 m) (Od (F := F) 2) (Bd (F := F) 2) 1 c).Φ t = Pipeline.scopedRest spec3 c := rfl

/-- The second pipeline. -/
theorem region1 (κ : GSem nD τ sig → ℕ) (d : Dev nD) (k : MainProg F) (Q : PUnit → sProp 𝕄) :
    iprop((K (F := F)).ctx EH (P (Aq m)) κ (K (F := F)).lev ∗ St d 2 (V7 m d)
        ∗ (Pipeline.cellsGhost (Pipeline.pin (pcfgs (F := F)) adm) EP 1 d ∗ Pipeline.toksInit (Pipeline.pin (pcfgs (F := F)) adm) EP 1 d)
        ∗ (St d 2 (V8 m d) -∗ WP d k Q))
      ⊢ WP d (Prog.lift (.customCall (SparseCore.inner (Pipeline.entry 1)) ()) >>= fun _ => k) Q :=
  step_region (F := F) (Aq m) κ d 1 2 (dats (V7 m) (Od (F := F) 2) (Bd (F := F) 2)) launch3.toP
    (fun c => (obl3 (V7 m) (Od (F := F) 2) (Bd (F := F) 2) c).loose) (fun _ _ => rfl) (fun _ _ => rfl) (share1 m) (fun c t => (dat_rest1 m c t).trans (spec_rest1 c).symm)
    (V7 m) (V8 m) (fun _ _ => rfl) (left1 m) unscoped1 (rest1 m d) k Q

/-- The second call with its pipeline. -/
theorem stage1 (κ : GSem nD τ sig → ℕ) (d : Dev nD) (k : MainProg F) (Q : PUnit → sProp 𝕄) :
    iprop((K (F := F)).ctx EH (P (Aq m)) κ (K (F := F)).lev ∗ St d 1 (V4 m d)
        ∗ (Pipeline.cellsGhost (Pipeline.pin (pcfgs (F := F)) adm) EP 1 d ∗ Pipeline.toksInit (Pipeline.pin (pcfgs (F := F)) adm) EP 1 d)
        ∗ (St d 2 (V8 m d) -∗ WP d k Q))
      ⊢ WP d (StableHlo.seqK h2 ((K (F := F)).run d 1 >>= fun _ => StableHlo.seqK h3
          (Prog.lift (.customCall (SparseCore.inner (Pipeline.entry 1)) ()) >>= fun _ => k))) Q := by
  iintro ⟨#Hctx, Hst, Hg, Hk⟩
  iapply (step_host d 1 (V4 m d) h2 h2_sub h2_fresh _ _)
  isplitl [Hst]; · iexact Hst
  iintro Hst
  iapply (call1 m κ d _ _)
  isplitr; · iexact Hctx
  isplitl [Hst]; · iexact Hst
  iintro Hst
  iapply (step_host d 2 (V6 m d) h3 h3_sub h3_fresh _ _)
  isplitl [Hst]; · iexact Hst
  iintro Hst
  iapply (region1 m κ d _ _)
  isplitr; · iexact Hctx
  isplitl [Hst]; · iexact Hst
  isplitl [Hg]; · iexact Hg
  iexact Hk

theorem cover2 : (Finset.univ : Finset (Fin (2 ^ 5))).biUnion (fun w => Tile.Sd T2 w.val) = Finset.univ :=
  (Tile.Sd_cover T2 (by decide) rfl (fun w : Fin (2 ^ 5) => w.val) (fun w hw => ⟨⟨w, hw⟩, rfl⟩)).trans (View.set_whole _)

/-- The operands of call 2 are its tasks' parts. -/
theorem give2 (d : Dev nD) :
    iprop(((T d : Thread nD τ).loc main_v0 ↦{fullShare} A 2 d (Proc.devRef .tc main_v0)) ∗ ((T d : Thread nD τ).loc main_v31 ↦{fullShare} A 2 d (Proc.devRef .tc main_v31))
      ∗ ((T d : Thread nD τ).loc main_v32 ↦{fullShare} A 2 d (Proc.devRef .tc main_v32))) ⊢ (bigSep Finset.univ fun x : Fin ((K (F := F)).nCore 2) => (P A).st 2 d x : sProp 𝕄) := by
  rw [tasks_st]
  exact Tile.deal (ℓt := (T d : Thread nD τ).loc main_v0) (ℓi := (T d : Thread nD τ).loc main_v31) (ℓo := (T d : Thread nD τ).loc main_v32)
    (Tile.Sd T2) (A 2 d (Proc.devRef .tc main_v0)) (A 2 d (Proc.devRef .tc main_v31)) (fun _ _ h => Tile.Sd_disjoint T2 h) cover2 _

/-- The tasks' parts are the operands, the output gathered. -/
theorem take2 (d : Dev nD) :
    (bigSep Finset.univ fun x : Fin ((K (F := F)).nCore 2) => (P A).dn 2 d x : sProp 𝕄)
      ⊢ iprop(((T d : Thread nD τ).loc main_v0 ↦{fullShare} A 2 d (Proc.devRef .tc main_v0)) ∗ ((T d : Thread nD τ).loc main_v31 ↦{fullShare} A 2 d (Proc.devRef .tc main_v31))
      ∗ ((T d : Thread nD τ).loc main_v32 ↦{fullShare} rows2 d (A 2 d (Proc.devRef .tc main_v0)) (A 2 d (Proc.devRef .tc main_v31)))) := by
  rw [tasks_dn]
  exact Tile.collect (ℓt := (T d : Thread nD τ).loc main_v0) (ℓi := (T d : Thread nD τ).loc main_v31) (ℓo := (T d : Thread nD τ).loc main_v32)
    (Tile.Sd T2) (A 2 d (Proc.devRef .tc main_v0)) (A 2 d (Proc.devRef .tc main_v31)) (fun _ _ h => Tile.Sd_disjoint T2 h) cover2 _

theorem isIn2 : ∀ w : Fin cfg5.W, w ≠ 13 → (cfg5.win w).isOut = false ∧ Pipeline.arrRef spec5 w ≠ main_v34 := by decide
theorem unscoped2 : ∀ w : Fin cfg5.W, (Pipeline.arrRef spec5 w).isScoped = false := by decide

set_option maxRecDepth 65536 in
/-- The contents after pipeline 2 are its arrays as it leaves them. -/
theorem left2 (c : Dev nD) (w : Fin cfg5.W) :
    (dat5 (V11 m) (Od (F := F) 3) (Bd (F := F) 3) c).arrAt w cfg5.N = V12 m c (Proc.devRef .tc (Pipeline.arrRef spec5 w)) := by
  by_cases h : w = 13
  · subst h
    exact (put_self _ main_v34 _).symm
  · exact (Pipeline.Dat.arrAt_in _ w (isIn2 w h).1 _).trans
      (put_of_ne (V11 m c) main_v34 _ (StableHlo.devRef_ne_of_ne (isIn2 w h).2)).symm

/-- Pipeline 2 leaves every other array. -/
theorem rest2 (d : Dev nD) (b : DevRef τ sig) (h : b ∉ Pipeline.arrRefs (τ := τ) spec5) : V12 m d b = V11 m d b := by
  refine put_of_ne _ _ _ ?_
  rintro rfl
  exact h (Finset.mem_map.mpr ⟨_, Finset.mem_image.mpr ⟨13, Finset.mem_univ _, rfl⟩, rfl⟩)

/-- The third call. -/
theorem call2 (κ : GSem nD τ sig → ℕ) (d : Dev nD) (k : MainProg F) (Q : PUnit → sProp 𝕄) :
    iprop((K (F := F)).ctx EH (P (Aq m)) κ (K (F := F)).lev ∗ St d 2 (V9 m d) ∗ (St d 3 (V10 m d) -∗ WP d k Q))
      ⊢ WP d ((K (F := F)).run d 2 >>= fun _ => k) Q :=
  step_call (F := F) (Aq m) κ d 2 (V9 m d) main_v0 main_v31 main_v32 (rows2 d (V9 m d (Proc.devRef .tc main_v0)) (V9 m d (Proc.devRef .tc main_v31)))
    (by decide) (by decide) (by decide) rfl rfl rfl (give2 (Aq m) d) (take2 (Aq m) d) k Q

theorem share2 (c : Dev nD) (w) : (dats (V11 m) (Od (F := F) 3) (Bd (F := F) 3) 2 c).share w = fullShare := ite_self (c := ((cfg5.win w).isOut = true)) fullShare
theorem spec_rest2 (c : Dev nD) : (Pipeline.scopedRest (Pipeline.pin (pcfgs (F := F)) adm 2).spec c : sProp 𝕄) = Pipeline.scopedRest spec5 c := rfl
theorem dat_rest2 (c : Dev nD) (t) : (dats (V11 m) (Od (F := F) 3) (Bd (F := F) 3) 2 c).Φ t = Pipeline.scopedRest spec5 c := rfl

/-- The third pipeline. -/
theorem region2 (κ : GSem nD τ sig → ℕ) (d : Dev nD) (k : MainProg F) (Q : PUnit → sProp 𝕄) :
    iprop((K (F := F)).ctx EH (P (Aq m)) κ (K (F := F)).lev ∗ St d 3 (V11 m d)
        ∗ (Pipeline.cellsGhost (Pipeline.pin (pcfgs (F := F)) adm) EP 2 d ∗ Pipeline.toksInit (Pipeline.pin (pcfgs (F := F)) adm) EP 2 d)
        ∗ (St d 3 (V12 m d) -∗ WP d k Q))
      ⊢ WP d (Prog.lift (.customCall (SparseCore.inner (Pipeline.entry 2)) ()) >>= fun _ => k) Q :=
  step_region (F := F) (Aq m) κ d 2 3 (dats (V11 m) (Od (F := F) 3) (Bd (F := F) 3)) launch5.toP
    (fun c => (obl5 (V11 m) (Od (F := F) 3) (Bd (F := F) 3) c).loose) (fun _ _ => rfl) (fun _ _ => rfl) (share2 m) (fun c t => (dat_rest2 m c t).trans (spec_rest2 c).symm)
    (V11 m) (V12 m) (fun _ _ => rfl) (left2 m) unscoped2 (rest2 m d) k Q

/-- The third call with its pipeline. -/
theorem stage2 (κ : GSem nD τ sig → ℕ) (d : Dev nD) (k : MainProg F) (Q : PUnit → sProp 𝕄) :
    iprop((K (F := F)).ctx EH (P (Aq m)) κ (K (F := F)).lev ∗ St d 2 (V8 m d)
        ∗ (Pipeline.cellsGhost (Pipeline.pin (pcfgs (F := F)) adm) EP 2 d ∗ Pipeline.toksInit (Pipeline.pin (pcfgs (F := F)) adm) EP 2 d)
        ∗ (St d 3 (V12 m d) -∗ WP d k Q))
      ⊢ WP d (StableHlo.seqK h4 ((K (F := F)).run d 2 >>= fun _ => StableHlo.seqK h5
          (Prog.lift (.customCall (SparseCore.inner (Pipeline.entry 2)) ()) >>= fun _ => k))) Q := by
  iintro ⟨#Hctx, Hst, Hg, Hk⟩
  iapply (step_host d 2 (V8 m d) h4 h4_sub h4_fresh _ _)
  isplitl [Hst]; · iexact Hst
  iintro Hst
  iapply (call2 m κ d _ _)
  isplitr; · iexact Hctx
  isplitl [Hst]; · iexact Hst
  iintro Hst
  iapply (step_host d 3 (V10 m d) h5 h5_sub h5_fresh _ _)
  isplitl [Hst]; · iexact Hst
  iintro Hst
  iapply (region2 m κ d _ _)
  isplitr; · iexact Hctx
  isplitl [Hst]; · iexact Hst
  isplitl [Hg]; · iexact Hg
  iexact Hk

theorem cover3 : (Finset.univ : Finset (Fin (2 ^ 5))).biUnion (fun w => Tile.Sd T3 w.val) = Finset.univ :=
  (Tile.Sd_cover T3 (by decide) rfl (fun w : Fin (2 ^ 5) => w.val) (fun w hw => ⟨⟨w, hw⟩, rfl⟩)).trans (View.set_whole _)

/-- The operands of call 3 are its tasks' parts. -/
theorem give3 (d : Dev nD) :
    iprop(((T d : Thread nD τ).loc main_v0 ↦{fullShare} A 3 d (Proc.devRef .tc main_v0)) ∗ ((T d : Thread nD τ).loc main_v36 ↦{fullShare} A 3 d (Proc.devRef .tc main_v36))
      ∗ ((T d : Thread nD τ).loc main_v37 ↦{fullShare} A 3 d (Proc.devRef .tc main_v37))) ⊢ (bigSep Finset.univ fun x : Fin ((K (F := F)).nCore 3) => (P A).st 3 d x : sProp 𝕄) := by
  rw [tasks_st]
  exact Tile.deal (ℓt := (T d : Thread nD τ).loc main_v0) (ℓi := (T d : Thread nD τ).loc main_v36) (ℓo := (T d : Thread nD τ).loc main_v37)
    (Tile.Sd T3) (A 3 d (Proc.devRef .tc main_v0)) (A 3 d (Proc.devRef .tc main_v36)) (fun _ _ h => Tile.Sd_disjoint T3 h) cover3 _

/-- The tasks' parts are the operands, the output gathered. -/
theorem take3 (d : Dev nD) :
    (bigSep Finset.univ fun x : Fin ((K (F := F)).nCore 3) => (P A).dn 3 d x : sProp 𝕄)
      ⊢ iprop(((T d : Thread nD τ).loc main_v0 ↦{fullShare} A 3 d (Proc.devRef .tc main_v0)) ∗ ((T d : Thread nD τ).loc main_v36 ↦{fullShare} A 3 d (Proc.devRef .tc main_v36))
      ∗ ((T d : Thread nD τ).loc main_v37 ↦{fullShare} rows3 d (A 3 d (Proc.devRef .tc main_v0)) (A 3 d (Proc.devRef .tc main_v36)))) := by
  rw [tasks_dn]
  exact Tile.collect (ℓt := (T d : Thread nD τ).loc main_v0) (ℓi := (T d : Thread nD τ).loc main_v36) (ℓo := (T d : Thread nD τ).loc main_v37)
    (Tile.Sd T3) (A 3 d (Proc.devRef .tc main_v0)) (A 3 d (Proc.devRef .tc main_v36)) (fun _ _ h => Tile.Sd_disjoint T3 h) cover3 _

theorem isIn3 : ∀ w : Fin cfg7.W, w ≠ 13 → (cfg7.win w).isOut = false ∧ Pipeline.arrRef spec7 w ≠ main_v39 := by decide
theorem unscoped3 : ∀ w : Fin cfg7.W, (Pipeline.arrRef spec7 w).isScoped = false := by decide

set_option maxRecDepth 65536 in
/-- The contents after pipeline 3 are its arrays as it leaves them. -/
theorem left3 (c : Dev nD) (w : Fin cfg7.W) :
    (dat7 (V15 m) (Od (F := F) 4) (Bd (F := F) 4) c).arrAt w cfg7.N = V16 m c (Proc.devRef .tc (Pipeline.arrRef spec7 w)) := by
  by_cases h : w = 13
  · subst h
    exact (put_self _ main_v39 _).symm
  · exact (Pipeline.Dat.arrAt_in _ w (isIn3 w h).1 _).trans
      (put_of_ne (V15 m c) main_v39 _ (StableHlo.devRef_ne_of_ne (isIn3 w h).2)).symm

/-- Pipeline 3 leaves every other array. -/
theorem rest3 (d : Dev nD) (b : DevRef τ sig) (h : b ∉ Pipeline.arrRefs (τ := τ) spec7) : V16 m d b = V15 m d b := by
  refine put_of_ne _ _ _ ?_
  rintro rfl
  exact h (Finset.mem_map.mpr ⟨_, Finset.mem_image.mpr ⟨13, Finset.mem_univ _, rfl⟩, rfl⟩)

/-- The fourth call. -/
theorem call3 (κ : GSem nD τ sig → ℕ) (d : Dev nD) (k : MainProg F) (Q : PUnit → sProp 𝕄) :
    iprop((K (F := F)).ctx EH (P (Aq m)) κ (K (F := F)).lev ∗ St d 3 (V13 m d) ∗ (St d 4 (V14 m d) -∗ WP d k Q))
      ⊢ WP d ((K (F := F)).run d 3 >>= fun _ => k) Q :=
  step_call (F := F) (Aq m) κ d 3 (V13 m d) main_v0 main_v36 main_v37 (rows3 d (V13 m d (Proc.devRef .tc main_v0)) (V13 m d (Proc.devRef .tc main_v36)))
    (by decide) (by decide) (by decide) rfl rfl rfl (give3 (Aq m) d) (take3 (Aq m) d) k Q

theorem share3 (c : Dev nD) (w) : (dats (V15 m) (Od (F := F) 4) (Bd (F := F) 4) 3 c).share w = fullShare := ite_self (c := ((cfg7.win w).isOut = true)) fullShare
theorem spec_rest3 (c : Dev nD) : (Pipeline.scopedRest (Pipeline.pin (pcfgs (F := F)) adm 3).spec c : sProp 𝕄) = Pipeline.scopedRest spec7 c := rfl
theorem dat_rest3 (c : Dev nD) (t) : (dats (V15 m) (Od (F := F) 4) (Bd (F := F) 4) 3 c).Φ t = Pipeline.scopedRest spec7 c := rfl

/-- The fourth pipeline. -/
theorem region3 (κ : GSem nD τ sig → ℕ) (d : Dev nD) (k : MainProg F) (Q : PUnit → sProp 𝕄) :
    iprop((K (F := F)).ctx EH (P (Aq m)) κ (K (F := F)).lev ∗ St d 4 (V15 m d)
        ∗ (Pipeline.cellsGhost (Pipeline.pin (pcfgs (F := F)) adm) EP 3 d ∗ Pipeline.toksInit (Pipeline.pin (pcfgs (F := F)) adm) EP 3 d)
        ∗ (St d 4 (V16 m d) -∗ WP d k Q))
      ⊢ WP d (Prog.lift (.customCall (SparseCore.inner (Pipeline.entry 3)) ()) >>= fun _ => k) Q :=
  step_region (F := F) (Aq m) κ d 3 4 (dats (V15 m) (Od (F := F) 4) (Bd (F := F) 4)) launch7.toP
    (fun c => (obl7 (V15 m) (Od (F := F) 4) (Bd (F := F) 4) c).loose) (fun _ _ => rfl) (fun _ _ => rfl) (share3 m) (fun c t => (dat_rest3 m c t).trans (spec_rest3 c).symm)
    (V15 m) (V16 m) (fun _ _ => rfl) (left3 m) unscoped3 (rest3 m d) k Q

/-- The fourth call with its pipeline. -/
theorem stage3 (κ : GSem nD τ sig → ℕ) (d : Dev nD) (k : MainProg F) (Q : PUnit → sProp 𝕄) :
    iprop((K (F := F)).ctx EH (P (Aq m)) κ (K (F := F)).lev ∗ St d 3 (V12 m d)
        ∗ (Pipeline.cellsGhost (Pipeline.pin (pcfgs (F := F)) adm) EP 3 d ∗ Pipeline.toksInit (Pipeline.pin (pcfgs (F := F)) adm) EP 3 d)
        ∗ (St d 4 (V16 m d) -∗ WP d k Q))
      ⊢ WP d (StableHlo.seqK h6 ((K (F := F)).run d 3 >>= fun _ => StableHlo.seqK h7
          (Prog.lift (.customCall (SparseCore.inner (Pipeline.entry 3)) ()) >>= fun _ => k))) Q := by
  iintro ⟨#Hctx, Hst, Hg, Hk⟩
  iapply (step_host d 3 (V12 m d) h6 h6_sub h6_fresh _ _)
  isplitl [Hst]; · iexact Hst
  iintro Hst
  iapply (call3 m κ d _ _)
  isplitr; · iexact Hctx
  isplitl [Hst]; · iexact Hst
  iintro Hst
  iapply (step_host d 4 (V14 m d) h7 h7_sub h7_fresh _ _)
  isplitl [Hst]; · iexact Hst
  iintro Hst
  iapply (region3 m κ d _ _)
  isplitr; · iexact Hctx
  isplitl [Hst]; · iexact Hst
  isplitl [Hg]; · iexact Hg
  iexact Hk

/-! ## The whole of @main -/

/-- Every pipeline's semaphores' ghost state, on one core. -/
abbrev ghosts (d : Dev nD) : sProp 𝕄 := bigSep Finset.univ fun p : Fin 4 =>
  iprop(Pipeline.cellsGhost (Pipeline.pin (pcfgs (F := F)) adm) EP p d ∗ Pipeline.toksInit (Pipeline.pin (pcfgs (F := F)) adm) EP p d)

theorem ghosts_four (Φ : Fin 4 → sProp 𝕄) : bigSep Finset.univ Φ = iprop(Φ 0 ∗ Φ 1 ∗ Φ 2 ∗ Φ 3) := by
  rw [show (Finset.univ : Finset (Fin 4)) = {0, 1, 2, 3} from rfl, SparseCore.bigSep_insert' (by decide), SparseCore.bigSep_insert' (by decide),
    SparseCore.bigSep_insert' (by decide), bigSep_singleton]

/-- @main ends with every unscoped array at its last contents. -/
theorem hmain (g : Dev nD → PrngReg) (κ : GSem nD τ sig → ℕ) (d : Dev nD) :
    iprop((K (F := F)).ctx EH (P (Aq m)) κ (K (F := F)).lev ∗ (K (F := F)).tcSt EH d 0 ∗ (K (F := F)).tcRes m g d ∗ ghosts (F := F) d)
      ⊢ wp frame (wpE ((K (F := F)).defs (D (F := F))) 𝒱 (T d) none) Set.univ (main d)
          fun _ => iprop((K (F := F)).tcSt EH d 4 ∗ StableHlo.held (T d) (Pipeline.ucRefs τ sig) (V17 m d) ∗ (K (F := F)).tcEnd d) := by
  unfold SparseCore.Cfg.tcRes SparseCore.Cfg.tcEnd ghosts
  have hu : (unscopedBufs d (fun b => m ((T d : Thread nD τ).loc b)) : sProp 𝕄) = StableHlo.held (T d) (Pipeline.ucRefs τ sig) (V0 m d) :=
    Pipeline.unscopedBufs_held d (V0 m d)
  rw [main_eq, hu, ghosts_four]
  iintro ⟨#Hctx, Ht, ⟨Hb, Hh, Hs, -⟩, ⟨Hg0, Hg1, Hg2, Hg3⟩⟩
  ihave Hst := (show iprop(boundary (T d) ∗ StableHlo.held (T d) (Pipeline.ucRefs τ sig) (V0 m d) ∗ (K (F := F)).tcSt EH d 0) ⊢ (St d 0 (V0 m d) : sProp 𝕄) from BI.Entails.refl _) $$ [Hb Hh Ht]
  · isplitl [Hb]; · iexact Hb
    isplitl [Hh]; · iexact Hh
    iexact Ht
  iapply (stage0 m κ d _ _)
  isplitr; · iexact Hctx
  isplitl [Hst]; · iexact Hst
  isplitl [Hg0]; · iexact Hg0
  iintro Hst
  iapply (stage1 m κ d _ _)
  isplitr; · iexact Hctx
  isplitl [Hst]; · iexact Hst
  isplitl [Hg1]; · iexact Hg1
  iintro Hst
  iapply (stage2 m κ d _ _)
  isplitr; · iexact Hctx
  isplitl [Hst]; · iexact Hst
  isplitl [Hg2]; · iexact Hg2
  iintro Hst
  iapply (stage3 m κ d _ _)
  isplitr; · iexact Hctx
  isplitl [Hst]; · iexact Hst
  isplitl [Hg3]; · iexact Hg3
  iintro Hst
  iapply (step_host d 4 (V16 m d) h8 h8_sub h8_fresh _ _)
  isplitl [Hst]; · iexact Hst
  iintro Hst
  unfold WP
  rw [wp_pure]
  imodintro
  ihave Hst := (show (St d 4 (StableHlo.after h8 (V16 m d)) : sProp 𝕄) ⊢ iprop(boundary (T d) ∗ StableHlo.held (T d) (Pipeline.ucRefs τ sig) (V17 m d) ∗ (K (F := F)).tcSt EH d 4) from BI.Entails.refl _) $$ Hst
  icases Hst with ⟨Hb, Hh, Ht⟩
  isplitl [Ht]; · iexact Ht
  isplitl [Hh]; · iexact Hh
  isplitl [Hb]; · iexact Hb
  iexact Hs

end Cert.Proof.KI

end
-- ==== Proof.KRun.lean ====
/-
  The program's run: every schedule ends, with every unscoped array of every device's TensorCore at its last contents
  and every semaphore at zero.
-/
module

public import proofs.«01_k».proof.Proof.Chain
public import Idealize.ShloMosaic.Lib.SparseCore.Quiescent
public import Idealize.ShloMosaic.Lib.Pipeline.Launch

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ

/-- Different pipelines' windows have different semaphores. -/
theorem cells_inj : Function.Injective (Pipeline.cellOf (nD := nD) (τ := τ) (Pipeline.pin (pcfgs (F := F)) adm)) :=
  (launch1.toP (Val := Elt F)).cellOf_inj adm

variable (F) in
/-- The launch's ghost state: the calls' handshakes and the pipelines' rounds. -/
def u₀ : UU :=
  (initOf (K (F := F)).hsCells (K (F := F)).hsToks,
    (initOf (Pipeline.cells (Pipeline.pin (pcfgs (F := F)) adm) cells_inj) (Pipeline.launchToks (Pipeline.pin (pcfgs (F := F)) adm) cells_inj), 1))

variable (A : Fin 4 → Dev nD → Valuation τ sig (Elt F))

theorem emps : (bigSep Finset.univ fun thr : Thread nD τ => bigSep Finset.univ fun q : Fin 4 => (P (F := F) A).x q thr) = (BI.emp : sProp 𝕄) := by
  rw [show (bigSep Finset.univ fun thr : Thread nD τ => bigSep Finset.univ fun q : Fin 4 => (P (F := F) A).x q thr)
      = bigSep Finset.univ fun _ : Thread nD τ => (BI.emp : sProp 𝕄) from bigSep_congr fun _ _ => bigSep_emp_const _, bigSep_emp_const]

theorem hu₀ : (ownU (u₀ F) : sProp 𝕄)
    ⊢ |={Set.univ}=> iprop(BI.own (EH (initOf (K (F := F)).hsCells (K (F := F)).hsToks)) ∗ (bigSep Finset.univ fun d : Dev nD => ghosts (F := F) d)
        ∗ bigSep Finset.univ fun thr : Thread nD τ => bigSep Finset.univ fun q : Fin 4 => (P (F := F) A).x q thr) := by
  have hg : iprop((bigSep Finset.univ fun c : Dev nD => bigSep Finset.univ fun p => Pipeline.cellsGhost (Pipeline.pin (pcfgs (F := F)) adm) EP p c)
          ∗ (bigSep Finset.univ fun c : Dev nD => bigSep Finset.univ fun p => Pipeline.toksInit (Pipeline.pin (pcfgs (F := F)) adm) EP p c))
      ⊢ (bigSep Finset.univ fun d : Dev nD => ghosts (F := F) d : sProp 𝕄) := by
    unfold ghosts
    simp only [bigSep_sep']
    exact BI.Entails.refl _
  rw [emps]
  unfold u₀
  iintro Hu
  ihave H := (ownU_pair (initOf (K (F := F)).hsCells (K (F := F)).hsToks) _) $$ Hu
  icases H with ⟨HH, HR⟩
  ihave HR := (own_pair_emb embR _ _) $$ HR
  icases HR with ⟨HP, -⟩
  imod (Pipeline.fund_ghost (Pipeline.pin (pcfgs (F := F)) adm) EP cells_inj) $$ HP with H
  imodintro
  isplitl [HH]; · iexact HH
  isplitl [H]; · iapply hg $$ H
  iempintro

variable (m : (ℓ : Loc nD τ sig) → Buf (Elt F) ℓ)

/-- What the run leaves on a device. -/
def fq (d : Dev nD) (s' : Phys nD τ sig (Elt F)) : Prop :=
  ∀ b ∈ Pipeline.ucRefs τ sig, s'.mem.mem (d, b) = V17 m d b

theorem hfin (d : Dev nD) (s' : Phys nD τ sig (Elt F)) :
    iprop(StableHlo.held (T d) (Pipeline.ucRefs τ sig) (V17 m d) ∗ SI s') ⊢ (⌜fq m d s'⌝ : sProp 𝕄) := by
  have h := pointsTo_read_all (Ix := HIx 4) (Name := ℕ) (U := UU) (Lvl := ℕ) (Pipeline.ucRefs τ sig) (fun b => ((d, b) : Loc nD τ sig)) (fun b => V17 m d b) s'
  refine BIBase.Entails.trans h ?_
  exact (show iprop(⌜fq m d s'⌝ ∗ SI s') ⊢ (⌜fq m d s'⌝ : sProp 𝕄) from by
    iintro ⟨%h, -⟩
    ipureintro; exact h)

/-- Every task of every call gathers its rows. -/
theorem tileObl (hok : Ok F A) (q : Fin 4) : (K (F := F)).TileObl (D (F := F)) 𝒱 (P A) v₀ q :=
  match q with
  | 0 => tileObl0 A hok
  | 1 => tileObl1 A hok
  | 2 => tileObl2 A hok
  | 3 => tileObl3 A hok

theorem noScalar (q : Fin 4) : (K (F := F)).kind q ≠ .scScalar :=
  match q with | 0 => nofun | 1 => nofun | 2 => nofun | 3 => nofun

/-- The run, from any memory whose row numbers are rows of the table. -/
theorem run_main [∀ e, Nonempty (Elt F e)] (hok : Ok F (Aq m)) (g : Dev nD → PrngReg) :
    θ_run (defs (F := F)) (threads (F := F)) ⟨m, fun _ => 0, g⟩
      (fun r => (∀ (d : Dev nD), ∀ b ∈ Pipeline.ucRefs τ sig, r.2.mem (d, b) = V17 m d b) ∧ r.2.sem = fun _ => 0) :=
  SparseCore.Cfg.θ_run_sc_quiescent (K := K (F := F)) (D := D (F := F)) (𝒱 := 𝒱) (EH := EH) (P := P (Aq m)) (A := ∅) hsFacts v₀
    (fun q hq => absurd hq (noScalar q))
    (fun q _ => tileObl (Aq m) hok q)
    (fun q _ => SparseCore.Cfg.VecSplit.of_plain (vecSplit (Aq m) q))
    m g main (fun d => ghosts (F := F) d) (fun d => StableHlo.held (T d) (Pipeline.ucRefs τ sig) (V17 m d)) (u₀ F)
    (sep_elim_left.trans (hu₀ (Aq m))) (hmain m g) (fq m) (hfin m) _ (fun _ h hz => ⟨h, hz⟩)

end Cert.Proof.KI

end
-- ==== Proof.Args.lean ====
/-
  What the run leaves of @main's arguments, and what the precondition says of the row numbers.
-/
module

public import proofs.«01_k».proof.Proof.KRun
public import Idealize.ShloMosaic.Lib.StableHlo.RunRead
public import Idealize.ShloMosaic.Lib.Pipeline.FrameTail

@[expose] public section

noncomputable section

namespace Cert.Proof.KI

open Cert.KernelIdeal Cert.KernelIdeal.Gen

open Idealize.ShloMosaic
open Idealize.ShloMosaic.SparseCore (S V T)
open Idealize.SL Idealize.SL.Sem

variable {F : FTy → Type} [FloatOps F]

section
variable (m : (ℓ : Loc nD τ sig) → Buf (Elt F) ℓ) (d : Dev nD) {r : Ref sig .tc}

/-! ## A buffer nothing writes at a step keeps its contents there -/

theorem s1 (h : r ∉ w0) : V1 m d (Proc.devRef .tc r) = V0 m d (Proc.devRef .tc r) := StableHlo.after_of_writes_sub h0 _ h0_writes h
theorem s2 (h : r ≠ main_v22) : V2 m d (Proc.devRef .tc r) = V1 m d (Proc.devRef .tc r) := put_of_ne _ _ _ (StableHlo.devRef_ne_of_ne h)
theorem s3 (h : r ∉ w1) : V3 m d (Proc.devRef .tc r) = V2 m d (Proc.devRef .tc r) := StableHlo.after_of_writes_sub h1 _ h1_writes h
theorem s4 (h : r ≠ main_v24) : V4 m d (Proc.devRef .tc r) = V3 m d (Proc.devRef .tc r) := put_of_ne _ _ _ (StableHlo.devRef_ne_of_ne h)
theorem s5 (h : r ∉ w2) : V5 m d (Proc.devRef .tc r) = V4 m d (Proc.devRef .tc r) := StableHlo.after_of_writes_sub h2 _ h2_writes h
theorem s6 (h : r ≠ main_v27) : V6 m d (Proc.devRef .tc r) = V5 m d (Proc.devRef .tc r) := put_of_ne _ _ _ (StableHlo.devRef_ne_of_ne h)
theorem s7 (h : r ∉ w3) : V7 m d (Proc.devRef .tc r) = V6 m d (Proc.devRef .tc r) := StableHlo.after_of_writes_sub h3 _ h3_writes h
theorem s8 (h : r ≠ main_v29) : V8 m d (Proc.devRef .tc r) = V7 m d (Proc.devRef .tc r) := put_of_ne _ _ _ (StableHlo.devRef_ne_of_ne h)
theorem s9 (h : r ∉ w4) : V9 m d (Proc.devRef .tc r) = V8 m d (Proc.devRef .tc r) := StableHlo.after_of_writes_sub h4 _ h4_writes h
theorem s10 (h : r ≠ main_v32) : V10 m d (Proc.devRef .tc r) = V9 m d (Proc.devRef .tc r) := put_of_ne _ _ _ (StableHlo.devRef_ne_of_ne h)
theorem s11 (h : r ∉ w5) : V11 m d (Proc.devRef .tc r) = V10 m d (Proc.devRef .tc r) := StableHlo.after_of_writes_sub h5 _ h5_writes h
theorem s12 (h : r ≠ main_v34) : V12 m d (Proc.devRef .tc r) = V11 m d (Proc.devRef .tc r) := put_of_ne _ _ _ (StableHlo.devRef_ne_of_ne h)
theorem s13 (h : r ∉ w6) : V13 m d (Proc.devRef .tc r) = V12 m d (Proc.devRef .tc r) := StableHlo.after_of_writes_sub h6 _ h6_writes h
theorem s14 (h : r ≠ main_v37) : V14 m d (Proc.devRef .tc r) = V13 m d (Proc.devRef .tc r) := put_of_ne _ _ _ (StableHlo.devRef_ne_of_ne h)
theorem s15 (h : r ∉ w7) : V15 m d (Proc.devRef .tc r) = V14 m d (Proc.devRef .tc r) := StableHlo.after_of_writes_sub h7 _ h7_writes h
theorem s16 (h : r ≠ main_v39) : V16 m d (Proc.devRef .tc r) = V15 m d (Proc.devRef .tc r) := put_of_ne _ _ _ (StableHlo.devRef_ne_of_ne h)
theorem s17 (h : r ∉ w8) : V17 m d (Proc.devRef .tc r) = V16 m d (Proc.devRef .tc r) := StableHlo.after_of_writes_sub h8 _ h8_writes h

/-- A buffer that no step from the first pipeline on writes, at each pipeline. -/
def late : List (Ref sig .tc) := w1 ++ w2 ++ w3 ++ w4 ++ w5 ++ w6 ++ w7 ++ [main_v22, main_v24, main_v27, main_v29, main_v32, main_v34, main_v37, main_v39]

theorem at3 (h : r ∉ late) : V3 m d (Proc.devRef .tc r) = V1 m d (Proc.devRef .tc r) := by
  simp only [late, List.mem_append, List.mem_cons, List.not_mem_nil, or_false, not_or] at h
  rw [s3 m d (by tauto), s2 m d (by tauto)]
theorem at5 (h : r ∉ late) : V5 m d (Proc.devRef .tc r) = V1 m d (Proc.devRef .tc r) := by
  have h' := h
  simp only [late, List.mem_append, List.mem_cons, List.not_mem_nil, or_false, not_or] at h
  rw [s5 m d (by tauto), s4 m d (by tauto), at3 m d h']
theorem at7 (h : r ∉ late) : V7 m d (Proc.devRef .tc r) = V1 m d (Proc.devRef .tc r) := by
  have h' := h
  simp only [late, List.mem_append, List.mem_cons, List.not_mem_nil, or_false, not_or] at h
  rw [s7 m d (by tauto), s6 m d (by tauto), at5 m d h']
theorem at9 (h : r ∉ late) : V9 m d (Proc.devRef .tc r) = V1 m d (Proc.devRef .tc r) := by
  have h' := h
  simp only [late, List.mem_append, List.mem_cons, List.not_mem_nil, or_false, not_or] at h
  rw [s9 m d (by tauto), s8 m d (by tauto), at7 m d h']
theorem at11 (h : r ∉ late) : V11 m d (Proc.devRef .tc r) = V1 m d (Proc.devRef .tc r) := by
  have h' := h
  simp only [late, List.mem_append, List.mem_cons, List.not_mem_nil, or_false, not_or] at h
  rw [s11 m d (by tauto), s10 m d (by tauto), at9 m d h']
theorem at13 (h : r ∉ late) : V13 m d (Proc.devRef .tc r) = V1 m d (Proc.devRef .tc r) := by
  have h' := h
  simp only [late, List.mem_append, List.mem_cons, List.not_mem_nil, or_false, not_or] at h
  rw [s13 m d (by tauto), s12 m d (by tauto), at11 m d h']
theorem at15 (h : r ∉ late) : V15 m d (Proc.devRef .tc r) = V1 m d (Proc.devRef .tc r) := by
  have h' := h
  simp only [late, List.mem_append, List.mem_cons, List.not_mem_nil, or_false, not_or] at h
  rw [s15 m d (by tauto), s14 m d (by tauto), at13 m d h']
theorem at17 (h : r ∉ late) (h8 : r ∉ w8) : V17 m d (Proc.devRef .tc r) = V1 m d (Proc.devRef .tc r) := by
  have h' := h
  simp only [late, List.mem_append, List.mem_cons, List.not_mem_nil, or_false, not_or] at h
  rw [s17 m d h8, s16 m d (by tauto), at15 m d h']

/-- A buffer @main never writes ends as it began. -/
theorem kept (h0 : r ∉ w0) (h : r ∉ late) (h8 : r ∉ w8) : V17 m d (Proc.devRef .tc r) = m (d, Proc.devRef .tc r) := by
  rw [at17 m d h h8, s1 m d h0]; rfl

/-! ## The row numbers each call reads are the argument's -/

theorem v1_v21 : V1 m d (Proc.devRef .tc main_v21)
    = shapeCast S32x8x128 (extractStridedSlice S32768 ![0] (m (d, Proc.devRef .tc main_arg1) : (⟨S524288, .i32⟩ : BufTy).Contents (Elt F)) slices_S524288_S32768_0)
        shapeCasts_S32768_S32x8x128 := by
  unfold V1
  after_reads_simp
  rfl

theorem v5_v26 : V5 m d (Proc.devRef .tc main_v26)
    = shapeCast S32x24x128 (extractStridedSlice S98304 ![32768] (m (d, Proc.devRef .tc main_arg1) : (⟨S524288, .i32⟩ : BufTy).Contents (Elt F)) slices_S524288_S98304_32768)
        shapeCasts_S98304_S32x24x128 := by
  unfold V5
  after_reads_simp
  rw [s4 m d (by decide), at3 m d (by decide), s1 m d (by decide)]
  rfl

theorem v9_v31 : V9 m d (Proc.devRef .tc main_v31)
    = shapeCast S32x48x128 (extractStridedSlice S196608 ![131072] (m (d, Proc.devRef .tc main_arg1) : (⟨S524288, .i32⟩ : BufTy).Contents (Elt F)) slices_S524288_S196608_131072)
        shapeCasts_S196608_S32x48x128 := by
  unfold V9
  after_reads_simp
  rw [s8 m d (by decide), at7 m d (by decide), s1 m d (by decide)]
  rfl

theorem v13_v36 : V13 m d (Proc.devRef .tc main_v36)
    = shapeCast S32x48x128 (extractStridedSlice S196608 ![327680] (m (d, Proc.devRef .tc main_arg1) : (⟨S524288, .i32⟩ : BufTy).Contents (Elt F)) slices_S524288_S196608_327680)
        shapeCasts_S196608_S32x48x128 := by
  unfold V13
  after_reads_simp
  rw [s12 m d (by decide), at11 m d (by decide), s1 m d (by decide)]
  rfl

/-- Where every row number of the argument is below 1024, so are those each call reads. -/
theorem ok_of_rows (h : ∀ (d : Dev nD) (x : S524288.Idx), ((m (d, Proc.devRef .tc main_arg1) : (⟨S524288, .i32⟩ : BufTy).Contents (Elt F)) x).toNat < 1024) :
    Ok F (Aq m) := fun d =>
  ⟨fun x => (congrArg BitVec.toNat (congrFun (v1_v21 m d) x)).trans_lt (h d _),
   fun x => (congrArg BitVec.toNat (congrFun (v5_v26 m d) x)).trans_lt (h d _),
   fun x => (congrArg BitVec.toNat (congrFun (v9_v31 m d) x)).trans_lt (h d _),
   fun x => (congrArg BitVec.toNat (congrFun (v13_v36 m d) x)).trans_lt (h d _)⟩

/-- The arguments are as they were. -/
def Same (mem : (ℓ : Loc nD τ sig) → Buf (Elt F) ℓ) : Prop :=
    mem ((d.tc : Thread nD τ).loc main_arg0) = m ((d.tc : Thread nD τ).loc main_arg0)
    ∧ mem ((d.tc : Thread nD τ).loc main_arg1) = m ((d.tc : Thread nD τ).loc main_arg1)
    ∧ mem ((d.tc : Thread nD τ).loc main_arg2) = m ((d.tc : Thread nD τ).loc main_arg2)
    ∧ mem ((d.tc : Thread nD τ).loc main_arg3) = m ((d.tc : Thread nD τ).loc main_arg3)
    ∧ mem ((d.tc : Thread nD τ).loc main_arg4) = m ((d.tc : Thread nD τ).loc main_arg4)
    ∧ mem ((d.tc : Thread nD τ).loc main_arg5) = m ((d.tc : Thread nD τ).loc main_arg5)
    ∧ mem ((d.tc : Thread nD τ).loc main_arg6) = m ((d.tc : Thread nD τ).loc main_arg6)
    ∧ mem ((d.tc : Thread nD τ).loc main_arg7) = m ((d.tc : Thread nD τ).loc main_arg7)
    ∧ mem ((d.tc : Thread nD τ).loc main_arg8) = m ((d.tc : Thread nD τ).loc main_arg8)
    ∧ mem ((d.tc : Thread nD τ).loc main_arg9) = m ((d.tc : Thread nD τ).loc main_arg9)
    ∧ mem ((d.tc : Thread nD τ).loc main_arg10) = m ((d.tc : Thread nD τ).loc main_arg10)
    ∧ mem ((d.tc : Thread nD τ).loc main_arg11) = m ((d.tc : Thread nD τ).loc main_arg11)
    ∧ mem ((d.tc : Thread nD τ).loc main_arg12) = m ((d.tc : Thread nD τ).loc main_arg12)

theorem same_of_run (mem : (ℓ : Loc nD τ sig) → Buf (Elt F) ℓ) (h : ∀ b ∈ Pipeline.ucRefs τ sig, mem (d, b) = V17 m d b) : Same m d mem :=
  ⟨(h _ (Pipeline.devRef_mem_ucRefs (b := main_arg0) rfl)).trans (kept m d (by decide) (by decide) (by decide)),
   (h _ (Pipeline.devRef_mem_ucRefs (b := main_arg1) rfl)).trans (kept m d (by decide) (by decide) (by decide)),
   (h _ (Pipeline.devRef_mem_ucRefs (b := main_arg2) rfl)).trans (kept m d (by decide) (by decide) (by decide)),
   (h _ (Pipeline.devRef_mem_ucRefs (b := main_arg3) rfl)).trans (kept m d (by decide) (by decide) (by decide)),
   (h _ (Pipeline.devRef_mem_ucRefs (b := main_arg4) rfl)).trans (kept m d (by decide) (by decide) (by decide)),
   (h _ (Pipeline.devRef_mem_ucRefs (b := main_arg5) rfl)).trans (kept m d (by decide) (by decide) (by decide)),
   (h _ (Pipeline.devRef_mem_ucRefs (b := main_arg6) rfl)).trans (kept m d (by decide) (by decide) (by decide)),
   (h _ (Pipeline.devRef_mem_ucRefs (b := main_arg7) rfl)).trans (kept m d (by decide) (by decide) (by decide)),
   (h _ (Pipeline.devRef_mem_ucRefs (b := main_arg8) rfl)).trans (kept m d (by decide) (by decide) (by decide)),
   (h _ (Pipeline.devRef_mem_ucRefs (b := main_arg9) rfl)).trans (kept m d (by decide) (by decide) (by decide)),
   (h _ (Pipeline.devRef_mem_ucRefs (b := main_arg10) rfl)).trans (kept m d (by decide) (by decide) (by decide)),
   (h _ (Pipeline.devRef_mem_ucRefs (b := main_arg11) rfl)).trans (kept m d (by decide) (by decide) (by decide)),
   (h _ (Pipeline.devRef_mem_ucRefs (b := main_arg12) rfl)).trans (kept m d (by decide) (by decide) (by decide))⟩

end

end Cert.Proof.KI

end
-- ==== Proof.Rows.lean ====
/-
  What the precondition says of the row numbers.
-/
module

public import proofs.«01_k».proof.Pre_in_range
public import proofs.«01_k».proof.Proof.Gen.Pre_in_range
public import Idealize.ShloMosaic.Lib.ReduceAll

@[expose] public section

noncomputable section

namespace Cert.Proof

open Idealize.ShloMosaic Cert.Pre_in_range Cert.Pre_in_range.Gen

/-- A word that is not negative and below 1024, both as signed words, is below 1024 as a number. -/
theorem word_lt (v : BitVec 32) (e : IntOp.andi (IntOp.cmpi .sge v 0#32) (IntOp.cmpi .slt v 1024#32) = 1#1) : v.toNat < 1024 := by
  obtain ⟨h0, h1⟩ := IntOp.andi_eq_one.1 e
  rw [IntOp.cmpi_sge, show (0#32 : BitVec 32).toInt = 0 from by decide] at h0
  rw [IntOp.cmpi_slt, show (1024#32 : BitVec 32).toInt = 1024 from by decide] at h1
  have h := BitVec.toInt_eq_toNat_cond v
  have hv := v.isLt
  split at h <;> omega

variable {F : FTy → Type} [FloatOps F]

/-- Where the precondition holds, every row number is below 1024. -/
theorem row_lt (a0 : FVec F S524288x2 .f32) (a1 : IVec S524288 32) (a2 : FVec F S1024x64 .f32) (a3 : FVec F S66x256 .f32)
    (a4 : FVec F S256 .f32) (a5 : FVec F S256x256 .f32) (a6 : FVec F S256 .f32) (a7 : FVec F S256x256 .f32) (a8 : FVec F S256 .f32)
    (a9 : FVec F S256x256 .f32) (a10 : FVec F S256 .f32) (a11 : FVec F S256x3 .f32) (a12 : FVec F S3 .f32)
    (h : Cert.Pre_in_range.fn (F := F) a0 a1 a2 a3 a4 a5 a6 a7 a8 a9 a10 a11 a12 = fun _ => 1#1) (x : S524288.Idx) : (a1 x).toNat < 1024 := by
  have hs : Subsingleton S_.Idx := ⟨fun a b => funext fun k => k.elim0⟩
  have e := Host.reduce_andi_all _ _ _ _ _ (congrFun h (fun k => k.elim0)) x
  simp only [andi, cmpi, broadcastInDim, constantI] at e
  exact word_lt _ e

end Cert.Proof

end
-- ==== Proof.Frame.lean ====
/-
  The frame of KernelIdeal: it runs, leaves its arguments as they were, and ends with every counter at zero.
-/
module

public import proofs.«01_k».proof.Proof.Args
public import proofs.«01_k».proof.Defs
public import proofs.«01_k».proof.Proof.Rows

@[expose] public section

noncomputable section

namespace Cert.Proof.KI

open Cert.KernelIdeal Cert.KernelIdeal.Gen Idealize.ShloMosaic Idealize.SL.Sem

attribute [local instance] Cert.Pre_in_range.Gen.facts

/-- The precondition bounds the row numbers of every device. -/
theorem ok_pre (m : (ℓ : Loc nD τ sig) → Buf (Elt Ideal) ℓ) (h : Cert.Pre_KernelIdeal m) : Ok Ideal (Aq m) :=
  ok_of_rows m fun d x => row_lt _ _ _ _ _ _ _ _ _ _ _ _ _ (h d) x

/-- `Cert.quiescent_KernelIdeal`: the run, read at the arguments and the counters. -/
theorem frame : Cert.quiescent_KernelIdeal := fun m g h =>
  (θ_run defs _ _).mono (fun r hr => ⟨fun c => same_of_run m c r.2.mem (hr.1 c), hr.2⟩) (run_main m (ok_pre m h) g)

end Cert.Proof.KI

end
-- ==== Proof.KF.Frame.lean ====
/-
  The frame of Kernel: it runs, leaves its arguments as they were, and ends with every counter at zero.
-/
module

public import proofs.«01_k».proof.Proof.KF.Args
public import proofs.«01_k».proof.Defs
public import proofs.«01_k».proof.Proof.Rows

@[expose] public section

noncomputable section

namespace Cert.Proof.KF

open Cert.Kernel Cert.Kernel.Gen Idealize.ShloMosaic Idealize.SL.Sem

attribute [local instance] Cert.Pre_in_range.Gen.facts

/-- The precondition bounds the row numbers of every device. -/
theorem ok_pre (m : (ℓ : Loc nD τ sig) → Buf (Elt Bits) ℓ) (h : Cert.Pre_Kernel m) : Ok Bits (Aq m) :=
  ok_of_rows m fun d x => row_lt _ _ _ _ _ _ _ _ _ _ _ _ _ (h d) x

/-- `Cert.quiescent_Kernel`: the run, read at the arguments and the counters. -/
theorem frame : Cert.quiescent_Kernel := fun m g h =>
  (θ_run defs _ _).mono (fun r hr => ⟨fun c => same_of_run m c r.2.mem (hr.1 c), hr.2⟩) (run_main m (ok_pre m h) g)

end Cert.Proof.KF

end
-- ==== Proof.Net.lean ====
/-
  What one point of a TensorCore pipeline computes, over the extended reals: of each of its rows, the network.
-/
module

public import proofs.«01_k».proof.Proof.TcBody
public import Idealize.ShloMosaic.Lib.Pointwise
public import Idealize.ShloMosaic.Lib.ValueIdx

@[expose] public section

noncomputable section

namespace Cert.Proof

open Idealize.ShloMosaic

/-- A hidden layer of the network at one row: the product with the weights, the bias, and nothing below zero. -/
def layer (h : Fin 256 → EReal) (W : Fin 256 → Fin 256 → EReal) (b : Fin 256 → EReal) (q : Fin 256) : EReal :=
  max ((∑ k : Fin 256, h k * W k q) + b q) 0

/-- The network at one row, from the first layer's product `p` with its weights on. -/
def net (p : Fin 256 → EReal) (b1 : Fin 256 → EReal) (W2 : Fin 256 → Fin 256 → EReal) (b2 : Fin 256 → EReal) (W3 : Fin 256 → Fin 256 → EReal)
    (b3 : Fin 256 → EReal) (W4 : Fin 256 → Fin 256 → EReal) (b4 : Fin 256 → EReal) (W5 : Fin 256 → Fin 3 → EReal) (b5 : Fin 3 → EReal)
    (j : Fin 3) : EReal :=
  Ideal.logistic ((∑ k : Fin 256, layer (layer (layer (fun q => max (p q + b1 q) 0) W2 b2) W3 b3) W4 b4 k * W5 k j) + b5 j)

/-- The network at row `n`: its coordinates beside the table's row of its number, through the five layers. -/
def rowNet (a0 : (⟨2, ![524288, 2]⟩ : Shape).Idx → EReal) (a1 : (⟨1, ![524288]⟩ : Shape).Idx → BitVec 32)
    (a2 : (⟨2, ![1024, 64]⟩ : Shape).Idx → EReal) (a3 : (⟨2, ![66, 256]⟩ : Shape).Idx → EReal) (a4 : (⟨1, ![256]⟩ : Shape).Idx → EReal)
    (a5 : (⟨2, ![256, 256]⟩ : Shape).Idx → EReal) (a6 : (⟨1, ![256]⟩ : Shape).Idx → EReal) (a7 : (⟨2, ![256, 256]⟩ : Shape).Idx → EReal)
    (a8 : (⟨1, ![256]⟩ : Shape).Idx → EReal) (a9 : (⟨2, ![256, 256]⟩ : Shape).Idx → EReal) (a10 : (⟨1, ![256]⟩ : Shape).Idx → EReal)
    (a11 : (⟨2, ![256, 3]⟩ : Shape).Idx → EReal) (a12 : (⟨1, ![3]⟩ : Shape).Idx → EReal) (n : Fin 524288) (j : Fin 3) : EReal :=
  net (fun q => (∑ k : Fin 2, a0 (ix2 n k) * a3 (ix2 (k.castAdd 64) q))
        + ∑ k : Fin 64, a2 (ix2 (Fin.ofNat 1024 (a1 (ix1 n)).toNat) k) * a3 (ix2 (k.natAdd 2) q))
    (fun q => a4 (ix1 q)) (fun k q => a5 (ix2 k q)) (fun q => a6 (ix1 q)) (fun k q => a7 (ix2 k q)) (fun q => a8 (ix1 q))
    (fun k q => a9 (ix2 k q)) (fun q => a10 (ix1 q)) (fun k q => a11 (ix2 k q)) (fun q => a12 (ix1 q)) j

namespace KI

open Cert.KernelIdeal Cert.KernelIdeal.Gen

set_option maxHeartbeats 1000000 in
/-- What a point writes at row `n` of its block, in column `j`. -/
theorem mlpOut_apply (X1 : Vec Ideal S2x16384 .f32) (X2 : Vec Ideal S16384x128 .f32) (X3 : Vec Ideal S2x256 .bf16) (X4 : Vec Ideal S128x256 .bf16)
    (X5 : Vec Ideal S1x256 .bf16) (X6 : Vec Ideal S256x256 .bf16) (X7 : Vec Ideal S1x256 .bf16) (X8 : Vec Ideal S256x256 .bf16)
    (X9 : Vec Ideal S1x256 .bf16) (X10 : Vec Ideal S256x256 .bf16) (X11 : Vec Ideal S1x256 .bf16) (X12 : Vec Ideal S256x3 .bf16)
    (X13 : Vec Ideal S3x1 .f32) (j : Fin 3) (n : Fin 16384) :
    mlpOut (F := Ideal) X1 X2 X3 X4 X5 X6 X7 X8 X9 X10 X11 X12 X13 (ix2 j n)
      = net (fun q => (∑ k : Fin 2, X1 (ix2 k n) * X3 (ix2 k q)) + ∑ k : Fin 128, X2 (ix2 n k) * X4 (ix2 k q))
          (fun q => X5 (ix2 0 q)) (fun k q => X6 (ix2 k q)) (fun q => X7 (ix2 0 q)) (fun k q => X8 (ix2 k q)) (fun q => X9 (ix2 0 q))
          (fun k q => X10 (ix2 k q)) (fun q => X11 (ix2 0 q)) (fun k q => X12 (ix2 k q)) (fun q => X13 (ix2 q 0)) j := by
  unfold mlpOut net layer k1_pay1 k1_pay2
  pointwise
  simp only [mul_comm (X12 _)]

end KI

end Cert.Proof

end
-- ==== Proof.PipeVal.lean ====
/-
  What each TensorCore pipeline leaves in its output array, over the extended reals: of each column of its first
  operand beside the gathered row of that number, the network.
-/
module

public import proofs.«01_k».proof.Proof.Net
public import Idealize.ShloMosaic.Lib.Pipeline.ValueKit.Geometry

@[expose] public section

noncomputable section

namespace Cert.Proof.MapDat

open Idealize.ShloMosaic Idealize.ShloMosaic.Pipeline Idealize.ShloMosaic.TcCoe

variable {nD : ℕ} {τ : Topo} {sig : RefSig} {Val : EltTy → Type} [∀ e, Nonempty (Val e)]
variable {Λ₀ : Idealize.SL.Sem.Labels} {cfg : Cfg sig Λ₀} (c : Dev nD)

/-- A fetched block at an index the fetch moves is the array under the block. -/
theorem staged_read (A : (w : Fin cfg.W) → Buf Val ((cfg.win w).arr.view.loc (c.tc : Thread nD τ))) (w : Fin cfg.W) (t : Fin cfg.N)
    (y : ((cfg.win w).xblock (cfg.grid.coords t)).Idx) :
    staged c A w t ((cfg.win w).xinj (cfg.grid.coords t) y) = ((cfg.win w).blk t).view.read Val (A w) y :=
  Window.fill_xinj _ _ _ _ _

end Cert.Proof.MapDat

namespace Cert.Proof.KI

open Cert.KernelIdeal Cert.KernelIdeal.Gen
open Idealize.ShloMosaic
open Idealize.ShloMosaic.SparseCore.Cfg (HIx)

/-- The output array of a pipeline over `N` rows, of its operand arrays. -/
def pipeOut {N : ℕ} (X : (⟨2, ![2, N]⟩ : Shape).Idx → EReal) (E : (⟨2, ![N, 128]⟩ : Shape).Idx → EReal) (W1x : S2x256.Idx → EReal)
    (W1e : S128x256.Idx → EReal) (b1 : S1x256.Idx → EReal) (W2 : S256x256.Idx → EReal) (b2 : S1x256.Idx → EReal) (W3 : S256x256.Idx → EReal)
    (b3 : S1x256.Idx → EReal) (W4 : S256x256.Idx → EReal) (b4 : S1x256.Idx → EReal) (W5 : S256x3.Idx → EReal) (b5 : S3x1.Idx → EReal)
    (i : (⟨2, ![3, N]⟩ : Shape).Idx) : EReal :=
  net (fun q => (∑ k : Fin 2, X (ix2 k (i 1)) * W1x (ix2 k q)) + ∑ k : Fin 128, E (ix2 (i 1) k) * W1e (ix2 k q))
    (fun q => b1 (ix2 0 q)) (fun k q => W2 (ix2 k q)) (fun q => b2 (ix2 0 q)) (fun k q => W3 (ix2 k q)) (fun q => b3 (ix2 0 q))
    (fun k q => W4 (ix2 k q)) (fun q => b4 (ix2 0 q)) (fun k q => W5 (ix2 k q)) (fun q => b5 (ix2 q 0)) (i 0)

/-- A point whose first two blocks are rows `b` on of the arrays, and whose other blocks are the arrays, writes rows `b`
    on of the output. -/
theorem mlpOut_point {N b : ℕ} {X : (⟨2, ![2, N]⟩ : Shape).Idx → EReal} {E : (⟨2, ![N, 128]⟩ : Shape).Idx → EReal} {W1x : S2x256.Idx → EReal}
    {W1e : S128x256.Idx → EReal} {b1 : S1x256.Idx → EReal} {W2 : S256x256.Idx → EReal} {b2 : S1x256.Idx → EReal} {W3 : S256x256.Idx → EReal}
    {b3 : S1x256.Idx → EReal} {W4 : S256x256.Idx → EReal} {b4 : S1x256.Idx → EReal} {W5 : S256x3.Idx → EReal} {b5 : S3x1.Idx → EReal}
    {X1 : Vec Ideal S2x16384 .f32} {X2 : Vec Ideal S16384x128 .f32} {X3 : Vec Ideal S2x256 .bf16} {X4 : Vec Ideal S128x256 .bf16}
    {X5 : Vec Ideal S1x256 .bf16} {X6 : Vec Ideal S256x256 .bf16} {X7 : Vec Ideal S1x256 .bf16} {X8 : Vec Ideal S256x256 .bf16}
    {X9 : Vec Ideal S1x256 .bf16} {X10 : Vec Ideal S256x256 .bf16} {X11 : Vec Ideal S1x256 .bf16} {X12 : Vec Ideal S256x3 .bf16}
    {X13 : Vec Ideal S3x1 .f32} {y : S3x16384.Idx} {i : (⟨2, ![3, N]⟩ : Shape).Idx}
    (h3 : X3 = W1x) (h4 : X4 = W1e) (h5 : X5 = b1) (h6 : X6 = W2) (h7 : X7 = b2) (h8 : X8 = W3) (h9 : X9 = b3) (h10 : X10 = W4) (h11 : X11 = b4)
    (h12 : X12 = W5) (h13 : X13 = b5)
    (h1 : ∀ (k : Fin 2) (n : Fin 16384) (n' : Fin N), n'.val = b * 16384 + n.val → X1 (ix2 k n) = X (ix2 k n'))
    (h2 : ∀ (k : Fin 128) (n : Fin 16384) (n' : Fin N), n'.val = b * 16384 + n.val → X2 (ix2 n k) = E (ix2 n' k))
    (hi0 : (i 0).val = (y 0).val) (hi1 : (i 1).val = b * 16384 + (y 1).val) :
    mlpOut (F := Ideal) X1 X2 X3 X4 X5 X6 X7 X8 X9 X10 X11 X12 X13 y = pipeOut X E W1x W1e b1 W2 b2 W3 b3 W4 b4 W5 b5 i := by
  subst h3 h4 h5 h6 h7 h8 h9 h10 h11 h12 h13
  obtain ⟨j, n, rfl⟩ : ∃ (j : Fin 3) (n : Fin 16384), y = ix2 j n := ⟨y 0, y 1, by funext a; fin_cases a <;> rfl⟩
  have e : i 0 = j := Fin.ext hi0
  rw [mlpOut_apply]
  unfold pipeOut
  rw [e]
  congr 1
  funext q
  exact congrArg₂ (· + ·) (Finset.sum_congr rfl fun k _ => congrArg (· * X3 (ix2 k q)) (h1 k n (i 1) hi1))
    (Finset.sum_congr rfl fun k _ => congrArg (· * X4 (ix2 k q)) (h2 k n (i 1) hi1))

variable (V : Dev nD → Valuation τ sig (Elt Ideal)) (O : Dev nD → CellTallies nD τ sig (HIx 4)) (B : Dev nD → Set (SemLoc sig × HIx 4))
  (d : Dev nD)

/-- A pipeline's output, of the valuation it runs at: its first operand in `x`, the gathered rows in `e`. -/
abbrev pipeAt {N : ℕ} (f : Valuation τ sig (Elt Ideal)) (X : (⟨2, ![2, N]⟩ : Shape).Idx → EReal) (E : (⟨2, ![N, 128]⟩ : Shape).Idx → EReal) :
    (⟨2, ![3, N]⟩ : Shape).Idx → EReal :=
  pipeOut X E (f (Proc.devRef .tc main_v2)) (f (Proc.devRef .tc main_v5)) (f (Proc.devRef .tc main_v7)) (f (Proc.devRef .tc main_v8))
    (f (Proc.devRef .tc main_v10)) (f (Proc.devRef .tc main_v11)) (f (Proc.devRef .tc main_v13)) (f (Proc.devRef .tc main_v14))
    (f (Proc.devRef .tc main_v16)) (f (Proc.devRef .tc main_v17)) (f (Proc.devRef .tc main_v18))

set_option maxHeartbeats 4000000 in
/-- The output of pipeline 0. -/
theorem arr1 : (dat1 V O B d).arrAt 13 cfg1.N
    = pipeAt (N := 32768) (V d) (V d (Proc.devRef .tc main_v23)) (V d (Proc.devRef .tc main_v22)) := by
  refine (dat1 V O B d).arrAt_eq_of_covers 13 _ (by decide +kernel) fun t hf y => ?_
  have e0 : win1_0.index t = ![0, t.val] := (by decide +kernel : ∀ t : Fin cfg1.N, win1_0.index t = ![0, t.val]) t
  have e1 : win1_1.index t = ![t.val, 0] := (by decide +kernel : ∀ t : Fin cfg1.N, win1_1.index t = ![t.val, 0]) t
  have e13 : win1_13.index t = ![0, t.val] := (by decide +kernel : ∀ t : Fin cfg1.N, win1_13.index t = ![0, t.val]) t
  have e2 : win1_2.index t = ![0, 0] ∧ win1_3.index t = ![0, 0] ∧ win1_4.index t = ![0, 0] ∧ win1_5.index t = ![0, 0] ∧ win1_6.index t = ![0, 0]
    ∧ win1_7.index t = ![0, 0] ∧ win1_8.index t = ![0, 0] ∧ win1_9.index t = ![0, 0] ∧ win1_10.index t = ![0, 0] ∧ win1_11.index t = ![0, 0]
    ∧ win1_12.index t = ![0, 0] := ⟨rfl, rfl, rfl, rfl, rfl, rfl, rfl, rfl, rfl, rfl, rfl⟩
  obtain ⟨e2, e3, e4, e5, e6, e7, e8, e9, e10, e11, e12⟩ := e2
  show out1 V d t y = pipeAt (N := 32768) (V d) (V d (Proc.devRef .tc main_v23)) (V d (Proc.devRef .tc main_v22)) ((win1_13.blk t).view.emb y)
  refine mlpOut_point (b := t.val) ?_ ?_ ?_ ?_ ?_ ?_ ?_ ?_ ?_ ?_ ?_ (fun k n n' h => ?_) (fun k n n' h => ?_) ?_ ?_
  rotate_right 4
  · exact (MapDat.staged_read d (arrs1 V d) 0 t (ix2 k n)).trans (congrArg (V d _) (by blk_ext [e0]))
  · exact (MapDat.staged_read d (arrs1 V d) 1 t (ix2 n k)).trans (congrArg (V d _) (by blk_ext [e1]))
  · blk_simp [e13]
  · blk_simp [e13]
  all_goals
    exact funext fun x => (MapDat.staged_read d (arrs1 V d) _ t x).trans
      (congrArg (V d _) (by blk_ext [e2, e3, e4, e5, e6, e7, e8, e9, e10, e11, e12]))

set_option maxHeartbeats 4000000 in
/-- The output of pipeline 1. -/
theorem arr3 : (dat3 V O B d).arrAt 13 cfg3.N
    = pipeAt (N := 98304) (V d) (V d (Proc.devRef .tc main_v28)) (V d (Proc.devRef .tc main_v27)) := by
  refine (dat3 V O B d).arrAt_eq_of_covers 13 _ (by decide +kernel) fun t hf y => ?_
  have e0 : win3_0.index t = ![0, t.val] := (by decide +kernel : ∀ t : Fin cfg3.N, win3_0.index t = ![0, t.val]) t
  have e1 : win3_1.index t = ![t.val, 0] := (by decide +kernel : ∀ t : Fin cfg3.N, win3_1.index t = ![t.val, 0]) t
  have e13 : win3_13.index t = ![0, t.val] := (by decide +kernel : ∀ t : Fin cfg3.N, win3_13.index t = ![0, t.val]) t
  have e2 : win3_2.index t = ![0, 0] ∧ win3_3.index t = ![0, 0] ∧ win3_4.index t = ![0, 0] ∧ win3_5.index t = ![0, 0] ∧ win3_6.index t = ![0, 0]
    ∧ win3_7.index t = ![0, 0] ∧ win3_8.index t = ![0, 0] ∧ win3_9.index t = ![0, 0] ∧ win3_10.index t = ![0, 0] ∧ win3_11.index t = ![0, 0]
    ∧ win3_12.index t = ![0, 0] := ⟨rfl, rfl, rfl, rfl, rfl, rfl, rfl, rfl, rfl, rfl, rfl⟩
  obtain ⟨e2, e3, e4, e5, e6, e7, e8, e9, e10, e11, e12⟩ := e2
  show out3 V d t y = pipeAt (N := 98304) (V d) (V d (Proc.devRef .tc main_v28)) (V d (Proc.devRef .tc main_v27)) ((win3_13.blk t).view.emb y)
  refine mlpOut_point (b := t.val) ?_ ?_ ?_ ?_ ?_ ?_ ?_ ?_ ?_ ?_ ?_ (fun k n n' h => ?_) (fun k n n' h => ?_) ?_ ?_
  rotate_right 4
  · exact (MapDat.staged_read d (arrs3 V d) 0 t (ix2 k n)).trans (congrArg (V d _) (by blk_ext [e0]))
  · exact (MapDat.staged_read d (arrs3 V d) 1 t (ix2 n k)).trans (congrArg (V d _) (by blk_ext [e1]))
  · blk_simp [e13]
  · blk_simp [e13]
  all_goals
    exact funext fun x => (MapDat.staged_read d (arrs3 V d) _ t x).trans
      (congrArg (V d _) (by blk_ext [e2, e3, e4, e5, e6, e7, e8, e9, e10, e11, e12]))

set_option maxHeartbeats 4000000 in
/-- The output of pipeline 2. -/
theorem arr5 : (dat5 V O B d).arrAt 13 cfg5.N
    = pipeAt (N := 196608) (V d) (V d (Proc.devRef .tc main_v33)) (V d (Proc.devRef .tc main_v32)) := by
  refine (dat5 V O B d).arrAt_eq_of_covers 13 _ (by decide +kernel) fun t hf y => ?_
  have e0 : win5_0.index t = ![0, t.val] := (by decide +kernel : ∀ t : Fin cfg5.N, win5_0.index t = ![0, t.val]) t
  have e1 : win5_1.index t = ![t.val, 0] := (by decide +kernel : ∀ t : Fin cfg5.N, win5_1.index t = ![t.val, 0]) t
  have e13 : win5_13.index t = ![0, t.val] := (by decide +kernel : ∀ t : Fin cfg5.N, win5_13.index t = ![0, t.val]) t
  have e2 : win5_2.index t = ![0, 0] ∧ win5_3.index t = ![0, 0] ∧ win5_4.index t = ![0, 0] ∧ win5_5.index t = ![0, 0] ∧ win5_6.index t = ![0, 0]
    ∧ win5_7.index t = ![0, 0] ∧ win5_8.index t = ![0, 0] ∧ win5_9.index t = ![0, 0] ∧ win5_10.index t = ![0, 0] ∧ win5_11.index t = ![0, 0]
    ∧ win5_12.index t = ![0, 0] := ⟨rfl, rfl, rfl, rfl, rfl, rfl, rfl, rfl, rfl, rfl, rfl⟩
  obtain ⟨e2, e3, e4, e5, e6, e7, e8, e9, e10, e11, e12⟩ := e2
  show out5 V d t y = pipeAt (N := 196608) (V d) (V d (Proc.devRef .tc main_v33)) (V d (Proc.devRef .tc main_v32)) ((win5_13.blk t).view.emb y)
  refine mlpOut_point (b := t.val) ?_ ?_ ?_ ?_ ?_ ?_ ?_ ?_ ?_ ?_ ?_ (fun k n n' h => ?_) (fun k n n' h => ?_) ?_ ?_
  rotate_right 4
  · exact (MapDat.staged_read d (arrs5 V d) 0 t (ix2 k n)).trans (congrArg (V d _) (by blk_ext [e0]))
  · exact (MapDat.staged_read d (arrs5 V d) 1 t (ix2 n k)).trans (congrArg (V d _) (by blk_ext [e1]))
  · blk_simp [e13]
  · blk_simp [e13]
  all_goals
    exact funext fun x => (MapDat.staged_read d (arrs5 V d) _ t x).trans
      (congrArg (V d _) (by blk_ext [e2, e3, e4, e5, e6, e7, e8, e9, e10, e11, e12]))

set_option maxHeartbeats 4000000 in
/-- The output of pipeline 3. -/
theorem arr7 : (dat7 V O B d).arrAt 13 cfg7.N
    = pipeAt (N := 196608) (V d) (V d (Proc.devRef .tc main_v38)) (V d (Proc.devRef .tc main_v37)) := by
  refine (dat7 V O B d).arrAt_eq_of_covers 13 _ (by decide +kernel) fun t hf y => ?_
  have e0 : win7_0.index t = ![0, t.val] := (by decide +kernel : ∀ t : Fin cfg7.N, win7_0.index t = ![0, t.val]) t
  have e1 : win7_1.index t = ![t.val, 0] := (by decide +kernel : ∀ t : Fin cfg7.N, win7_1.index t = ![t.val, 0]) t
  have e13 : win7_13.index t = ![0, t.val] := (by decide +kernel : ∀ t : Fin cfg7.N, win7_13.index t = ![0, t.val]) t
  have e2 : win7_2.index t = ![0, 0] ∧ win7_3.index t = ![0, 0] ∧ win7_4.index t = ![0, 0] ∧ win7_5.index t = ![0, 0] ∧ win7_6.index t = ![0, 0]
    ∧ win7_7.index t = ![0, 0] ∧ win7_8.index t = ![0, 0] ∧ win7_9.index t = ![0, 0] ∧ win7_10.index t = ![0, 0] ∧ win7_11.index t = ![0, 0]
    ∧ win7_12.index t = ![0, 0] := ⟨rfl, rfl, rfl, rfl, rfl, rfl, rfl, rfl, rfl, rfl, rfl⟩
  obtain ⟨e2, e3, e4, e5, e6, e7, e8, e9, e10, e11, e12⟩ := e2
  show out7 V d t y = pipeAt (N := 196608) (V d) (V d (Proc.devRef .tc main_v38)) (V d (Proc.devRef .tc main_v37)) ((win7_13.blk t).view.emb y)
  refine mlpOut_point (b := t.val) ?_ ?_ ?_ ?_ ?_ ?_ ?_ ?_ ?_ ?_ ?_ (fun k n n' h => ?_) (fun k n n' h => ?_) ?_ ?_
  rotate_right 4
  · exact (MapDat.staged_read d (arrs7 V d) 0 t (ix2 k n)).trans (congrArg (V d _) (by blk_ext [e0]))
  · exact (MapDat.staged_read d (arrs7 V d) 1 t (ix2 n k)).trans (congrArg (V d _) (by blk_ext [e1]))
  · blk_simp [e13]
  · blk_simp [e13]
  all_goals
    exact funext fun x => (MapDat.staged_read d (arrs7 V d) _ t x).trans
      (congrArg (V d _) (by blk_ext [e2, e3, e4, e5, e6, e7, e8, e9, e10, e11, e12]))

end Cert.Proof.KI

end
-- ==== Proof.HostVal.lean ====
/-
  What @main's first host operations leave, over the extended reals: the operands of the calls, read at an index.
-/
module

public import proofs.«01_k».proof.Proof.Args
public import Idealize.ShloMosaic.Lib.Pointwise

@[expose] public section

noncomputable section

namespace Cert.Proof.KI

open Cert.KernelIdeal Cert.KernelIdeal.Gen
open Idealize.ShloMosaic

variable (m : (ℓ : Loc nD τ sig) → Buf (Elt Ideal) ℓ) (d : Dev nD)

section Args

/-- The arguments, as arrays. -/
abbrev x0 : FVec Ideal S524288x2 .f32 := V0 m d (Proc.devRef .tc main_arg0)
abbrev x1 : IVec S524288 32 := V0 m d (Proc.devRef .tc main_arg1)
abbrev x2 : FVec Ideal S1024x64 .f32 := V0 m d (Proc.devRef .tc main_arg2)
abbrev x3 : FVec Ideal S66x256 .f32 := V0 m d (Proc.devRef .tc main_arg3)
abbrev x4 : FVec Ideal S256 .f32 := V0 m d (Proc.devRef .tc main_arg4)
abbrev x5 : FVec Ideal S256x256 .f32 := V0 m d (Proc.devRef .tc main_arg5)
abbrev x6 : FVec Ideal S256 .f32 := V0 m d (Proc.devRef .tc main_arg6)
abbrev x7 : FVec Ideal S256x256 .f32 := V0 m d (Proc.devRef .tc main_arg7)
abbrev x8 : FVec Ideal S256 .f32 := V0 m d (Proc.devRef .tc main_arg8)
abbrev x9 : FVec Ideal S256x256 .f32 := V0 m d (Proc.devRef .tc main_arg9)
abbrev x10 : FVec Ideal S256 .f32 := V0 m d (Proc.devRef .tc main_arg10)
abbrev x11 : FVec Ideal S256x3 .f32 := V0 m d (Proc.devRef .tc main_arg11)
abbrev x12 : FVec Ideal S3 .f32 := V0 m d (Proc.devRef .tc main_arg12)

end Args

/-! ## The padded table and the padded weights -/

theorem v1_v0 : V1 m d (Proc.devRef .tc main_v0)
    = pad S1024x128 ![0, 0] ![0, 64] ![0, 0] (x2 m d) (sitofp .f32 (constantI S_ 32 0#32)) pads_S1024x64_S1024x128_000_0640 h_S_ := by
  unfold V1
  after_reads_simp
  rfl

theorem v1_v5 : V1 m d (Proc.devRef .tc main_v5)
    = (truncf .bf16 (pad S128x256 ![0, 0] ![64, 0] ![0, 0] (extractStridedSlice S64x256 ![2, 0] (x3 m d) slices_S66x256_S64x256_2_0)
        (sitofp .f32 (constantI S_ 32 0#32) : FVec Ideal S_ .f32) pads_S64x256_S128x256_0640_000 h_S_) bitsLt_bf16_f32 : FVec Ideal S128x256 .bf16) := by
  unfold V1
  after_reads_simp
  rfl

theorem v1_v2 : V1 m d (Proc.devRef .tc main_v2)
    = (truncf .bf16 (extractStridedSlice S2x256 ![0, 0] (x3 m d) slices_S66x256_S2x256_0_0) bitsLt_bf16_f32 : FVec Ideal S2x256 .bf16) := by
  unfold V1
  after_reads_simp

theorem v1_v19 : V1 m d (Proc.devRef .tc main_v19) = transpose S2x524288 [1, 0] (x0 m d) transposes_S524288x2_S2x524288_1_0 := by
  unfold V1
  after_reads_simp

/-- The zero the tables are padded with. -/
theorem pad_zero (i : S_.Idx) : (sitofp .f32 (constantI S_ 32 0#32) : FVec Ideal S_ .f32) i = 0 := by
  show (((0#32 : BitVec 32).toInt : ℝ) : EReal) = 0
  simp

theorem v0_lo (r : Fin 1024) (k : Fin 64) : V1 m d (Proc.devRef .tc main_v0) (ix2 r (k.castAdd 64)) = x2 m d (ix2 r k) := by
  rw [v1_v0]
  pointwise
  rw [dif_pos (show (Fin.castAdd 64 k).val < 64 from k.isLt)]
  rfl

theorem v0_hi (r : Fin 1024) (k : Fin 64) : @Eq EReal (V1 m d (Proc.devRef .tc main_v0) (ix2 r (k.natAdd 64))) 0 := by
  rw [v1_v0]
  pointwise
  rw [dif_neg (by show ¬64 + k.val < 64; omega)]
  exact pad_zero (Shape.Idx.first h_S_)

theorem v5_lo (k : Fin 64) (q : Fin 256) : V1 m d (Proc.devRef .tc main_v5) (ix2 (k.castAdd 64) q) = x3 m d (ix2 (k.natAdd 2) q) := by
  rw [v1_v5]
  pointwise
  rw [dif_pos (show (Fin.castAdd 64 k).val < 64 from k.isLt)]
  rfl

theorem v2_at (k : Fin 2) (q : Fin 256) : V1 m d (Proc.devRef .tc main_v2) (ix2 k q) = x3 m d (ix2 (k.castAdd 64) q) := by
  rw [v1_v2]
  pointwise
  rfl

theorem v19_at (k : Fin 2) (n : Fin 524288) : V1 m d (Proc.devRef .tc main_v19) (ix2 k n) = x0 m d (ix2 n k) := by
  rw [v1_v19]
  pointwise

/-! ## The later layers' weights and biases -/

theorem v8_at (k q : Fin 256) : V1 m d (Proc.devRef .tc main_v8) (ix2 k q) = x5 m d (ix2 k q) := by
  unfold V1
  after_reads_simp
  rfl

theorem v11_at (k q : Fin 256) : V1 m d (Proc.devRef .tc main_v11) (ix2 k q) = x7 m d (ix2 k q) := by
  unfold V1
  after_reads_simp
  rfl

theorem v14_at (k q : Fin 256) : V1 m d (Proc.devRef .tc main_v14) (ix2 k q) = x9 m d (ix2 k q) := by
  unfold V1
  after_reads_simp
  rfl

theorem v17_at (k : Fin 256) (q : Fin 3) : V1 m d (Proc.devRef .tc main_v17) (ix2 k q) = x11 m d (ix2 k q) := by
  unfold V1
  after_reads_simp
  rfl

/-- A bias as a row, read at a column. -/
theorem row_at (x : FVec Ideal S256 .f32) (q : Fin 256) : shapeCast S1x256 x shapeCasts_S256_S1x256 (ix2 0 q) = x (ix1 q) := by
  pointwise

theorem v7_at (q : Fin 256) : V1 m d (Proc.devRef .tc main_v7) (ix2 0 q) = x4 m d (ix1 q) := by
  unfold V1
  after_reads_simp
  exact row_at _ q

theorem v10_at (q : Fin 256) : V1 m d (Proc.devRef .tc main_v10) (ix2 0 q) = x6 m d (ix1 q) := by
  unfold V1
  after_reads_simp
  exact row_at _ q

theorem v13_at (q : Fin 256) : V1 m d (Proc.devRef .tc main_v13) (ix2 0 q) = x8 m d (ix1 q) := by
  unfold V1
  after_reads_simp
  exact row_at _ q

theorem v16_at (q : Fin 256) : V1 m d (Proc.devRef .tc main_v16) (ix2 0 q) = x10 m d (ix1 q) := by
  unfold V1
  after_reads_simp
  exact row_at _ q

theorem col_at (x : FVec Ideal S3 .f32) (q : Fin 3) : shapeCast S3x1 x shapeCasts_S3_S3x1 (ix2 q 0) = x (ix1 q) := by
  pointwise

theorem v18_at (q : Fin 3) : V1 m d (Proc.devRef .tc main_v18) (ix2 q 0) = x12 m d (ix1 q) := by
  unfold V1
  after_reads_simp
  exact col_at _ q

end Cert.Proof.KI

end
-- ==== Proof.Segment.lean ====
/-
  What each pipeline leaves, over the extended reals, read at a column: the network at the row of that number.
-/
module

public import proofs.«01_k».proof.Proof.PipeVal
public import proofs.«01_k».proof.Proof.HostVal

@[expose] public section

noncomputable section

namespace Cert.Proof.Tile

open Idealize.ShloMosaic

/-- The rows gathered at row numbers cut out of one list from place `b` on: row `x` is the table's row of number `b + x`. -/
theorem gath_cut {n rows b : ℕ} (hn : 0 < n) (hrows : rows = 4096 * n) (tb : (Sh2 1024 128).Idx → EReal)
    (a1 : (Sh1 524288).Idx → BitVec 32) (hs : (Sh1 524288).Slices ![b] (Sh1 rows)) (hc : (Sh1 rows).ShapeCasts (Sh3 32 n 128))
    (x : Fin rows) (k : Fin 128) (y : Fin 524288) (hy : y.val = b + x.val) :
    gath (F := Ideal) hn hrows tb (shapeCast (Sh3 32 n 128) (extractStridedSlice (Sh1 rows) ![b] a1 hs) hc) (ix2 x k)
      = tb (ix2 (Fin.ofNat 1024 (a1 (ix1 y)).toNat) k) := by
  unfold gath
  refine congrArg tb (congrArg (fun v : BitVec 32 => (ix2 (Fin.ofNat 1024 v.toNat) k : (Sh2 1024 128).Idx)) ?_)
  refine (shapeCast_apply _ hc _ (ix1 x) ?_).trans (congrArg a1 ?_)
  · rw [Shape.rowMajor_val_three, Shape.rowMajor_val_one]
    show x.val = (x.val / (128 * n) * n + x.val / 128 % n) * 128 + x.val % 128
    have h1 := Nat.div_add_mod (x.val / 128) n
    have h2 := Nat.div_add_mod x.val 128
    rw [Nat.div_div_eq_div_mul, Nat.mul_comm n] at h1
    omega
  · funext a
    obtain rfl : a = 0 := Subsingleton.elim _ _
    exact Fin.ext hy.symm

end Cert.Proof.Tile

namespace Cert.Proof.KI

open Cert.KernelIdeal Cert.KernelIdeal.Gen
open Idealize.ShloMosaic

variable (m : (ℓ : Loc nD τ sig) → Buf (Elt Ideal) ℓ) (d : Dev nD)

/-- The network at a row of the arguments. -/
abbrev netAt (n : Fin 524288) (j : Fin 3) : EReal :=
  rowNet (x0 m d) (x1 m d) (x2 m d) (x3 m d) (x4 m d) (x5 m d) (x6 m d) (x7 m d) (x8 m d) (x9 m d) (x10 m d) (x11 m d) (x12 m d) n j

/-- The sum over 128 places of products whose first factors are 0 in the last 64: the sum over the first 64. -/
theorem padded_sum (E W : Fin 128 → EReal) (e w : Fin 64 → EReal) (h0 : ∀ k : Fin 64, E (k.natAdd 64) = 0) (h1 : ∀ k : Fin 64, E (k.castAdd 64) = e k)
    (h2 : ∀ k : Fin 64, W (k.castAdd 64) = w k) : (∑ k, E k * W k) = ∑ k, e k * w k := by
  refine (Fin.sum_univ_add (a := 64) (b := 64) (fun k : Fin 128 => E k * W k)).trans ?_
  rw [Finset.sum_eq_zero (s := Finset.univ) (f := fun k : Fin 64 => E (k.natAdd 64) * W (k.natAdd 64))
    (fun k _ => by rw [h0]; exact zero_mul _), add_zero]
  exact Finset.sum_congr rfl fun k _ => congrArg₂ (· * ·) (h1 k) (h2 k)

/-- The network of equal weights at equal inputs. -/
theorem net_congr {p p' : Fin 256 → EReal} {b1 b1' : Fin 256 → EReal} {W2 W2' : Fin 256 → Fin 256 → EReal} {b2 b2' : Fin 256 → EReal}
    {W3 W3' : Fin 256 → Fin 256 → EReal} {b3 b3' : Fin 256 → EReal} {W4 W4' : Fin 256 → Fin 256 → EReal} {b4 b4' : Fin 256 → EReal}
    {W5 W5' : Fin 256 → Fin 3 → EReal} {b5 b5' : Fin 3 → EReal} (h0 : ∀ q, p q = p' q) (h1 : ∀ q, b1 q = b1' q) (h2 : ∀ k q, W2 k q = W2' k q)
    (h3 : ∀ q, b2 q = b2' q) (h4 : ∀ k q, W3 k q = W3' k q) (h5 : ∀ q, b3 q = b3' q) (h6 : ∀ k q, W4 k q = W4' k q) (h7 : ∀ q, b4 q = b4' q)
    (h8 : ∀ k q, W5 k q = W5' k q) (h9 : ∀ q, b5 q = b5' q) : net p b1 W2 b2 W3 b3 W4 b4 W5 b5 = net p' b1' W2' b2' W3' b3' W4' b4' W5' b5' := by
  obtain rfl := funext h0
  obtain rfl := funext h1
  obtain rfl := funext fun k => funext (h2 k)
  obtain rfl := funext h3
  obtain rfl := funext fun k => funext (h4 k)
  obtain rfl := funext h5
  obtain rfl := funext fun k => funext (h6 k)
  obtain rfl := funext h7
  obtain rfl := funext fun k => funext (h8 k)
  obtain rfl := funext h9
  rfl

/-- A pipeline whose column `n` and gathered row `n` are those of row `y` leaves, in column `n`, the network at row `y`. -/
theorem pipeAt_row {N : ℕ} (f : Valuation τ sig (Elt Ideal)) (hf : ∀ {r : Ref sig .tc}, r ∉ late → f (Proc.devRef .tc r) = V1 m d (Proc.devRef .tc r))
    (X : (⟨2, ![2, N]⟩ : Shape).Idx → EReal) (E : (⟨2, ![N, 128]⟩ : Shape).Idx → EReal) (n : Fin N) (y : Fin 524288)
    (hX : ∀ k, X (ix2 k n) = x0 m d (ix2 y k))
    (hE : ∀ k, E (ix2 n k) = V1 m d (Proc.devRef .tc main_v0) (ix2 (Fin.ofNat 1024 (x1 m d (ix1 y)).toNat) k)) (j : Fin 3) :
    pipeAt f X E (ix2 j n) = netAt m d y j := by
  unfold pipeAt pipeOut netAt rowNet
  rw [hf (r := main_v2) (by decide), hf (r := main_v5) (by decide), hf (r := main_v7) (by decide), hf (r := main_v8) (by decide),
    hf (r := main_v10) (by decide), hf (r := main_v11) (by decide), hf (r := main_v13) (by decide), hf (r := main_v14) (by decide),
    hf (r := main_v16) (by decide), hf (r := main_v17) (by decide), hf (r := main_v18) (by decide)]
  refine congrArg (fun p => p j) (net_congr (fun q => congrArg₂ (· + ·)
      (Finset.sum_congr rfl fun k _ => congrArg₂ (· * ·) (hX k) (v2_at m d k q)) ?_)
    (fun q => v7_at m d q) (fun k q => v8_at m d k q) (fun q => v10_at m d q) (fun k q => v11_at m d k q) (fun q => v13_at m d q)
    (fun k q => v14_at m d k q) (fun q => v16_at m d q) (fun k q => v17_at m d k q) (fun q => v18_at m d q))
  exact padded_sum (fun k => E (ix2 n k)) (fun k => V1 m d (Proc.devRef .tc main_v5) (ix2 k q)) _ _ (fun k => (hE _).trans (v0_hi m d _ k))
    (fun k => (hE _).trans (v0_lo m d _ k)) (fun k => v5_lo m d k q)

/-! ### The first pipeline: rows 0 to 32767 -/

/-- Its first operand is a stretch of the coordinates. -/
theorem x_v23 (k : Fin 2) (n : Fin 32768) (y : Fin 524288) (hy : y.val = 0 + n.val) :
    V3 m d (Proc.devRef .tc main_v23) (ix2 k n) = x0 m d (ix2 y k) := by
  have e : V3 m d (Proc.devRef .tc main_v23)
      = extractStridedSlice S2x32768 ![0, 0] (V2 m d (Proc.devRef .tc main_v19)) slices_S2x524288_S2x32768_0_0 := by
    unfold V3
    after_reads_simp
  rw [e, s2 m d (r := main_v19) (by decide)]
  refine Eq.trans (congrArg (V1 m d (Proc.devRef .tc main_v19)) ?_) (v19_at m d k y)
  funext a
  fin_cases a
  · exact Fin.ext (Nat.zero_add _)
  · exact Fin.ext hy.symm

/-- Its second operand is the rows gathered at that stretch's row numbers. -/
theorem e_v22 (k : Fin 128) (n : Fin 32768) (y : Fin 524288) (hy : y.val = 0 + n.val) :
    V3 m d (Proc.devRef .tc main_v22) (ix2 n k)
      = V1 m d (Proc.devRef .tc main_v0) (ix2 (Fin.ofNat 1024 (x1 m d (ix1 y)).toNat) k) := by
  have e : V3 m d (Proc.devRef .tc main_v22) = rows0 d (V1 m d (Proc.devRef .tc main_v0)) (V1 m d (Proc.devRef .tc main_v21)) :=
    (s3 m d (by decide)).trans (put_self _ main_v22 _)
  rw [e, v1_v21]
  exact Tile.gath_cut (n := 8) (rows := 32768) (b := 0) (by decide) rfl _ (x1 m d) _ _ n k y hy

/-- What it leaves is the network at those rows. -/
theorem o_v24 (j : Fin 3) (n : Fin 32768) (y : Fin 524288) (hy : y.val = 0 + n.val) :
    V4 m d (Proc.devRef .tc main_v24) (ix2 j n) = netAt m d y j := by
  have e : V4 m d (Proc.devRef .tc main_v24)
      = pipeAt (N := 32768) (V3 m d) (V3 m d (Proc.devRef .tc main_v23)) (V3 m d (Proc.devRef .tc main_v22)) :=
    (put_self _ main_v24 _).trans (arr1 (V3 m) _ _ d)
  rw [e]
  exact pipeAt_row m d (V3 m d) (fun h => at3 m d h) _ _ n y (fun k => x_v23 m d k n y hy) (fun k => e_v22 m d k n y hy) j

/-! ### The second pipeline: rows 32768 to 131071 -/

/-- Its first operand is a stretch of the coordinates. -/
theorem x_v28 (k : Fin 2) (n : Fin 98304) (y : Fin 524288) (hy : y.val = 32768 + n.val) :
    V7 m d (Proc.devRef .tc main_v28) (ix2 k n) = x0 m d (ix2 y k) := by
  have e : V7 m d (Proc.devRef .tc main_v28)
      = extractStridedSlice S2x98304 ![0, 32768] (V6 m d (Proc.devRef .tc main_v19)) slices_S2x524288_S2x98304_0_32768 := by
    unfold V7
    after_reads_simp
  rw [e, s6 m d (r := main_v19) (by decide), at5 m d (r := main_v19) (by decide)]
  refine Eq.trans (congrArg (V1 m d (Proc.devRef .tc main_v19)) ?_) (v19_at m d k y)
  funext a
  fin_cases a
  · exact Fin.ext (Nat.zero_add _)
  · exact Fin.ext hy.symm

/-- Its second operand is the rows gathered at that stretch's row numbers. -/
theorem e_v27 (k : Fin 128) (n : Fin 98304) (y : Fin 524288) (hy : y.val = 32768 + n.val) :
    V7 m d (Proc.devRef .tc main_v27) (ix2 n k)
      = V1 m d (Proc.devRef .tc main_v0) (ix2 (Fin.ofNat 1024 (x1 m d (ix1 y)).toNat) k) := by
  have e : V7 m d (Proc.devRef .tc main_v27) = rows1 d (V5 m d (Proc.devRef .tc main_v0)) (V5 m d (Proc.devRef .tc main_v26)) :=
    (s7 m d (by decide)).trans (put_self _ main_v27 _)
  rw [e, v5_v26, at5 m d (r := main_v0) (by decide)]
  exact Tile.gath_cut (n := 24) (rows := 98304) (b := 32768) (by decide) rfl _ (x1 m d) _ _ n k y hy

/-- What it leaves is the network at those rows. -/
theorem o_v29 (j : Fin 3) (n : Fin 98304) (y : Fin 524288) (hy : y.val = 32768 + n.val) :
    V8 m d (Proc.devRef .tc main_v29) (ix2 j n) = netAt m d y j := by
  have e : V8 m d (Proc.devRef .tc main_v29)
      = pipeAt (N := 98304) (V7 m d) (V7 m d (Proc.devRef .tc main_v28)) (V7 m d (Proc.devRef .tc main_v27)) :=
    (put_self _ main_v29 _).trans (arr3 (V7 m) _ _ d)
  rw [e]
  exact pipeAt_row m d (V7 m d) (fun h => at7 m d h) _ _ n y (fun k => x_v28 m d k n y hy) (fun k => e_v27 m d k n y hy) j

/-! ### The third pipeline: rows 131072 to 327679 -/

/-- Its first operand is a stretch of the coordinates. -/
theorem x_v33 (k : Fin 2) (n : Fin 196608) (y : Fin 524288) (hy : y.val = 131072 + n.val) :
    V11 m d (Proc.devRef .tc main_v33) (ix2 k n) = x0 m d (ix2 y k) := by
  have e : V11 m d (Proc.devRef .tc main_v33)
      = extractStridedSlice S2x196608 ![0, 131072] (V10 m d (Proc.devRef .tc main_v19)) slices_S2x524288_S2x196608_0_131072 := by
    unfold V11
    after_reads_simp
  rw [e, s10 m d (r := main_v19) (by decide), at9 m d (r := main_v19) (by decide)]
  refine Eq.trans (congrArg (V1 m d (Proc.devRef .tc main_v19)) ?_) (v19_at m d k y)
  funext a
  fin_cases a
  · exact Fin.ext (Nat.zero_add _)
  · exact Fin.ext hy.symm

/-- Its second operand is the rows gathered at that stretch's row numbers. -/
theorem e_v32 (k : Fin 128) (n : Fin 196608) (y : Fin 524288) (hy : y.val = 131072 + n.val) :
    V11 m d (Proc.devRef .tc main_v32) (ix2 n k)
      = V1 m d (Proc.devRef .tc main_v0) (ix2 (Fin.ofNat 1024 (x1 m d (ix1 y)).toNat) k) := by
  have e : V11 m d (Proc.devRef .tc main_v32) = rows2 d (V9 m d (Proc.devRef .tc main_v0)) (V9 m d (Proc.devRef .tc main_v31)) :=
    (s11 m d (by decide)).trans (put_self _ main_v32 _)
  rw [e, v9_v31, at9 m d (r := main_v0) (by decide)]
  exact Tile.gath_cut (n := 48) (rows := 196608) (b := 131072) (by decide) rfl _ (x1 m d) _ _ n k y hy

/-- What it leaves is the network at those rows. -/
theorem o_v34 (j : Fin 3) (n : Fin 196608) (y : Fin 524288) (hy : y.val = 131072 + n.val) :
    V12 m d (Proc.devRef .tc main_v34) (ix2 j n) = netAt m d y j := by
  have e : V12 m d (Proc.devRef .tc main_v34)
      = pipeAt (N := 196608) (V11 m d) (V11 m d (Proc.devRef .tc main_v33)) (V11 m d (Proc.devRef .tc main_v32)) :=
    (put_self _ main_v34 _).trans (arr5 (V11 m) _ _ d)
  rw [e]
  exact pipeAt_row m d (V11 m d) (fun h => at11 m d h) _ _ n y (fun k => x_v33 m d k n y hy) (fun k => e_v32 m d k n y hy) j

/-! ### The fourth pipeline: rows 327680 to 524287 -/

/-- Its first operand is a stretch of the coordinates. -/
theorem x_v38 (k : Fin 2) (n : Fin 196608) (y : Fin 524288) (hy : y.val = 327680 + n.val) :
    V15 m d (Proc.devRef .tc main_v38) (ix2 k n) = x0 m d (ix2 y k) := by
  have e : V15 m d (Proc.devRef .tc main_v38)
      = extractStridedSlice S2x196608 ![0, 327680] (V14 m d (Proc.devRef .tc main_v19)) slices_S2x524288_S2x196608_0_327680 := by
    unfold V15
    after_reads_simp
  rw [e, s14 m d (r := main_v19) (by decide), at13 m d (r := main_v19) (by decide)]
  refine Eq.trans (congrArg (V1 m d (Proc.devRef .tc main_v19)) ?_) (v19_at m d k y)
  funext a
  fin_cases a
  · exact Fin.ext (Nat.zero_add _)
  · exact Fin.ext hy.symm

/-- Its second operand is the rows gathered at that stretch's row numbers. -/
theorem e_v37 (k : Fin 128) (n : Fin 196608) (y : Fin 524288) (hy : y.val = 327680 + n.val) :
    V15 m d (Proc.devRef .tc main_v37) (ix2 n k)
      = V1 m d (Proc.devRef .tc main_v0) (ix2 (Fin.ofNat 1024 (x1 m d (ix1 y)).toNat) k) := by
  have e : V15 m d (Proc.devRef .tc main_v37) = rows3 d (V13 m d (Proc.devRef .tc main_v0)) (V13 m d (Proc.devRef .tc main_v36)) :=
    (s15 m d (by decide)).trans (put_self _ main_v37 _)
  rw [e, v13_v36, at13 m d (r := main_v0) (by decide)]
  exact Tile.gath_cut (n := 48) (rows := 196608) (b := 327680) (by decide) rfl _ (x1 m d) _ _ n k y hy

/-- What it leaves is the network at those rows. -/
theorem o_v39 (j : Fin 3) (n : Fin 196608) (y : Fin 524288) (hy : y.val = 327680 + n.val) :
    V16 m d (Proc.devRef .tc main_v39) (ix2 j n) = netAt m d y j := by
  have e : V16 m d (Proc.devRef .tc main_v39)
      = pipeAt (N := 196608) (V15 m d) (V15 m d (Proc.devRef .tc main_v38)) (V15 m d (Proc.devRef .tc main_v37)) :=
    (put_self _ main_v39 _).trans (arr7 (V15 m) _ _ d)
  rw [e]
  exact pipeAt_row m d (V15 m d) (fun h => at15 m d h) _ _ n y (fun k => x_v38 m d k n y hy) (fun k => e_v37 m d k n y hy) j

end Cert.Proof.KI

end
-- ==== Proof.Place.lean ====
/-
  A block of columns written into a wider array, read at a column.
-/
module

public import Idealize.ShloMosaic.Lib.Pointwise
public import Idealize.ShloMosaic.Lib.ValueLayout

@[expose] public section

noncomputable section

namespace Cert.Proof.Place

open Idealize.ShloMosaic

variable {α : Type} {M N b : ℕ} (x : (⟨2, ![3, M]⟩ : Shape).Idx → α) (u : (⟨2, ![3, N]⟩ : Shape).Idx → α) (start : Fin 2 → Int)
  (h : (⟨2, ![3, M]⟩ : Shape).Slices (fun _ => 0) ⟨2, ![3, N]⟩) (h0 : start 0 = 0) (h1 : start 1 = (b : ℕ)) (hb : b + N ≤ M)

include h0 h1 hb

/-- The block starts where it is told to. -/
theorem starts : Host.clampedStart (⟨2, ![3, M]⟩ : Shape) ⟨2, ![3, N]⟩ h.1 start 0 = 0
    ∧ Host.clampedStart (⟨2, ![3, M]⟩ : Shape) ⟨2, ![3, N]⟩ h.1 start 1 = b :=
  ⟨Host.clampedStart_of_le h.1 start 0 0 h0 (Nat.zero_add _).le, Host.clampedStart_of_le h.1 start 1 b h1 hb⟩

/-- Inside the block: the block's column. -/
theorem inside (j : Fin 3) (c : Fin M) (n : Fin N) (hc : c.val = b + n.val) :
    Host.dynamicUpdateSlice x u start h (ix2 j c) = u (ix2 j n) := by
  obtain ⟨e0, e1⟩ := starts start h h0 h1 hb
  have hj := j.isLt
  have hn := n.isLt
  rw [Host.dynamicUpdateSlice_apply, dif_pos]
  · refine congrArg u (funext fun a => Fin.ext ?_)
    match a with
    | 0 => show j.val - Host.clampedStart _ _ h.1 start 0 = j.val; rw [e0]; omega
    | 1 => show c.val - Host.clampedStart _ _ h.1 start 1 = n.val; rw [e1]; omega
  · intro a
    match a with
    | 0 => rw [show Host.clampedStart _ _ h.1 start 0 = 0 from e0]; exact ⟨Nat.zero_le _, show j.val < 0 + 3 by omega⟩
    | 1 => rw [show Host.clampedStart _ _ h.1 start 1 = b from e1]; exact ⟨show b ≤ c.val by omega, show c.val < b + N by omega⟩

/-- Outside it: the array's. -/
theorem outside (j : Fin 3) (c : Fin M) (hc : c.val < b ∨ b + N ≤ c.val) :
    Host.dynamicUpdateSlice x u start h (ix2 j c) = x (ix2 j c) := by
  obtain ⟨e0, e1⟩ := starts start h h0 h1 hb
  rw [Host.dynamicUpdateSlice_apply, dif_neg]
  intro hin
  have := hin 1
  rw [e1] at this
  have h2 : b ≤ c.val ∧ c.val < b + N := this
  omega

end Cert.Proof.Place

end
-- ==== Proof.RefVal.lean ====
/-
  The reference's result, over the extended reals, read at an index: the network at each row.
-/
module

public import proofs.«01_k».proof.Proof.Net
public import proofs.«01_k».proof.ReferenceIdeal
public import proofs.«01_k».proof.Proof.Gen.ReferenceIdeal
public import proofs.«01_k».proof.Proof.Gen.ReferenceIdeal.Run
public import Idealize.ShloMosaic.Lib.ReduceAll
public import Idealize.ShloMosaic.Lib.Routing.Ops

@[expose] public section

noncomputable section

namespace Cert.Proof.Ref

open Idealize.ShloMosaic Cert.ReferenceIdeal Cert.ReferenceIdeal.Gen

/-- The row numbers as the reference looks them up: 1024 added to the negative ones. -/
def wrapped (a1 : IVec S524288 32) : IVec S524288 32 :=
  select (cmpi .slt a1 (broadcastInDim S524288 ![] bcast_S_S524288 (constantI S_ 32 0#32)))
    (addi a1 (broadcastInDim S524288 ![] bcast_S_S524288 (constantI S_ 32 1024#32))) a1

/-- The row numbers as a column. -/
def column (a1 : IVec S524288 32) : IVec S524288x1 32 :=
  broadcastInDim S524288x1 ![0] bcast_S524288_S524288x1_0 (wrapped a1)

/-- Where the reference finds a row number inside the table. -/
def inside (a1 : IVec S524288 32) : IVec S524288 1 :=
  Host.reduce IntOp.andi
    (andi (cmpi .sge (column a1) (broadcastInDim S524288x1 ![] bcast_S_S524288x1 (constantI S_ 32 0#32)))
      (cmpi .sle (column a1) (broadcastInDim S524288x1 ![0, 1] bcast_S1x1_S524288x1_0_1
        (broadcastInDim S1x1 ![1] bcast_S1_S1x1_1 (constantI S1 32 1023#32)))))
    (constantI S_ 1 1#1) reducesTo_S524288x1_S524288_d1 h_S_

/-- The rows the reference takes from the table. -/
def taken (a1 : IVec S524288 32) (a2 : FVec Ideal S1024x64 .f32) : FVec Ideal S524288x64 .f32 :=
  select (broadcastInDim S524288x64 ![0] bcast_S524288_S524288x64_0 (inside a1))
    (Host.gather gather_S1024x64_S524288x1_S524288x64_1_0_n_n_0_1_164 a2 (column a1))
    (broadcastInDim S524288x64 ![] bcast_S_S524288x64 (constant S_ .f32 0x7FC00000#32))

/-- A hidden layer as the reference writes it. -/
def hidden (a : FVec Ideal S256 .f32) (x : FVec Ideal S524288x256 .f32) : FVec Ideal S524288x256 .f32 :=
  maximumf (addf x (broadcastInDim S524288x256 ![0, 1] bcast_S1x256_S524288x256_0_1 (broadcastInDim S1x256 ![1] bcast_S256_S1x256_1 a)))
    (broadcastInDim S524288x256 ![] bcast_S_S524288x256 (constant S_ .f32 0x00000000#32))

/-- The product of a hidden layer with the next weights. -/
def prod (x : FVec Ideal S524288x256 .f32) (w : FVec Ideal S256x256 .f32) : FVec Ideal S524288x256 .f32 :=
  Host.dotGeneral dot_S524288x256_S256x256_S524288x256_1_0_0_1_n_n none x w

/-- The first product: the coordinates beside the taken rows, by the first weights. -/
def first (a0 : FVec Ideal S524288x2 .f32) (e : FVec Ideal S524288x64 .f32) (a3 : FVec Ideal S66x256 .f32) : FVec Ideal S524288x256 .f32 :=
  Host.dotGeneral dot_S524288x66_S66x256_S524288x256_1_0_0_1_n_n none
    (concatenate S524288x66 1 [⟨S524288x2, a0⟩, ⟨S524288x64, e⟩] concatenates_S524288x2_S524288x64_S524288x66_d1) a3

/-- The last layer as the reference writes it. -/
def last (x : FVec Ideal S524288x256 .f32) (w : FVec Ideal S256x3 .f32) (a : FVec Ideal S3 .f32) : FVec Ideal S524288x3 .f32 :=
  Host.divf (broadcastInDim S524288x3 ![] bcast_S_S524288x3 (constant S_ .f32 0x3F800000#32))
    (addf (broadcastInDim S524288x3 ![] bcast_S_S524288x3 (constant S_ .f32 0x3F800000#32))
      (Host.exp (Host.negf (addf (Host.dotGeneral dot_S524288x256_S256x3_S524288x3_1_0_0_1_n_n none x w)
        (broadcastInDim S524288x3 ![0, 1] bcast_S1x3_S524288x3_0_1 (broadcastInDim S1x3 ![1] bcast_S3_S1x3_1 a))))))

/-- The reference's result, of its arguments. -/
def result (a0 : FVec Ideal S524288x2 .f32) (a1 : IVec S524288 32) (a2 : FVec Ideal S1024x64 .f32) (a3 : FVec Ideal S66x256 .f32)
    (a4 : FVec Ideal S256 .f32) (a5 : FVec Ideal S256x256 .f32) (a6 : FVec Ideal S256 .f32) (a7 : FVec Ideal S256x256 .f32) (a8 : FVec Ideal S256 .f32)
    (a9 : FVec Ideal S256x256 .f32) (a10 : FVec Ideal S256 .f32) (a11 : FVec Ideal S256x3 .f32) (a12 : FVec Ideal S3 .f32) :
    FVec Ideal S524288x3 .f32 :=
  last (hidden a10 (prod (hidden a8 (prod (hidden a6 (prod (hidden a4 (first a0 (taken a1 a2) a3)) a5)) a7)) a9)) a11 a12

/-- The reference ends with that result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  Cert.ReferenceIdeal.Value.run (F := Ideal) m ρ

section Take

variable (a1 : IVec S524288 32) (a2 : FVec Ideal S1024x64 .f32)

theorem wrapped_eq (h : ∀ x, (a1 x).toNat < 1024) : wrapped a1 = a1 := by
  funext x
  have hx := h x
  show Scalar.select (IntOp.cmpi .slt (a1 x) 0#32) _ (a1 x) = a1 x
  rw [ValueIdx.eq_zero_of_ne_one (b := IntOp.cmpi .slt (a1 x) 0#32) (fun e => ?_)]
  · rfl
  · rw [IntOp.cmpi_slt, BitVec.toInt_eq_toNat_of_lt (by omega), show (0#32 : BitVec 32).toInt = 0 from by decide] at e
    omega

theorem column_apply (h : ∀ x, (a1 x).toNat < 1024) (n : Fin 524288) : column a1 (ix2 n 0) = a1 (ix1 n) := by
  unfold column
  rw [wrapped_eq a1 h]
  pointwise

theorem inside_apply (h : ∀ x, (a1 x).toNat < 1024) (x : S524288.Idx) : inside a1 x = 1#1 := by
  refine Host.reduce_andi_one _ _ _ _ x rfl fun i => ?_
  unfold column
  rw [wrapped_eq a1 h]
  obtain ⟨y, hy⟩ : ∃ y, broadcastInDim S524288x1 ![0] bcast_S524288_S524288x1_0 a1 i = a1 y := ⟨_, rfl⟩
  refine IntOp.andi_eq_one.2 ⟨IntOp.cmpi_sge.2 ?_, IntOp.cmpi_sle.2 ?_⟩
  · show (0#32 : BitVec 32).toInt ≤ (broadcastInDim S524288x1 ![0] bcast_S524288_S524288x1_0 a1 i).toInt
    rw [hy]
    rw [BitVec.toInt_eq_toNat_of_lt (x := a1 y) (by have := h y; omega), show (0#32 : BitVec 32).toInt = 0 from by decide]
    omega
  · show (broadcastInDim S524288x1 ![0] bcast_S524288_S524288x1_0 a1 i).toInt ≤ (1023#32 : BitVec 32).toInt
    rw [hy]
    have := h y
    rw [BitVec.toInt_eq_toNat_of_lt (by omega), show (1023#32 : BitVec 32).toInt = 1023 from by decide]
    omega

/-- Where every row number is below 1024, the row taken at `n` is the table's row of that number. -/
theorem taken_apply (h : ∀ x, (a1 x).toNat < 1024) (n : Fin 524288) (k : Fin 64) :
    taken a1 a2 (ix2 n k) = a2 (ix2 (Fin.ofNat 1024 (a1 (ix1 n)).toNat) k) := by
  unfold taken
  show Scalar.select (inside a1 _) _ _ = _
  rw [inside_apply a1 h]
  refine Routing.gather_row _ rfl rfl rfl rfl rfl a2 (column a1) n k _ ?_ (by norm_num)
  refine (column_apply a1 h n).trans ?_
  refine BitVec.eq_of_toNat_eq ?_
  have := h (ix1 n)
  simp only [Fin.ofNat, BitVec.toNat_ofNat]
  omega

end Take

theorem hidden_apply (a : FVec Ideal S256 .f32) (x : FVec Ideal S524288x256 .f32) (n : Fin 524288) (q : Fin 256) :
    hidden a x (ix2 n q) = max (x (ix2 n q) + a (ix1 q)) 0 := by
  unfold hidden
  pointwise

theorem prod_apply (x : FVec Ideal S524288x256 .f32) (w : FVec Ideal S256x256 .f32) (n : Fin 524288) (q : Fin 256) :
    prod x w (ix2 n q) = ∑ k : Fin 256, x (ix2 n k) * w (ix2 k q) := by
  unfold prod
  pointwise

theorem first_apply (a0 : FVec Ideal S524288x2 .f32) (e : FVec Ideal S524288x64 .f32) (a3 : FVec Ideal S66x256 .f32) (n : Fin 524288)
    (q : Fin 256) : first a0 e a3 (ix2 n q) = (∑ k : Fin 2, a0 (ix2 n k) * a3 (ix2 (k.castAdd 64) q))
      + ∑ k : Fin 64, e (ix2 n k) * a3 (ix2 (k.natAdd 2) q) := by
  unfold first
  pointwise
  rfl

theorem last_apply (x : FVec Ideal S524288x256 .f32) (w : FVec Ideal S256x3 .f32) (a : FVec Ideal S3 .f32) (n : Fin 524288) (j : Fin 3) :
    last x w a (ix2 n j) = Ideal.logistic ((∑ k : Fin 256, x (ix2 n k) * w (ix2 k j)) + a (ix1 j)) := by
  unfold last
  pointwise
  rfl

/-- The reference's result at row `n`, column `j`: the network at that row. -/
theorem result_apply (a0 : FVec Ideal S524288x2 .f32) (a1 : IVec S524288 32) (a2 : FVec Ideal S1024x64 .f32) (a3 : FVec Ideal S66x256 .f32)
    (a4 : FVec Ideal S256 .f32) (a5 : FVec Ideal S256x256 .f32) (a6 : FVec Ideal S256 .f32) (a7 : FVec Ideal S256x256 .f32) (a8 : FVec Ideal S256 .f32)
    (a9 : FVec Ideal S256x256 .f32) (a10 : FVec Ideal S256 .f32) (a11 : FVec Ideal S256x3 .f32) (a12 : FVec Ideal S3 .f32)
    (h : ∀ x, (a1 x).toNat < 1024) (n : Fin 524288) (j : Fin 3) :
    result a0 a1 a2 a3 a4 a5 a6 a7 a8 a9 a10 a11 a12 (ix2 n j)
      = rowNet a0 a1 a2 a3 a4 a5 a6 a7 a8 a9 a10 a11 a12 n j := by
  unfold result rowNet net layer
  simp only [last_apply, hidden_apply, prod_apply, first_apply, taken_apply a1 a2 h]

end Cert.Proof.Ref

end
-- ==== Proof.Equation.lean ====
/-
  The equation: over the extended reals the kernel and the reference leave the same array.
-/
module

public import proofs.«01_k».proof.Proof.Segment
public import proofs.«01_k».proof.Proof.Place
public import proofs.«01_k».proof.Proof.RefVal
public import proofs.«01_k».proof.Proof.Frame

@[expose] public section

noncomputable section

namespace Cert.Proof.KI

open Cert.KernelIdeal Cert.KernelIdeal.Gen
open Idealize.ShloMosaic Idealize.SL.Sem

attribute [local instance] Cert.Pre_in_range.Gen.facts

variable (m : (ℓ : Loc nD τ sig) → Buf (Elt Ideal) ℓ) (d : Dev nD)

/-! ## The pipelines' outputs, still there at the end -/

/-- The first pipeline's output is at the end as that pipeline left it. -/
theorem late_v24 : V16 m d (Proc.devRef .tc main_v24) = V4 m d (Proc.devRef .tc main_v24) := by
  rw [s16 m d (by decide), s15 m d (by decide), s14 m d (by decide), s13 m d (by decide), s12 m d (by decide), s11 m d (by decide),
    s10 m d (by decide), s9 m d (by decide), s8 m d (by decide), s7 m d (by decide), s6 m d (by decide), s5 m d (by decide)]
/-- The second pipeline's output is at the end as that pipeline left it. -/
theorem late_v29 : V16 m d (Proc.devRef .tc main_v29) = V8 m d (Proc.devRef .tc main_v29) := by
  rw [s16 m d (by decide), s15 m d (by decide), s14 m d (by decide), s13 m d (by decide), s12 m d (by decide), s11 m d (by decide),
    s10 m d (by decide), s9 m d (by decide)]
/-- The third pipeline's output is at the end as that pipeline left it. -/
theorem late_v34 : V16 m d (Proc.devRef .tc main_v34) = V12 m d (Proc.devRef .tc main_v34) := by
  rw [s16 m d (by decide), s15 m d (by decide), s14 m d (by decide), s13 m d (by decide)]

/-- The four outputs laid side by side over `z`. -/
abbrev laid (z : S3x524288.Idx → EReal) (p0 : S3x32768.Idx → EReal) (p1 : S3x98304.Idx → EReal) (p2 p3 : S3x196608.Idx → EReal) :
    S3x524288.Idx → EReal :=
  Host.dynamicUpdateSlice (Host.dynamicUpdateSlice (Host.dynamicUpdateSlice
    (Host.dynamicUpdateSlice z p0 (![0, 0] : Fin 2 → Int) updateFits_S3x524288_S3x32768)
    p1 (![0, 32768] : Fin 2 → Int) updateFits_S3x524288_S3x98304)
    p2 (![0, 131072] : Fin 2 → Int) updateFits_S3x524288_S3x196608)
    p3 (![0, 327680] : Fin 2 → Int) updateFits_S3x524288_S3x196608

/-- Laid side by side, the outputs are a function of the row where each is that function of its rows. -/
theorem laid_at (z : S3x524288.Idx → EReal) (p0 : S3x32768.Idx → EReal) (p1 : S3x98304.Idx → EReal) (p2 p3 : S3x196608.Idx → EReal)
    (G : Fin 524288 → Fin 3 → EReal)
    (g0 : ∀ (j : Fin 3) (n : Fin 32768) (y : Fin 524288), y.val = 0 + n.val → p0 (ix2 j n) = G y j)
    (g1 : ∀ (j : Fin 3) (n : Fin 98304) (y : Fin 524288), y.val = 32768 + n.val → p1 (ix2 j n) = G y j)
    (g2 : ∀ (j : Fin 3) (n : Fin 196608) (y : Fin 524288), y.val = 131072 + n.val → p2 (ix2 j n) = G y j)
    (g3 : ∀ (j : Fin 3) (n : Fin 196608) (y : Fin 524288), y.val = 327680 + n.val → p3 (ix2 j n) = G y j)
    (j : Fin 3) (y : Fin 524288) : laid z p0 p1 p2 p3 (ix2 j y) = G y j := by
  have hy := y.isLt
  unfold laid
  by_cases h3 : 327680 ≤ y.val
  · have e : y.val = 327680 + (⟨y.val - 327680, by omega⟩ : Fin 196608).val := by show _ = 327680 + (y.val - 327680); omega
    exact (Place.inside (b := 327680) _ p3 _ _ rfl rfl (by omega) j y _ e).trans (g3 j _ y e)
  refine (Place.outside (b := 327680) _ p3 _ _ rfl rfl (by omega) j y (by omega)).trans ?_
  by_cases h2 : 131072 ≤ y.val
  · have e : y.val = 131072 + (⟨y.val - 131072, by omega⟩ : Fin 196608).val := by show _ = 131072 + (y.val - 131072); omega
    exact (Place.inside (b := 131072) _ p2 _ _ rfl rfl (by omega) j y _ e).trans (g2 j _ y e)
  refine (Place.outside (b := 131072) _ p2 _ _ rfl rfl (by omega) j y (by omega)).trans ?_
  by_cases h1 : 32768 ≤ y.val
  · have e : y.val = 32768 + (⟨y.val - 32768, by omega⟩ : Fin 98304).val := by show _ = 32768 + (y.val - 32768); omega
    exact (Place.inside (b := 32768) _ p1 _ _ rfl rfl (by omega) j y _ e).trans (g1 j _ y e)
  refine (Place.outside (b := 32768) _ p1 _ _ rfl rfl (by omega) j y (by omega)).trans ?_
  have e : y.val = 0 + (⟨y.val, by omega⟩ : Fin 32768).val := (Nat.zero_add _).symm
  exact (Place.inside (b := 0) _ p0 _ _ rfl rfl (by omega) j y _ e).trans (g0 j _ y e)

/-- The same at any starts equal to those. -/
theorem laid_of (z : S3x524288.Idx → EReal) (p0 : S3x32768.Idx → EReal) (p1 : S3x98304.Idx → EReal) (p2 p3 : S3x196608.Idx → EReal)
    {t0 t1 t2 t3 : Fin 2 → Int} (h0 : ∀ k, t0 k = (![0, 0] : Fin 2 → Int) k) (h1 : ∀ k, t1 k = (![0, 32768] : Fin 2 → Int) k)
    (h2 : ∀ k, t2 k = (![0, 131072] : Fin 2 → Int) k) (h3 : ∀ k, t3 k = (![0, 327680] : Fin 2 → Int) k) :
    Host.dynamicUpdateSlice (Host.dynamicUpdateSlice (Host.dynamicUpdateSlice
      (Host.dynamicUpdateSlice z p0 t0 updateFits_S3x524288_S3x32768) p1 t1 updateFits_S3x524288_S3x98304)
      p2 t2 updateFits_S3x524288_S3x196608) p3 t3 updateFits_S3x524288_S3x196608 = laid z p0 p1 p2 p3 := by
  obtain rfl := funext h0
  obtain rfl := funext h1
  obtain rfl := funext h2
  obtain rfl := funext h3
  rfl

/-- A start read from a constant. -/
theorem start_of {e : S_.Idx → BitVec 32} {b : BitVec 32} (h : e = constantI S_ 32 b) (v : Int) (hv : b.toInt = v) :
    (e (Shape.Idx.first h_S_)).toInt = v := by
  subst h
  exact hv

/-! The constants, when each block is written. -/

theorem c_1 (W : Valuation τ sig (Elt Ideal)) : (StableHlo.upto h8 W 4 (Proc.devRef .tc main_c_1) : S_.Idx → BitVec 32) = constantI S_ 32 0#32 := by
  after_reads_simp
theorem c_2 (W : Valuation τ sig (Elt Ideal)) : (StableHlo.upto h8 W 4 (Proc.devRef .tc main_c_2) : S_.Idx → BitVec 32) = constantI S_ 32 0#32 := by
  after_reads_simp
theorem c_3 (W : Valuation τ sig (Elt Ideal)) : (StableHlo.upto h8 W 7 (Proc.devRef .tc main_c_3) : S_.Idx → BitVec 32) = constantI S_ 32 0#32 := by
  after_reads_simp
theorem c_4 (W : Valuation τ sig (Elt Ideal)) : (StableHlo.upto h8 W 7 (Proc.devRef .tc main_c_4) : S_.Idx → BitVec 32) = constantI S_ 32 32768#32 := by
  after_reads_simp
theorem c_5 (W : Valuation τ sig (Elt Ideal)) : (StableHlo.upto h8 W 10 (Proc.devRef .tc main_c_5) : S_.Idx → BitVec 32) = constantI S_ 32 0#32 := by
  after_reads_simp
theorem c_6 (W : Valuation τ sig (Elt Ideal)) : (StableHlo.upto h8 W 10 (Proc.devRef .tc main_c_6) : S_.Idx → BitVec 32) = constantI S_ 32 131072#32 := by
  after_reads_simp
theorem c_7 (W : Valuation τ sig (Elt Ideal)) : (StableHlo.upto h8 W 13 (Proc.devRef .tc main_c_7) : S_.Idx → BitVec 32) = constantI S_ 32 0#32 := by
  after_reads_simp
theorem c_8 (W : Valuation τ sig (Elt Ideal)) : (StableHlo.upto h8 W 13 (Proc.devRef .tc main_c_8) : S_.Idx → BitVec 32) = constantI S_ 32 327680#32 := by
  after_reads_simp

/-- The result is the four outputs side by side, transposed. -/
theorem v17_v45 : ∃ z : S3x524288.Idx → EReal, V17 m d (Proc.devRef .tc main_v45)
    = transpose S524288x3 [1, 0] (laid z (V16 m d (Proc.devRef .tc main_v24)) (V16 m d (Proc.devRef .tc main_v29))
        (V16 m d (Proc.devRef .tc main_v34)) (V16 m d (Proc.devRef .tc main_v39))) transposes_S3x524288_S524288x3_1_0 := by
  refine ⟨broadcastInDim S3x524288 ![] bcast_S_S3x524288 (constant (F := Ideal) S_ .f32 0x00000000#32 : S_.Idx → EReal), ?_⟩
  unfold V17
  after_reads_simp
  refine congrArg (fun x => transpose S524288x3 [1, 0] x transposes_S3x524288_S524288x3_1_0) (laid_of _ _ _ _ _ ?_ ?_ ?_ ?_)
  · intro k
    match k with
    | 0 => exact start_of (c_1 _) _ (by decide)
    | 1 => exact start_of (c_2 _) _ (by decide)
  · intro k
    match k with
    | 0 => exact start_of (c_3 _) _ (by decide)
    | 1 => exact start_of (c_4 _) _ (by decide)
  · intro k
    match k with
    | 0 => exact start_of (c_5 _) _ (by decide)
    | 1 => exact start_of (c_6 _) _ (by decide)
  · intro k
    match k with
    | 0 => exact start_of (c_7 _) _ (by decide)
    | 1 => exact start_of (c_8 _) _ (by decide)

/-- The kernel's result at row `n`: the network at row `n`. -/
theorem v17_at_row (n : Fin 524288) (j : Fin 3) : V17 m d (Proc.devRef .tc main_v45) (ix2 n j) = netAt m d n j := by
  obtain ⟨z, e⟩ := v17_v45 m d
  rw [e, late_v24, late_v29, late_v34]
  refine Eq.trans ?_ (laid_at z _ _ _ _ (netAt m d) (o_v24 m d) (o_v29 m d) (o_v34 m d) (o_v39 m d) j n)
  pointwise

end Cert.Proof.KI

namespace Cert.Proof

open Idealize.ShloMosaic Idealize.SL.Sem

attribute [local instance] Cert.Pre_in_range.Gen.facts

/-- Arrays over rows and columns equal at each are equal. -/
theorem ext_rows {f g : (⟨2, ![524288, 3]⟩ : Shape).Idx → EReal} (h : ∀ n j, f (ix2 n j) = g (ix2 n j)) : f = g := by
  funext i
  have e : i = ix2 (i 0) (i 1) := by
    funext a
    match a with
    | 0 => rfl
    | 1 => rfl
  rw [e]
  exact h _ _

/-- The reference's result, of arguments whose row numbers are in range, is the kernel's. -/
theorem ref_eq (m : (ℓ : Loc Cert.KernelIdeal.nD Cert.KernelIdeal.τ Cert.KernelIdeal.sig) → Buf (Elt Ideal) ℓ) (d : Dev Cert.KernelIdeal.nD)
    (h : ∀ x, (KI.x1 m d x).toNat < 1024) :
    Ref.result (KI.x0 m d) (KI.x1 m d) (KI.x2 m d) (KI.x3 m d) (KI.x4 m d) (KI.x5 m d) (KI.x6 m d) (KI.x7 m d) (KI.x8 m d) (KI.x9 m d)
      (KI.x10 m d) (KI.x11 m d) (KI.x12 m d) = KI.V17 m d (Proc.devRef .tc Cert.KernelIdeal.main_v45) :=
  ext_rows fun n j => (Ref.result_apply _ _ _ _ _ _ _ _ _ _ _ _ _ h n j).trans (KI.v17_at_row m d n j).symm

/-- `Cert.algebraic_KernelIdeal_ReferenceIdeal`: the kernel and the reference, of equal arguments with row numbers in
    range, end with equal results. -/
theorem algebraic : Cert.algebraic_KernelIdeal_ReferenceIdeal (hKernelIdeal := Cert.KernelIdeal.Gen.facts)
    (hReferenceIdeal := Cert.ReferenceIdeal.Gen.facts) (hPre_in_range := Cert.Pre_in_range.Gen.facts) := fun m g m' g' hp ha => by
  refine ⟨fun c => KI.V17 m c (Proc.devRef .tc Cert.KernelIdeal.main_v45), ?_, ?_⟩
  · exact (θ_run _ _ _).mono (fun r hr c => ⟨hr.1 c _ (Pipeline.devRef_mem_ucRefs (b := Cert.KernelIdeal.main_v45) rfl),
      KI.same_of_run m c r.2.mem (hr.1 c)⟩) (KI.run_main m (KI.ok_pre m hp) g)
  · refine (θ_run _ _ _).mono (fun r hr c => ⟨(hr c).1.trans ?_, (hr c).2⟩) (Ref.run m' g')
    obtain ⟨a0, a1, a2, a3, a4, a5, a6, a7, a8, a9, a10, a11, a12⟩ := ha c
    rw [a0, a1, a2, a3, a4, a5, a6, a7, a8, a9, a10, a11, a12]
    exact ref_eq m c fun x => row_lt _ _ _ _ _ _ _ _ _ _ _ _ _ (hp c) x

end Cert.Proof

end
-- ==== Proof.lean ====
module

public import proofs.«01_k».proof.Defs
public import proofs.«01_k».proof.Proof.Frame
public import proofs.«01_k».proof.Proof.KF.Frame
public import proofs.«01_k».proof.Proof.Equation
public import proofs.«01_k».proof.Proof.Gen.ReferenceIdeal
public import proofs.«01_k».proof.Proof.Gen.ReferenceIdeal.Run

@[expose] public section

noncomputable section

namespace Cert.Proof

open Idealize.ShloMosaic Idealize.SL.Sem

/-- `Cert.quiescent_ReferenceIdeal`: the reference's run, read at its arguments; it has no counters. -/
theorem frame_ref : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩) (Cert.ReferenceIdeal.Value.run (F := Ideal) m g)

/-- The certificate: the frames, the idealization, and the equation. -/
theorem claim : Cert.Claim :=
  ⟨Cert.Kernel.Gen.facts, Cert.KernelIdeal.Gen.facts, Cert.ReferenceIdeal.Gen.facts, Cert.Pre_in_range.Gen.facts,
    KF.frame, KI.frame, frame_ref, (fun m g _ => frame_ref m g trivial), trivial, algebraic⟩

end Cert.Proof

end
